-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![128, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x128 : Shape := ⟨2, ![512, 128]⟩
abbrev S2048x2 : Shape := ⟨2, ![2048, 2]⟩
abbrev S8x512x1024 : Shape := ⟨3, ![8, 512, 1024]⟩
abbrev S_ : Shape := ⟨0, ![]⟩

class Facts : Prop where
  bcast_S_S2048x512 : S_.BroadcastsInDim S2048x512 (![] : Fin 0 → Fin S2048x512.rank)
  bcast_S_S512x128 : S_.BroadcastsInDim S512x128 (![] : Fin 0 → Fin S512x128.rank)
  bcast_S_S2048x2 : S_.BroadcastsInDim S2048x2 (![] : Fin 0 → Fin S2048x2.rank)

variable [Facts]

def fn {F : FTy → Type} [FloatOps F] (main_arg0 : FVec F S2048x512 .f32) (main_arg1 : FVec F S512x128 .f32) (main_arg2 : IVec S2048x2 32) (main_arg3 : FVec F S8x512x1024 .f32) : IVec S2048x512 1 × IVec S512x128 1 × IVec S2048x2 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S512x128 .f32 := Host.absf main_arg1
  let main_cst_0 : FVec F S_ .f32 := constant S_ .f32 0x7F800000#32
  let main_v4 : FVec F S512x128 .f32 := broadcastInDim S512x128 ![] bcast_S_S512x128 main_cst_0
  let main_v5 : IVec S512x128 1 := cmpf .olt main_v3 main_v4
  let main_c : IVec S_ 32 := constantI S_ 32 0#32
  let main_v6 : IVec S2048x2 32 := broadcastInDim S2048x2 ![] bcast_S_S2048x2 main_c
  let main_v7 : IVec S2048x2 1 := cmpi .sge main_arg2 main_v6
  let main_c_1 : IVec S_ 32 := constantI S_ 32 128#32
  let main_v8 : IVec S2048x2 32 := broadcastInDim S2048x2 ![] bcast_S_S2048x2 main_c_1
  let main_v9 : IVec S2048x2 1 := cmpi .slt main_arg2 main_v8
  let main_v10 : IVec S2048x2 1 := andi main_v7 main_v9
  (main_v2, main_v5, main_v10)
-- ==== Pre_routed_ReferenceIdeal.lean ====
abbrev S2048x512 : Shape := ⟨2, ![2048, 512]⟩
abbrev S512x128 : Shape := ⟨2, ![512, 128]⟩
abbrev S2048x2 : Shape := ⟨2, ![2048, 2]⟩
abbrev S128x512x1024 : Shape := ⟨3, ![128, 512, 1024]⟩
abbrev S_ : Shape := ⟨0, ![]⟩

class Facts : Prop where
  bcast_S_S2048x512 : S_.BroadcastsInDim S2048x512 (![] : Fin 0 → Fin S2048x512.rank)
  bcast_S_S512x128 : S_.BroadcastsInDim S512x128 (![] : Fin 0 → Fin S512x128.rank)
  bcast_S_S2048x2 : S_.BroadcastsInDim S2048x2 (![] : Fin 0 → Fin S2048x2.rank)

variable [Facts]

def fn {F : FTy → Type} [FloatOps F] (main_arg0 : FVec F S2048x512 .f32) (main_arg1 : FVec F S512x128 .f32) (main_arg2 : IVec S2048x2 32) (main_arg3 : FVec F S128x512x1024 .f32) : IVec S2048x512 1 × IVec S512x128 1 × IVec S2048x2 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S512x128 .f32 := Host.absf main_arg1
  let main_cst_0 : FVec F S_ .f32 := constant S_ .f32 0x7F800000#32
  let main_v4 : FVec F S512x128 .f32 := broadcastInDim S512x128 ![] bcast_S_S512x128 main_cst_0
  let main_v5 : IVec S512x128 1 := cmpf .olt main_v3 main_v4
  let main_c : IVec S_ 32 := constantI S_ 32 0#32
  let main_v6 : IVec S2048x2 32 := broadcastInDim S2048x2 ![] bcast_S_S2048x2 main_c
  let main_v7 : IVec S2048x2 1 := cmpi .sge main_arg2 main_v6
  let main_c_1 : IVec S_ 32 := constantI S_ 32 128#32
  let main_v8 : IVec S2048x2 32 := broadcastInDim S2048x2 ![] bcast_S_S2048x2 main_c_1
  let main_v9 : IVec S2048x2 1 := cmpi .slt main_arg2 main_v8
  let main_v10 : IVec S2048x2 1 := andi main_v7 main_v9
  (main_v2, main_v5, main_v10)
-- ==== Kernel.lean ====
abbrev S2048x512 : Shape := ⟨2, ![2048, 512]⟩
abbrev S512x128 : Shape := ⟨2, ![512, 128]⟩
abbrev S2048x2 : Shape := ⟨2, ![2048, 2]⟩
abbrev S8x512x1024 : Shape := ⟨3, ![8, 512, 1024]⟩
abbrev S2048x1024 : Shape := ⟨2, ![2048, 1024]⟩
abbrev S2048x8 : Shape := ⟨2, ![2048, 8]⟩
abbrev S512x512 : Shape := ⟨2, ![512, 512]⟩
abbrev S3x512x512 : Shape := ⟨3, ![3, 512, 512]⟩
abbrev S256x512 : Shape := ⟨2, ![256, 512]⟩
abbrev S128x512 : Shape := ⟨2, ![128, 512]⟩
abbrev S3 : Shape := ⟨1, ![3]⟩
abbrev S2 : Shape := ⟨1, ![2]⟩
abbrev S6 : Shape := ⟨1, ![6]⟩
abbrev S2048x128 : Shape := ⟨2, ![2048, 128]⟩
abbrev S2048 : Shape := ⟨1, ![2048]⟩
abbrev S2048x1 : Shape := ⟨2, ![2048, 1]⟩
abbrev S512x1 : Shape := ⟨2, ![512, 1]⟩
abbrev S1x512x512 : Shape := ⟨3, ![1, 512, 512]⟩
abbrev S_ : Shape := ⟨0, ![]⟩
abbrev S1 : Shape := ⟨1, ![1]⟩

abbrev nBuf : Space → Nat
  | .hbm => 5
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x2, .i32⟩
  | .hbm, ⟨3, _⟩ => ⟨S8x512x1024, .f32⟩
  | .hbm, ⟨4, _⟩ => ⟨S2048x1024, .f32⟩
  | .local _ .vmem, ⟨0, _⟩ => ⟨S2048x512, .f32⟩
  | .local _ .vmem, ⟨1, _⟩ => ⟨S512x128, .f32⟩
  | .local _ .vmem, ⟨2, _⟩ => ⟨S2048x2, .i32⟩
  | .local _ .vmem, ⟨3, _⟩ => ⟨S8x512x1024, .f32⟩
  | .local _ .vmem, ⟨4, _⟩ => ⟨S2048x1024, .f32⟩
  | .local _ .vmem, ⟨5, _⟩ => ⟨S2048x8, .f32⟩
  | .local _ .vmem, ⟨6, _⟩ => ⟨S512x512, .f32⟩
  | .local _ .vmem, ⟨7, _⟩ => ⟨S512x512, .f32⟩
  | .local _ .vmem, ⟨8, _⟩ => ⟨S3x512x512, .f32⟩
  | .local _ .vmem, ⟨9, _⟩ => ⟨S3x512x512, .f32⟩
  | .local _ .vmem, ⟨10, _⟩ => ⟨S512x512, .f32⟩
  | .local _ .vmem, ⟨11, _⟩ => ⟨S512x512, .f32⟩
  | .local _ .vmem, ⟨12, _⟩ => ⟨S256x512, .f32⟩
  | .local _ .vmem, ⟨13, _⟩ => ⟨S256x512, .f32⟩
  | .local _ .vmem, ⟨14, _⟩ => ⟨S128x512, .f32⟩
  | .local _ .vmem, ⟨15, _⟩ => ⟨S128x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 1 61 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32 : BitVec 32 := 512#32
  let v188 : BitVec 32 := Scalar.muli v20 c512_i32
  let v189 : Index := Scalar.indexCast v188
  let c0_69 : Index := 0#32
  ![v189.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32_71 : BitVec 32 := 512#32
  let v193 : BitVec 32 := Scalar.muli v20 c512_i32_71
  let v194 : Index := Scalar.indexCast v193
  let c0_72 : Index := 0#32
  ![v194.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32_77 : BitVec 32 := 512#32
  let v202 : BitVec 32 := Scalar.muli v20 c512_i32_77
  let v203 : Index := Scalar.indexCast v202
  let c1_78 : Index := 1#32
  ![v203.toNat, 1]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32_83 : BitVec 32 := 512#32
  let v211 : BitVec 32 := Scalar.muli v20 c512_i32_83
  let v212 : Index := Scalar.indexCast v211
  let c2 : Index := 2#32
  ![v212.toNat, 2]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32_88 : BitVec 32 := 512#32
  let v220 : BitVec 32 := Scalar.muli v20 c512_i32_88
  let v221 : Index := Scalar.indexCast v220
  let c3 : Index := 3#32
  ![v221.toNat, 3]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32_93 : BitVec 32 := 512#32
  let v229 : BitVec 32 := Scalar.muli v20 c512_i32_93
  let v230 : Index := Scalar.indexCast v229
  let c4 : Index := 4#32
  ![v230.toNat, 4]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32_98 : BitVec 32 := 512#32
  let v238 : BitVec 32 := Scalar.muli v20 c512_i32_98
  let v239 : Index := Scalar.indexCast v238
  let c5 : Index := 5#32
  ![v239.toNat, 5]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32_103 : BitVec 32 := 512#32
  let v247 : BitVec 32 := Scalar.muli v20 c512_i32_103
  let v248 : Index := Scalar.indexCast v247
  let c6 : Index := 6#32
  ![v248.toNat, 6]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c512_i32_108 : BitVec 32 := 512#32
  let v256 : BitVec 32 := Scalar.muli v20 c512_i32_108
  let v257 : Index := Scalar.indexCast v256
  let c7 : Index := 7#32
  ![v257.toNat, 7]
def k0_dev1 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c1_i32_10 : BitVec 32 := 1#32
  let v26 : BitVec 32 := Scalar.subi v20 c1_i32_10
  let c4_i32_11 : BitVec 32 := 4#32
  let v27 : BitVec 32 := Scalar.addi v26 c4_i32_11
  let c4_i32_12 : BitVec 32 := 4#32
  let v28 : BitVec 32 := Scalar.remsi v27 c4_i32_12
  let v29 : BitVec 32 := Scalar.addi v25 v28
  let c1_i32_116 : BitVec 32 := 1#32
  let v269 : BitVec 32 := Scalar.muli v29 c1_i32_116
  let v270 : BitVec 32 := Scalar.addi c0_i32_117 v269
  v270.toNat
def k0_dev2 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_119 : BitVec 32 := 1#32
  let v271 : BitVec 32 := Scalar.muli v24 c1_i32_119
  let v272 : BitVec 32 := Scalar.addi c0_i32_120 v271
  v272.toNat
def k0_dev3 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.xori v19 c1_i32_13
  let c4_i32_14 : BitVec 32 := 4#32
  let v31 : BitVec 32 := Scalar.muli v30 c4_i32_14
  let c4_i32_5 : BitVec 32 := 4#32
  let v20 : BitVec 32 := Scalar.remsi v2 c4_i32_5
  let v32 : BitVec 32 := Scalar.addi v31 v20
  let c1_i32_122 : BitVec 32 := 1#32
  let v273 : BitVec 32 := Scalar.muli v32 c1_i32_122
  let v274 : BitVec 32 := Scalar.addi c0_i32_123 v273
  v274.toNat
def k0_dev4 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v33 : BitVec 32 := Scalar.xori v19 c2_i32
  let c4_i32_15 : BitVec 32 := 4#32
  let v34 : BitVec 32 := Scalar.muli v33 c4_i32_15
  let c4_i32_5 : BitVec 32 := 4#32
  let v20 : BitVec 32 := Scalar.remsi v2 c4_i32_5
  let v35 : BitVec 32 := Scalar.addi v34 v20
  let c1_i32_125 : BitVec 32 := 1#32
  let v275 : BitVec 32 := Scalar.muli v35 c1_i32_125
  let v276 : BitVec 32 := Scalar.addi c0_i32_126 v275
  v276.toNat
def k0_dev5 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_131 : BitVec 32 := 1#32
  let v277 : BitVec 32 := Scalar.muli v24 c1_i32_131
  let v278 : BitVec 32 := Scalar.addi c0_i32_132 v277
  v278.toNat
def k0_dev6 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c1_i32_10 : BitVec 32 := 1#32
  let v26 : BitVec 32 := Scalar.subi v20 c1_i32_10
  let c4_i32_11 : BitVec 32 := 4#32
  let v27 : BitVec 32 := Scalar.addi v26 c4_i32_11
  let c4_i32_12 : BitVec 32 := 4#32
  let v28 : BitVec 32 := Scalar.remsi v27 c4_i32_12
  let v29 : BitVec 32 := Scalar.addi v25 v28
  let c1_i32_190 : BitVec 32 := 1#32
  let v365 : BitVec 32 := Scalar.muli v29 c1_i32_190
  let v366 : BitVec 32 := Scalar.addi c0_i32_191 v365
  v366.toNat
def k0_off10 (d0 : Dev nD) (c0_i32_194 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v373 : BitVec 32 := Scalar.subi v20 c0_i32_194
  let c1_i32_195 : BitVec 32 := 1#32
  let v374 : BitVec 32 := Scalar.subi v373 c1_i32_195
  let c4_i32_196 : BitVec 32 := 4#32
  let v375 : BitVec 32 := Scalar.addi v374 c4_i32_196
  let c4_i32_197 : BitVec 32 := 4#32
  let v376 : BitVec 32 := Scalar.remsi v375 c4_i32_197
  let c512_i32_198 : BitVec 32 := 512#32
  let v377 : BitVec 32 := Scalar.muli v376 c512_i32_198
  let v378 : Index := Scalar.indexCast v377
  let c0_199 : Index := 0#32
  ![v378.toNat, 0]
def k0_off11 (d0 : Dev nD) (c0_i32_194 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v373 : BitVec 32 := Scalar.subi v20 c0_i32_194
  let c1_i32_195 : BitVec 32 := 1#32
  let v374 : BitVec 32 := Scalar.subi v373 c1_i32_195
  let c4_i32_196 : BitVec 32 := 4#32
  let v375 : BitVec 32 := Scalar.addi v374 c4_i32_196
  let c4_i32_197 : BitVec 32 := 4#32
  let v376 : BitVec 32 := Scalar.remsi v375 c4_i32_197
  let c512_i32_201 : BitVec 32 := 512#32
  let v382 : BitVec 32 := Scalar.muli v376 c512_i32_201
  let v383 : Index := Scalar.indexCast v382
  let c0_202 : Index := 0#32
  ![v383.toNat, 0]
def k0_off12 (d0 : Dev nD) (c0_i32_194 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v373 : BitVec 32 := Scalar.subi v20 c0_i32_194
  let c1_i32_195 : BitVec 32 := 1#32
  let v374 : BitVec 32 := Scalar.subi v373 c1_i32_195
  let c4_i32_196 : BitVec 32 := 4#32
  let v375 : BitVec 32 := Scalar.addi v374 c4_i32_196
  let c4_i32_197 : BitVec 32 := 4#32
  let v376 : BitVec 32 := Scalar.remsi v375 c4_i32_197
  let c512_i32_207 : BitVec 32 := 512#32
  let v391 : BitVec 32 := Scalar.muli v376 c512_i32_207
  let v392 : Index := Scalar.indexCast v391
  let c1_208 : Index := 1#32
  ![v392.toNat, 1]
def k0_off13 (d0 : Dev nD) (c0_i32_194 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v373 : BitVec 32 := Scalar.subi v20 c0_i32_194
  let c1_i32_195 : BitVec 32 := 1#32
  let v374 : BitVec 32 := Scalar.subi v373 c1_i32_195
  let c4_i32_196 : BitVec 32 := 4#32
  let v375 : BitVec 32 := Scalar.addi v374 c4_i32_196
  let c4_i32_197 : BitVec 32 := 4#32
  let v376 : BitVec 32 := Scalar.remsi v375 c4_i32_197
  let c512_i32_213 : BitVec 32 := 512#32
  let v400 : BitVec 32 := Scalar.muli v376 c512_i32_213
  let v401 : Index := Scalar.indexCast v400
  let c2_214 : Index := 2#32
  ![v401.toNat, 2]
def k0_off14 (d0 : Dev nD) (c0_i32_194 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v373 : BitVec 32 := Scalar.subi v20 c0_i32_194
  let c1_i32_195 : BitVec 32 := 1#32
  let v374 : BitVec 32 := Scalar.subi v373 c1_i32_195
  let c4_i32_196 : BitVec 32 := 4#32
  let v375 : BitVec 32 := Scalar.addi v374 c4_i32_196
  let c4_i32_197 : BitVec 32 := 4#32
  let v376 : BitVec 32 := Scalar.remsi v375 c4_i32_197
  let c512_i32_219 : BitVec 32 := 512#32
  let v409 : BitVec 32 := Scalar.muli v376 c512_i32_219
  let v410 : Index := Scalar.indexCast v409
  let c3_220 : Index := 3#32
  ![v410.toNat, 3]
def k0_off15 (d0 : Dev nD) (c0_i32_194 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v373 : BitVec 32 := Scalar.subi v20 c0_i32_194
  let c1_i32_195 : BitVec 32 := 1#32
  let v374 : BitVec 32 := Scalar.subi v373 c1_i32_195
  let c4_i32_196 : BitVec 32 := 4#32
  let v375 : BitVec 32 := Scalar.addi v374 c4_i32_196
  let c4_i32_197 : BitVec 32 := 4#32
  let v376 : BitVec 32 := Scalar.remsi v375 c4_i32_197
  let c512_i32_225 : BitVec 32 := 512#32
  let v418 : BitVec 32 := Scalar.muli v376 c512_i32_225
  let v419 : Index := Scalar.indexCast v418
  let c4_226 : Index := 4#32
  ![v419.toNat, 4]
def k0_off16 (d0 : Dev nD) (c0_i32_194 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v373 : BitVec 32 := Scalar.subi v20 c0_i32_194
  let c1_i32_195 : BitVec 32 := 1#32
  let v374 : BitVec 32 := Scalar.subi v373 c1_i32_195
  let c4_i32_196 : BitVec 32 := 4#32
  let v375 : BitVec 32 := Scalar.addi v374 c4_i32_196
  let c4_i32_197 : BitVec 32 := 4#32
  let v376 : BitVec 32 := Scalar.remsi v375 c4_i32_197
  let c512_i32_231 : BitVec 32 := 512#32
  let v427 : BitVec 32 := Scalar.muli v376 c512_i32_231
  let v428 : Index := Scalar.indexCast v427
  let c5_232 : Index := 5#32
  ![v428.toNat, 5]
def k0_off17 (d0 : Dev nD) (c0_i32_194 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v373 : BitVec 32 := Scalar.subi v20 c0_i32_194
  let c1_i32_195 : BitVec 32 := 1#32
  let v374 : BitVec 32 := Scalar.subi v373 c1_i32_195
  let c4_i32_196 : BitVec 32 := 4#32
  let v375 : BitVec 32 := Scalar.addi v374 c4_i32_196
  let c4_i32_197 : BitVec 32 := 4#32
  let v376 : BitVec 32 := Scalar.remsi v375 c4_i32_197
  let c512_i32_237 : BitVec 32 := 512#32
  let v436 : BitVec 32 := Scalar.muli v376 c512_i32_237
  let v437 : Index := Scalar.indexCast v436
  let c6_238 : Index := 6#32
  ![v437.toNat, 6]
def k0_off18 (d0 : Dev nD) (c0_i32_194 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v373 : BitVec 32 := Scalar.subi v20 c0_i32_194
  let c1_i32_195 : BitVec 32 := 1#32
  let v374 : BitVec 32 := Scalar.subi v373 c1_i32_195
  let c4_i32_196 : BitVec 32 := 4#32
  let v375 : BitVec 32 := Scalar.addi v374 c4_i32_196
  let c4_i32_197 : BitVec 32 := 4#32
  let v376 : BitVec 32 := Scalar.remsi v375 c4_i32_197
  let c512_i32_243 : BitVec 32 := 512#32
  let v445 : BitVec 32 := Scalar.muli v376 c512_i32_243
  let v446 : Index := Scalar.indexCast v445
  let c7_244 : Index := 7#32
  ![v446.toNat, 7]
def k0_off19 (d0 : Dev nD) (c0_i32_249 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v454 : BitVec 32 := Scalar.addi v20 c0_i32_249
  let c1_i32_250 : BitVec 32 := 1#32
  let v455 : BitVec 32 := Scalar.addi v454 c1_i32_250
  let c4_i32_251 : BitVec 32 := 4#32
  let v456 : BitVec 32 := Scalar.remsi v455 c4_i32_251
  let c512_i32_252 : BitVec 32 := 512#32
  let v457 : BitVec 32 := Scalar.muli v456 c512_i32_252
  let v458 : Index := Scalar.indexCast v457
  let c0_253 : Index := 0#32
  ![v458.toNat, 0]
def k0_off20 (d0 : Dev nD) (c0_i32_249 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v454 : BitVec 32 := Scalar.addi v20 c0_i32_249
  let c1_i32_250 : BitVec 32 := 1#32
  let v455 : BitVec 32 := Scalar.addi v454 c1_i32_250
  let c4_i32_251 : BitVec 32 := 4#32
  let v456 : BitVec 32 := Scalar.remsi v455 c4_i32_251
  let c512_i32_255 : BitVec 32 := 512#32
  let v462 : BitVec 32 := Scalar.muli v456 c512_i32_255
  let v463 : Index := Scalar.indexCast v462
  let c0_256 : Index := 0#32
  ![v463.toNat, 0]
def k0_off21 (d0 : Dev nD) (c0_i32_249 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v454 : BitVec 32 := Scalar.addi v20 c0_i32_249
  let c1_i32_250 : BitVec 32 := 1#32
  let v455 : BitVec 32 := Scalar.addi v454 c1_i32_250
  let c4_i32_251 : BitVec 32 := 4#32
  let v456 : BitVec 32 := Scalar.remsi v455 c4_i32_251
  let c512_i32_261 : BitVec 32 := 512#32
  let v471 : BitVec 32 := Scalar.muli v456 c512_i32_261
  let v472 : Index := Scalar.indexCast v471
  let c1_262 : Index := 1#32
  ![v472.toNat, 1]
def k0_off22 (d0 : Dev nD) (c0_i32_249 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v454 : BitVec 32 := Scalar.addi v20 c0_i32_249
  let c1_i32_250 : BitVec 32 := 1#32
  let v455 : BitVec 32 := Scalar.addi v454 c1_i32_250
  let c4_i32_251 : BitVec 32 := 4#32
  let v456 : BitVec 32 := Scalar.remsi v455 c4_i32_251
  let c512_i32_267 : BitVec 32 := 512#32
  let v480 : BitVec 32 := Scalar.muli v456 c512_i32_267
  let v481 : Index := Scalar.indexCast v480
  let c2_268 : Index := 2#32
  ![v481.toNat, 2]
def k0_off23 (d0 : Dev nD) (c0_i32_249 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v454 : BitVec 32 := Scalar.addi v20 c0_i32_249
  let c1_i32_250 : BitVec 32 := 1#32
  let v455 : BitVec 32 := Scalar.addi v454 c1_i32_250
  let c4_i32_251 : BitVec 32 := 4#32
  let v456 : BitVec 32 := Scalar.remsi v455 c4_i32_251
  let c512_i32_273 : BitVec 32 := 512#32
  let v489 : BitVec 32 := Scalar.muli v456 c512_i32_273
  let v490 : Index := Scalar.indexCast v489
  let c3_274 : Index := 3#32
  ![v490.toNat, 3]
def k0_off24 (d0 : Dev nD) (c0_i32_249 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v454 : BitVec 32 := Scalar.addi v20 c0_i32_249
  let c1_i32_250 : BitVec 32 := 1#32
  let v455 : BitVec 32 := Scalar.addi v454 c1_i32_250
  let c4_i32_251 : BitVec 32 := 4#32
  let v456 : BitVec 32 := Scalar.remsi v455 c4_i32_251
  let c512_i32_279 : BitVec 32 := 512#32
  let v498 : BitVec 32 := Scalar.muli v456 c512_i32_279
  let v499 : Index := Scalar.indexCast v498
  let c4_280 : Index := 4#32
  ![v499.toNat, 4]
def k0_off25 (d0 : Dev nD) (c0_i32_249 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v454 : BitVec 32 := Scalar.addi v20 c0_i32_249
  let c1_i32_250 : BitVec 32 := 1#32
  let v455 : BitVec 32 := Scalar.addi v454 c1_i32_250
  let c4_i32_251 : BitVec 32 := 4#32
  let v456 : BitVec 32 := Scalar.remsi v455 c4_i32_251
  let c512_i32_285 : BitVec 32 := 512#32
  let v507 : BitVec 32 := Scalar.muli v456 c512_i32_285
  let v508 : Index := Scalar.indexCast v507
  let c5_286 : Index := 5#32
  ![v508.toNat, 5]
def k0_off26 (d0 : Dev nD) (c0_i32_249 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v454 : BitVec 32 := Scalar.addi v20 c0_i32_249
  let c1_i32_250 : BitVec 32 := 1#32
  let v455 : BitVec 32 := Scalar.addi v454 c1_i32_250
  let c4_i32_251 : BitVec 32 := 4#32
  let v456 : BitVec 32 := Scalar.remsi v455 c4_i32_251
  let c512_i32_291 : BitVec 32 := 512#32
  let v516 : BitVec 32 := Scalar.muli v456 c512_i32_291
  let v517 : Index := Scalar.indexCast v516
  let c6_292 : Index := 6#32
  ![v517.toNat, 6]
def k0_off27 (d0 : Dev nD) (c0_i32_249 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v454 : BitVec 32 := Scalar.addi v20 c0_i32_249
  let c1_i32_250 : BitVec 32 := 1#32
  let v455 : BitVec 32 := Scalar.addi v454 c1_i32_250
  let c4_i32_251 : BitVec 32 := 4#32
  let v456 : BitVec 32 := Scalar.remsi v455 c4_i32_251
  let c512_i32_297 : BitVec 32 := 512#32
  let v525 : BitVec 32 := Scalar.muli v456 c512_i32_297
  let v526 : Index := Scalar.indexCast v525
  let c7_298 : Index := 7#32
  ![v526.toNat, 7]
def k0_dev7 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_345 : BitVec 32 := 1#32
  let v566 : BitVec 32 := Scalar.muli v24 c1_i32_345
  let v567 : BitVec 32 := Scalar.addi c0_i32_346 v566
  v567.toNat
def k0_dev8 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c1_i32_10 : BitVec 32 := 1#32
  let v26 : BitVec 32 := Scalar.subi v20 c1_i32_10
  let c4_i32_11 : BitVec 32 := 4#32
  let v27 : BitVec 32 := Scalar.addi v26 c4_i32_11
  let c4_i32_12 : BitVec 32 := 4#32
  let v28 : BitVec 32 := Scalar.remsi v27 c4_i32_12
  let v29 : BitVec 32 := Scalar.addi v25 v28
  let c1_i32_355 : BitVec 32 := 1#32
  let v576 : BitVec 32 := Scalar.muli v29 c1_i32_355
  let v577 : BitVec 32 := Scalar.addi c0_i32_356 v576
  v577.toNat
def k0_dev9 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_524 : BitVec 32 := 1#32
  let v787 : BitVec 32 := Scalar.muli v24 c1_i32_524
  let v788 : BitVec 32 := Scalar.addi c0_i32_525 v787
  v788.toNat
def k0_dev10 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c1_i32_10 : BitVec 32 := 1#32
  let v26 : BitVec 32 := Scalar.subi v20 c1_i32_10
  let c4_i32_11 : BitVec 32 := 4#32
  let v27 : BitVec 32 := Scalar.addi v26 c4_i32_11
  let c4_i32_12 : BitVec 32 := 4#32
  let v28 : BitVec 32 := Scalar.remsi v27 c4_i32_12
  let v29 : BitVec 32 := Scalar.addi v25 v28
  let c1_i32_534 : BitVec 32 := 1#32
  let v797 : BitVec 32 := Scalar.muli v29 c1_i32_534
  let v798 : BitVec 32 := Scalar.addi c0_i32_535 v797
  v798.toNat
def k0_off28 (d0 : Dev nD) : Fin 2 → Nat :=
  let c1_i32_24 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_16 : BitVec 32 := 2#32
  let v36 : BitVec 32 := Scalar.remsi v19 c2_i32_16
  let v55 : BitVec 32 := Scalar.subi c1_i32_24 v36
  let c256_i32_25 : BitVec 32 := 256#32
  let v56 : BitVec 32 := Scalar.muli v55 c256_i32_25
  let c0_i32_718 : BitVec 32 := 0#32
  ![v56.toNat, 0]
def k0_dev11 (d0 : Dev nD) : Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.xori v19 c1_i32_13
  let c4_i32_14 : BitVec 32 := 4#32
  let v31 : BitVec 32 := Scalar.muli v30 c4_i32_14
  let c4_i32_5 : BitVec 32 := 4#32
  let v20 : BitVec 32 := Scalar.remsi v2 c4_i32_5
  let v32 : BitVec 32 := Scalar.addi v31 v20
  let c1_i32_716 : BitVec 32 := 1#32
  let v1023 : BitVec 32 := Scalar.muli v32 c1_i32_716
  let v1024 : BitVec 32 := Scalar.addi c0_i32_717 v1023
  v1024.toNat
def k0_dev12 (d0 : Dev nD) : Nat :=
  let c0_i32_722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.xori v19 c1_i32_13
  let c4_i32_14 : BitVec 32 := 4#32
  let v31 : BitVec 32 := Scalar.muli v30 c4_i32_14
  let c4_i32_5 : BitVec 32 := 4#32
  let v20 : BitVec 32 := Scalar.remsi v2 c4_i32_5
  let v32 : BitVec 32 := Scalar.addi v31 v20
  let c1_i32_721 : BitVec 32 := 1#32
  let v1030 : BitVec 32 := Scalar.muli v32 c1_i32_721
  let v1031 : BitVec 32 := Scalar.addi c0_i32_722 v1030
  v1031.toNat
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_16 : BitVec 32 := 2#32
  let v36 : BitVec 32 := Scalar.remsi v19 c2_i32_16
  let c256_i32 : BitVec 32 := 256#32
  let v54 : BitVec 32 := Scalar.muli v36 c256_i32
  let v1045 : Index := Scalar.indexCast v54
  let c0_733 : Index := 0#32
  ![v1045.toNat, 0]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_16 : BitVec 32 := 2#32
  let v36 : BitVec 32 := Scalar.remsi v19 c2_i32_16
  let c256_i32 : BitVec 32 := 256#32
  let v54 : BitVec 32 := Scalar.muli v36 c256_i32
  let c1_i32_26 : BitVec 32 := 1#32
  let c0_i32_18 : BitVec 32 := 0#32
  let v38 : BitVec 1 := Scalar.cmpi .sgt v19 c0_i32_18
  let v39 : BitVec 32 := Scalar.extui v38
  let c0_i32_19 : BitVec 32 := 0#32
  let v40 : BitVec 1 := Scalar.cmpi .slt v19 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v19 c2_i32_17
  let c0_i32_22 : BitVec 32 := 0#32
  let v50 : BitVec 1 := Scalar.cmpi .ne v49 c0_i32_22
  let v51 : BitVec 1 := Scalar.andi v48 v50
  let v37 : BitVec 32 := Scalar.divsi v19 c2_i32_17
  let c1_i32_23 : BitVec 32 := 1#32
  let v52 : BitVec 32 := Scalar.subi v37 c1_i32_23
  let v53 : BitVec 32 := Scalar.select v51 v52 v37
  let v59 : BitVec 32 := Scalar.subi c1_i32_26 v53
  let c128_i32_27 : BitVec 32 := 128#32
  let v60 : BitVec 32 := Scalar.muli v59 c128_i32_27
  let v61 : BitVec 32 := Scalar.addi v54 v60
  let c0_i32_741 : BitVec 32 := 0#32
  ![v61.toNat, 0]
def k0_dev13 (d0 : Dev nD) : Nat :=
  let c0_i32_740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v33 : BitVec 32 := Scalar.xori v19 c2_i32
  let c4_i32_15 : BitVec 32 := 4#32
  let v34 : BitVec 32 := Scalar.muli v33 c4_i32_15
  let c4_i32_5 : BitVec 32 := 4#32
  let v20 : BitVec 32 := Scalar.remsi v2 c4_i32_5
  let v35 : BitVec 32 := Scalar.addi v34 v20
  let c1_i32_739 : BitVec 32 := 1#32
  let v1053 : BitVec 32 := Scalar.muli v35 c1_i32_739
  let v1054 : BitVec 32 := Scalar.addi c0_i32_740 v1053
  v1054.toNat
def k0_dev14 (d0 : Dev nD) : Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v33 : BitVec 32 := Scalar.xori v19 c2_i32
  let c4_i32_15 : BitVec 32 := 4#32
  let v34 : BitVec 32 := Scalar.muli v33 c4_i32_15
  let c4_i32_5 : BitVec 32 := 4#32
  let v20 : BitVec 32 := Scalar.remsi v2 c4_i32_5
  let v35 : BitVec 32 := Scalar.addi v34 v20
  let c1_i32_757 : BitVec 32 := 1#32
  let v1076 : BitVec 32 := Scalar.muli v35 c1_i32_757
  let v1077 : BitVec 32 := Scalar.addi c0_i32_758 v1076
  v1077.toNat
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_16 : BitVec 32 := 2#32
  let v36 : BitVec 32 := Scalar.remsi v19 c2_i32_16
  let c256_i32 : BitVec 32 := 256#32
  let v54 : BitVec 32 := Scalar.muli v36 c256_i32
  let c0_i32_18 : BitVec 32 := 0#32
  let v38 : BitVec 1 := Scalar.cmpi .sgt v19 c0_i32_18
  let v39 : BitVec 32 := Scalar.extui v38
  let c0_i32_19 : BitVec 32 := 0#32
  let v40 : BitVec 1 := Scalar.cmpi .slt v19 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v19 c2_i32_17
  let c0_i32_22 : BitVec 32 := 0#32
  let v50 : BitVec 1 := Scalar.cmpi .ne v49 c0_i32_22
  let v51 : BitVec 1 := Scalar.andi v48 v50
  let v37 : BitVec 32 := Scalar.divsi v19 c2_i32_17
  let c1_i32_23 : BitVec 32 := 1#32
  let v52 : BitVec 32 := Scalar.subi v37 c1_i32_23
  let v53 : BitVec 32 := Scalar.select v51 v52 v37
  let c128_i32 : BitVec 32 := 128#32
  let v57 : BitVec 32 := Scalar.muli v53 c128_i32
  let v58 : BitVec 32 := Scalar.addi v54 v57
  let v1091 : Index := Scalar.indexCast v58
  let c0_769 : Index := 0#32
  ![v1091.toNat, 0]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_699 : BitVec 32 := 1#32
  let v1008 : BitVec 32 := Scalar.addi v20 c1_i32_699
  let c4_i32_700 : BitVec 32 := 4#32
  let v1009 : BitVec 32 := Scalar.remsi v1008 c4_i32_700
  let c512_i32_772 : BitVec 32 := 512#32
  let v1095 : BitVec 32 := Scalar.muli v1009 c512_i32_772
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_16 : BitVec 32 := 2#32
  let v36 : BitVec 32 := Scalar.remsi v19 c2_i32_16
  let c256_i32 : BitVec 32 := 256#32
  let v54 : BitVec 32 := Scalar.muli v36 c256_i32
  let c0_i32_18 : BitVec 32 := 0#32
  let v38 : BitVec 1 := Scalar.cmpi .sgt v19 c0_i32_18
  let v39 : BitVec 32 := Scalar.extui v38
  let c0_i32_19 : BitVec 32 := 0#32
  let v40 : BitVec 1 := Scalar.cmpi .slt v19 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v19 c2_i32_17
  let c0_i32_22 : BitVec 32 := 0#32
  let v50 : BitVec 1 := Scalar.cmpi .ne v49 c0_i32_22
  let v51 : BitVec 1 := Scalar.andi v48 v50
  let v37 : BitVec 32 := Scalar.divsi v19 c2_i32_17
  let c1_i32_23 : BitVec 32 := 1#32
  let v52 : BitVec 32 := Scalar.subi v37 c1_i32_23
  let v53 : BitVec 32 := Scalar.select v51 v52 v37
  let c128_i32 : BitVec 32 := 128#32
  let v57 : BitVec 32 := Scalar.muli v53 c128_i32
  let v58 : BitVec 32 := Scalar.addi v54 v57
  let v1096 : BitVec 32 := Scalar.addi v1095 v58
  let v1097 : Index := Scalar.indexCast v1096
  let c0_773 : Index := 0#32
  ![v1097.toNat, 0]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_699 : BitVec 32 := 1#32
  let v1008 : BitVec 32 := Scalar.addi v20 c1_i32_699
  let c4_i32_700 : BitVec 32 := 4#32
  let v1009 : BitVec 32 := Scalar.remsi v1008 c4_i32_700
  let c512_i32_774 : BitVec 32 := 512#32
  let v1099 : BitVec 32 := Scalar.muli v1009 c512_i32_774
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_16 : BitVec 32 := 2#32
  let v36 : BitVec 32 := Scalar.remsi v19 c2_i32_16
  let c256_i32 : BitVec 32 := 256#32
  let v54 : BitVec 32 := Scalar.muli v36 c256_i32
  let c0_i32_18 : BitVec 32 := 0#32
  let v38 : BitVec 1 := Scalar.cmpi .sgt v19 c0_i32_18
  let v39 : BitVec 32 := Scalar.extui v38
  let c0_i32_19 : BitVec 32 := 0#32
  let v40 : BitVec 1 := Scalar.cmpi .slt v19 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v19 c2_i32_17
  let c0_i32_22 : BitVec 32 := 0#32
  let v50 : BitVec 1 := Scalar.cmpi .ne v49 c0_i32_22
  let v51 : BitVec 1 := Scalar.andi v48 v50
  let v37 : BitVec 32 := Scalar.divsi v19 c2_i32_17
  let c1_i32_23 : BitVec 32 := 1#32
  let v52 : BitVec 32 := Scalar.subi v37 c1_i32_23
  let v53 : BitVec 32 := Scalar.select v51 v52 v37
  let c128_i32 : BitVec 32 := 128#32
  let v57 : BitVec 32 := Scalar.muli v53 c128_i32
  let v58 : BitVec 32 := Scalar.addi v54 v57
  let v1100 : BitVec 32 := Scalar.addi v1099 v58
  let c0_i32_779 : BitVec 32 := 0#32
  ![v1100.toNat, 0]
def k0_dev15 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v33 : BitVec 32 := Scalar.xori v19 c2_i32
  let c4_i32_15 : BitVec 32 := 4#32
  let v34 : BitVec 32 := Scalar.muli v33 c4_i32_15
  let c4_i32_5 : BitVec 32 := 4#32
  let v20 : BitVec 32 := Scalar.remsi v2 c4_i32_5
  let v35 : BitVec 32 := Scalar.addi v34 v20
  let c1_i32_777 : BitVec 32 := 1#32
  let v1101 : BitVec 32 := Scalar.muli v35 c1_i32_777
  let v1102 : BitVec 32 := Scalar.addi c0_i32_778 v1101
  v1102.toNat
def k0_dev16 (d0 : Dev nD) : Nat :=
  let c0_i32_785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.xori v19 c1_i32_13
  let c4_i32_14 : BitVec 32 := 4#32
  let v31 : BitVec 32 := Scalar.muli v30 c4_i32_14
  let c4_i32_5 : BitVec 32 := 4#32
  let v20 : BitVec 32 := Scalar.remsi v2 c4_i32_5
  let v32 : BitVec 32 := Scalar.addi v31 v20
  let c1_i32_784 : BitVec 32 := 1#32
  let v1111 : BitVec 32 := Scalar.muli v32 c1_i32_784
  let v1112 : BitVec 32 := Scalar.addi c0_i32_785 v1111
  v1112.toNat
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_701 : BitVec 32 := 1#32
  let v1010 : BitVec 32 := Scalar.subi v20 c1_i32_701
  let c4_i32_702 : BitVec 32 := 4#32
  let v1011 : BitVec 32 := Scalar.addi v1010 c4_i32_702
  let c4_i32_703 : BitVec 32 := 4#32
  let v1012 : BitVec 32 := Scalar.remsi v1011 c4_i32_703
  let c512_i32_800 : BitVec 32 := 512#32
  let v1131 : BitVec 32 := Scalar.muli v1012 c512_i32_800
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_16 : BitVec 32 := 2#32
  let v36 : BitVec 32 := Scalar.remsi v19 c2_i32_16
  let c256_i32 : BitVec 32 := 256#32
  let v54 : BitVec 32 := Scalar.muli v36 c256_i32
  let c0_i32_18 : BitVec 32 := 0#32
  let v38 : BitVec 1 := Scalar.cmpi .sgt v19 c0_i32_18
  let v39 : BitVec 32 := Scalar.extui v38
  let c0_i32_19 : BitVec 32 := 0#32
  let v40 : BitVec 1 := Scalar.cmpi .slt v19 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v19 c2_i32_17
  let c0_i32_22 : BitVec 32 := 0#32
  let v50 : BitVec 1 := Scalar.cmpi .ne v49 c0_i32_22
  let v51 : BitVec 1 := Scalar.andi v48 v50
  let v37 : BitVec 32 := Scalar.divsi v19 c2_i32_17
  let c1_i32_23 : BitVec 32 := 1#32
  let v52 : BitVec 32 := Scalar.subi v37 c1_i32_23
  let v53 : BitVec 32 := Scalar.select v51 v52 v37
  let c128_i32 : BitVec 32 := 128#32
  let v57 : BitVec 32 := Scalar.muli v53 c128_i32
  let v58 : BitVec 32 := Scalar.addi v54 v57
  let v1132 : BitVec 32 := Scalar.addi v1131 v58
  let v1133 : Index := Scalar.indexCast v1132
  let c512_801 : Index := 512#32
  ![v1133.toNat, 512]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_701 : BitVec 32 := 1#32
  let v1010 : BitVec 32 := Scalar.subi v20 c1_i32_701
  let c4_i32_702 : BitVec 32 := 4#32
  let v1011 : BitVec 32 := Scalar.addi v1010 c4_i32_702
  let c4_i32_703 : BitVec 32 := 4#32
  let v1012 : BitVec 32 := Scalar.remsi v1011 c4_i32_703
  let c512_i32_802 : BitVec 32 := 512#32
  let v1135 : BitVec 32 := Scalar.muli v1012 c512_i32_802
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_16 : BitVec 32 := 2#32
  let v36 : BitVec 32 := Scalar.remsi v19 c2_i32_16
  let c256_i32 : BitVec 32 := 256#32
  let v54 : BitVec 32 := Scalar.muli v36 c256_i32
  let c0_i32_18 : BitVec 32 := 0#32
  let v38 : BitVec 1 := Scalar.cmpi .sgt v19 c0_i32_18
  let v39 : BitVec 32 := Scalar.extui v38
  let c0_i32_19 : BitVec 32 := 0#32
  let v40 : BitVec 1 := Scalar.cmpi .slt v19 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v19 c2_i32_17
  let c0_i32_22 : BitVec 32 := 0#32
  let v50 : BitVec 1 := Scalar.cmpi .ne v49 c0_i32_22
  let v51 : BitVec 1 := Scalar.andi v48 v50
  let v37 : BitVec 32 := Scalar.divsi v19 c2_i32_17
  let c1_i32_23 : BitVec 32 := 1#32
  let v52 : BitVec 32 := Scalar.subi v37 c1_i32_23
  let v53 : BitVec 32 := Scalar.select v51 v52 v37
  let c128_i32 : BitVec 32 := 128#32
  let v57 : BitVec 32 := Scalar.muli v53 c128_i32
  let v58 : BitVec 32 := Scalar.addi v54 v57
  let v1136 : BitVec 32 := Scalar.addi v1135 v58
  let c512_i32_807 : BitVec 32 := 512#32
  ![v1136.toNat, 512]
def k0_dev17 (d0 : Dev nD) : Nat :=
  let c0_i32_806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v33 : BitVec 32 := Scalar.xori v19 c2_i32
  let c4_i32_15 : BitVec 32 := 4#32
  let v34 : BitVec 32 := Scalar.muli v33 c4_i32_15
  let c4_i32_5 : BitVec 32 := 4#32
  let v20 : BitVec 32 := Scalar.remsi v2 c4_i32_5
  let v35 : BitVec 32 := Scalar.addi v34 v20
  let c1_i32_805 : BitVec 32 := 1#32
  let v1137 : BitVec 32 := Scalar.muli v35 c1_i32_805
  let v1138 : BitVec 32 := Scalar.addi c0_i32_806 v1137
  v1138.toNat
def k0_dev18 (d0 : Dev nD) : Nat :=
  let c0_i32_813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.xori v19 c1_i32_13
  let c4_i32_14 : BitVec 32 := 4#32
  let v31 : BitVec 32 := Scalar.muli v30 c4_i32_14
  let c4_i32_5 : BitVec 32 := 4#32
  let v20 : BitVec 32 := Scalar.remsi v2 c4_i32_5
  let v32 : BitVec 32 := Scalar.addi v31 v20
  let c1_i32_812 : BitVec 32 := 1#32
  let v1147 : BitVec 32 := Scalar.muli v32 c1_i32_812
  let v1148 : BitVec 32 := Scalar.addi c0_i32_813 v1147
  v1148.toNat
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_699 : BitVec 32 := 1#32
  let v1008 : BitVec 32 := Scalar.addi v20 c1_i32_699
  let c4_i32_700 : BitVec 32 := 4#32
  let v1009 : BitVec 32 := Scalar.remsi v1008 c4_i32_700
  let c512_i32_827 : BitVec 32 := 512#32
  let v1165 : BitVec 32 := Scalar.muli v1009 c512_i32_827
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_16 : BitVec 32 := 2#32
  let v36 : BitVec 32 := Scalar.remsi v19 c2_i32_16
  let c256_i32 : BitVec 32 := 256#32
  let v54 : BitVec 32 := Scalar.muli v36 c256_i32
  let c1_i32_26 : BitVec 32 := 1#32
  let c0_i32_18 : BitVec 32 := 0#32
  let v38 : BitVec 1 := Scalar.cmpi .sgt v19 c0_i32_18
  let v39 : BitVec 32 := Scalar.extui v38
  let c0_i32_19 : BitVec 32 := 0#32
  let v40 : BitVec 1 := Scalar.cmpi .slt v19 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v19 c2_i32_17
  let c0_i32_22 : BitVec 32 := 0#32
  let v50 : BitVec 1 := Scalar.cmpi .ne v49 c0_i32_22
  let v51 : BitVec 1 := Scalar.andi v48 v50
  let v37 : BitVec 32 := Scalar.divsi v19 c2_i32_17
  let c1_i32_23 : BitVec 32 := 1#32
  let v52 : BitVec 32 := Scalar.subi v37 c1_i32_23
  let v53 : BitVec 32 := Scalar.select v51 v52 v37
  let v59 : BitVec 32 := Scalar.subi c1_i32_26 v53
  let c128_i32_27 : BitVec 32 := 128#32
  let v60 : BitVec 32 := Scalar.muli v59 c128_i32_27
  let v61 : BitVec 32 := Scalar.addi v54 v60
  let v1166 : BitVec 32 := Scalar.addi v1165 v61
  let c0_i32_832 : BitVec 32 := 0#32
  ![v1166.toNat, 0]
def k0_dev19 (d0 : Dev nD) : Nat :=
  let c0_i32_831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.xori v19 c1_i32_13
  let c4_i32_14 : BitVec 32 := 4#32
  let v31 : BitVec 32 := Scalar.muli v30 c4_i32_14
  let c4_i32_5 : BitVec 32 := 4#32
  let v20 : BitVec 32 := Scalar.remsi v2 c4_i32_5
  let v32 : BitVec 32 := Scalar.addi v31 v20
  let c1_i32_830 : BitVec 32 := 1#32
  let v1167 : BitVec 32 := Scalar.muli v32 c1_i32_830
  let v1168 : BitVec 32 := Scalar.addi c0_i32_831 v1167
  v1168.toNat
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_701 : BitVec 32 := 1#32
  let v1010 : BitVec 32 := Scalar.subi v20 c1_i32_701
  let c4_i32_702 : BitVec 32 := 4#32
  let v1011 : BitVec 32 := Scalar.addi v1010 c4_i32_702
  let c4_i32_703 : BitVec 32 := 4#32
  let v1012 : BitVec 32 := Scalar.remsi v1011 c4_i32_703
  let c512_i32_845 : BitVec 32 := 512#32
  let v1185 : BitVec 32 := Scalar.muli v1012 c512_i32_845
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_16 : BitVec 32 := 2#32
  let v36 : BitVec 32 := Scalar.remsi v19 c2_i32_16
  let c256_i32 : BitVec 32 := 256#32
  let v54 : BitVec 32 := Scalar.muli v36 c256_i32
  let c1_i32_26 : BitVec 32 := 1#32
  let c0_i32_18 : BitVec 32 := 0#32
  let v38 : BitVec 1 := Scalar.cmpi .sgt v19 c0_i32_18
  let v39 : BitVec 32 := Scalar.extui v38
  let c0_i32_19 : BitVec 32 := 0#32
  let v40 : BitVec 1 := Scalar.cmpi .slt v19 c0_i32_19
  let v41 : BitVec 32 := Scalar.extui v40
  let v42 : BitVec 32 := Scalar.subi v39 v41
  let c2_i32_17 : BitVec 32 := 2#32
  let c0_i32_20 : BitVec 32 := 0#32
  let v43 : BitVec 1 := Scalar.cmpi .sgt c2_i32_17 c0_i32_20
  let v44 : BitVec 32 := Scalar.extui v43
  let c0_i32_21 : BitVec 32 := 0#32
  let v45 : BitVec 1 := Scalar.cmpi .slt c2_i32_17 c0_i32_21
  let v46 : BitVec 32 := Scalar.extui v45
  let v47 : BitVec 32 := Scalar.subi v44 v46
  let v48 : BitVec 1 := Scalar.cmpi .ne v42 v47
  let v49 : BitVec 32 := Scalar.remsi v19 c2_i32_17
  let c0_i32_22 : BitVec 32 := 0#32
  let v50 : BitVec 1 := Scalar.cmpi .ne v49 c0_i32_22
  let v51 : BitVec 1 := Scalar.andi v48 v50
  let v37 : BitVec 32 := Scalar.divsi v19 c2_i32_17
  let c1_i32_23 : BitVec 32 := 1#32
  let v52 : BitVec 32 := Scalar.subi v37 c1_i32_23
  let v53 : BitVec 32 := Scalar.select v51 v52 v37
  let v59 : BitVec 32 := Scalar.subi c1_i32_26 v53
  let c128_i32_27 : BitVec 32 := 128#32
  let v60 : BitVec 32 := Scalar.muli v59 c128_i32_27
  let v61 : BitVec 32 := Scalar.addi v54 v60
  let v1186 : BitVec 32 := Scalar.addi v1185 v61
  let c512_i32_850 : BitVec 32 := 512#32
  ![v1186.toNat, 512]
def k0_dev20 (d0 : Dev nD) : Nat :=
  let c0_i32_849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.xori v19 c1_i32_13
  let c4_i32_14 : BitVec 32 := 4#32
  let v31 : BitVec 32 := Scalar.muli v30 c4_i32_14
  let c4_i32_5 : BitVec 32 := 4#32
  let v20 : BitVec 32 := Scalar.remsi v2 c4_i32_5
  let v32 : BitVec 32 := Scalar.addi v31 v20
  let c1_i32_848 : BitVec 32 := 1#32
  let v1187 : BitVec 32 := Scalar.muli v32 c1_i32_848
  let v1188 : BitVec 32 := Scalar.addi c0_i32_849 v1187
  v1188.toNat
def k0_off38 (d0 : Dev nD) (c0_i32_897 : BitVec 32) (c0_i32_905 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_896 : BitVec 32 := 1#32
  let v1235 : BitVec 32 := Scalar.addi v20 c1_i32_896
  let v1236 : BitVec 32 := Scalar.subi v1235 c0_i32_897
  let c4_i32_898 : BitVec 32 := 4#32
  let v1237 : BitVec 32 := Scalar.addi v1236 c4_i32_898
  let c4_i32_899 : BitVec 32 := 4#32
  let v1238 : BitVec 32 := Scalar.remsi v1237 c4_i32_899
  let c512_i32_904 : BitVec 32 := 512#32
  let v1243 : BitVec 32 := Scalar.muli v1238 c512_i32_904
  let v1244 : BitVec 32 := Scalar.addi v1243 c0_i32_905
  let c0_i32_912 : BitVec 32 := 0#32
  ![v1244.toNat, 0]
def k0_dev21 (d0 : Dev nD) : Nat :=
  let c0_i32_911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_910 : BitVec 32 := 1#32
  let v1247 : BitVec 32 := Scalar.muli v24 c1_i32_910
  let v1248 : BitVec 32 := Scalar.addi c0_i32_911 v1247
  v1248.toNat
def k0_off39 (d0 : Dev nD) (c0_i32_901 : BitVec 32) (c0_i32_907 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_900 : BitVec 32 := 1#32
  let v1239 : BitVec 32 := Scalar.subi v20 c1_i32_900
  let v1240 : BitVec 32 := Scalar.addi v1239 c0_i32_901
  let c4_i32_902 : BitVec 32 := 4#32
  let v1241 : BitVec 32 := Scalar.addi v1240 c4_i32_902
  let c4_i32_903 : BitVec 32 := 4#32
  let v1242 : BitVec 32 := Scalar.remsi v1241 c4_i32_903
  let c512_i32_906 : BitVec 32 := 512#32
  let v1245 : BitVec 32 := Scalar.muli v1242 c512_i32_906
  let v1246 : BitVec 32 := Scalar.addi v1245 c0_i32_907
  let c512_i32_918 : BitVec 32 := 512#32
  ![v1246.toNat, 512]
def k0_dev22 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c1_i32_10 : BitVec 32 := 1#32
  let v26 : BitVec 32 := Scalar.subi v20 c1_i32_10
  let c4_i32_11 : BitVec 32 := 4#32
  let v27 : BitVec 32 := Scalar.addi v26 c4_i32_11
  let c4_i32_12 : BitVec 32 := 4#32
  let v28 : BitVec 32 := Scalar.remsi v27 c4_i32_12
  let v29 : BitVec 32 := Scalar.addi v25 v28
  let c1_i32_916 : BitVec 32 := 1#32
  let v1255 : BitVec 32 := Scalar.muli v29 c1_i32_916
  let v1256 : BitVec 32 := Scalar.addi c0_i32_917 v1255
  v1256.toNat
def k0_dev23 (d0 : Dev nD) : Nat :=
  let c0_i32_927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_926 : BitVec 32 := 1#32
  let v1267 : BitVec 32 := Scalar.muli v24 c1_i32_926
  let v1268 : BitVec 32 := Scalar.addi c0_i32_927 v1267
  v1268.toNat
def k0_dev24 (d0 : Dev nD) : Nat :=
  let c0_i32_933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c1_i32_10 : BitVec 32 := 1#32
  let v26 : BitVec 32 := Scalar.subi v20 c1_i32_10
  let c4_i32_11 : BitVec 32 := 4#32
  let v27 : BitVec 32 := Scalar.addi v26 c4_i32_11
  let c4_i32_12 : BitVec 32 := 4#32
  let v28 : BitVec 32 := Scalar.remsi v27 c4_i32_12
  let v29 : BitVec 32 := Scalar.addi v25 v28
  let c1_i32_932 : BitVec 32 := 1#32
  let v1275 : BitVec 32 := Scalar.muli v29 c1_i32_932
  let v1276 : BitVec 32 := Scalar.addi c0_i32_933 v1275
  v1276.toNat
def k0_dev25 (d0 : Dev nD) : Nat :=
  let c0_i32_973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_972 : BitVec 32 := 1#32
  let v1315 : BitVec 32 := Scalar.muli v24 c1_i32_972
  let v1316 : BitVec 32 := Scalar.addi c0_i32_973 v1315
  v1316.toNat
def k0_dev26 (d0 : Dev nD) : Nat :=
  let c0_i32_979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c1_i32_10 : BitVec 32 := 1#32
  let v26 : BitVec 32 := Scalar.subi v20 c1_i32_10
  let c4_i32_11 : BitVec 32 := 4#32
  let v27 : BitVec 32 := Scalar.addi v26 c4_i32_11
  let c4_i32_12 : BitVec 32 := 4#32
  let v28 : BitVec 32 := Scalar.remsi v27 c4_i32_12
  let v29 : BitVec 32 := Scalar.addi v25 v28
  let c1_i32_978 : BitVec 32 := 1#32
  let v1323 : BitVec 32 := Scalar.muli v29 c1_i32_978
  let v1324 : BitVec 32 := Scalar.addi c0_i32_979 v1323
  v1324.toNat
def k0_dev27 (d0 : Dev nD) : Nat :=
  let c0_i32_1011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1010 : BitVec 32 := 1#32
  let v1355 : BitVec 32 := Scalar.muli v24 c1_i32_1010
  let v1356 : BitVec 32 := Scalar.addi c0_i32_1011 v1355
  v1356.toNat
def k0_dev28 (d0 : Dev nD) : Nat :=
  let c0_i32_1017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c1_i32_10 : BitVec 32 := 1#32
  let v26 : BitVec 32 := Scalar.subi v20 c1_i32_10
  let c4_i32_11 : BitVec 32 := 4#32
  let v27 : BitVec 32 := Scalar.addi v26 c4_i32_11
  let c4_i32_12 : BitVec 32 := 4#32
  let v28 : BitVec 32 := Scalar.remsi v27 c4_i32_12
  let v29 : BitVec 32 := Scalar.addi v25 v28
  let c1_i32_1016 : BitVec 32 := 1#32
  let v1363 : BitVec 32 := Scalar.muli v29 c1_i32_1016
  let v1364 : BitVec 32 := Scalar.addi c0_i32_1017 v1363
  v1364.toNat
def k0_dev29 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1056 : BitVec 32 := 1#32
  let v1403 : BitVec 32 := Scalar.muli v24 c1_i32_1056
  let v1404 : BitVec 32 := Scalar.addi c0_i32_1057 v1403
  v1404.toNat
def k0_dev30 (d0 : Dev nD) : Nat :=
  let c0_i32_1063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c1_i32_10 : BitVec 32 := 1#32
  let v26 : BitVec 32 := Scalar.subi v20 c1_i32_10
  let c4_i32_11 : BitVec 32 := 4#32
  let v27 : BitVec 32 := Scalar.addi v26 c4_i32_11
  let c4_i32_12 : BitVec 32 := 4#32
  let v28 : BitVec 32 := Scalar.remsi v27 c4_i32_12
  let v29 : BitVec 32 := Scalar.addi v25 v28
  let c1_i32_1062 : BitVec 32 := 1#32
  let v1411 : BitVec 32 := Scalar.muli v29 c1_i32_1062
  let v1412 : BitVec 32 := Scalar.addi c0_i32_1063 v1411
  v1412.toNat
def k0_dev31 (d0 : Dev nD) : Nat :=
  let c0_i32_1095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1094 : BitVec 32 := 1#32
  let v1443 : BitVec 32 := Scalar.muli v24 c1_i32_1094
  let v1444 : BitVec 32 := Scalar.addi c0_i32_1095 v1443
  v1444.toNat
def k0_dev32 (d0 : Dev nD) : Nat :=
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c1_i32_10 : BitVec 32 := 1#32
  let v26 : BitVec 32 := Scalar.subi v20 c1_i32_10
  let c4_i32_11 : BitVec 32 := 4#32
  let v27 : BitVec 32 := Scalar.addi v26 c4_i32_11
  let c4_i32_12 : BitVec 32 := 4#32
  let v28 : BitVec 32 := Scalar.remsi v27 c4_i32_12
  let v29 : BitVec 32 := Scalar.addi v25 v28
  let c1_i32_1100 : BitVec 32 := 1#32
  let v1451 : BitVec 32 := Scalar.muli v29 c1_i32_1100
  let v1452 : BitVec 32 := Scalar.addi c0_i32_1101 v1451
  v1452.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x2 : Shape := ⟨2, ![2048, 2]⟩
abbrev S128x512x1024 : Shape := ⟨3, ![128, 512, 1024]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S1 : Shape := ⟨1, ![1]⟩
abbrev S1x1x1 : Shape := ⟨3, ![1, 1, 1]⟩
abbrev S2048x512x1024 : Shape := ⟨3, ![2048, 512, 1024]⟩
abbrev S2048x1024 : Shape := ⟨2, ![2048, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x2, .i32⟩
  | .hbm, ⟨3, _⟩ => ⟨S128x512x1024, .f32⟩
  | .hbm, ⟨4, _⟩ => ⟨S2048x128, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x128, .f32⟩
  | .hbm, ⟨15, _⟩ => ⟨S2048x128, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S_, .i32⟩
  | .hbm, ⟨21, _⟩ => ⟨S2048x2, .i32⟩
  | .hbm, ⟨22, _⟩ => ⟨S2048x2, .i1⟩
  | .hbm, ⟨23, _⟩ => ⟨S_, .i32⟩
  | .hbm, ⟨24, _⟩ => ⟨S2048x2, .i32⟩
  | .hbm, ⟨25, _⟩ => ⟨S2048x2, .i32⟩
  | .hbm, ⟨26, _⟩ => ⟨S2048x2, .i32⟩
  | .hbm, ⟨27, _⟩ => ⟨S2048x2x1, .i32⟩
  | .hbm, ⟨28, _⟩ => ⟨S1, .i32⟩
  | .hbm, ⟨29, _⟩ => ⟨S_, .i32⟩
  | .hbm, ⟨30, _⟩ => ⟨S2048x2x1, .i32⟩
  | .hbm, ⟨31, _⟩ => ⟨S2048x2x1, .i1⟩
  | .hbm, ⟨32, _⟩ => ⟨S1x1x1, .i32⟩
  | .hbm, ⟨33, _⟩ => ⟨S2048x2x1, .i32⟩
  | .hbm, ⟨34, _⟩ => ⟨S2048x2x1, .i1⟩
  | .hbm, ⟨35, _⟩ => ⟨S2048x2x1, .i1⟩
  | .hbm, ⟨36, _⟩ => ⟨S_, .i1⟩
  | .hbm, ⟨37, _⟩ => ⟨S2048x2, .i1⟩
  | .hbm, ⟨38, _⟩ => ⟨S2048x2, .f32⟩
  | .hbm, ⟨39, _⟩ => ⟨S_, .f32⟩
  | .hbm, ⟨40, _⟩ => ⟨S2048x2, .f32⟩
  | .hbm, ⟨41, _⟩ => ⟨S2048x2, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S2048x1, .i32⟩
  | .hbm, ⟨53, _⟩ => ⟨S2048x512x1024, .f32⟩
  | .hbm, ⟨54, _⟩ => ⟨S2048x1024, .f32⟩
  | .hbm, ⟨55, _⟩ => ⟨S_, .i32⟩
  | .hbm, ⟨56, _⟩ => ⟨S2048, .i32⟩
  | .hbm, ⟨57, _⟩ => ⟨S2048, .i1⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .i32⟩
  | .hbm, ⟨62, _⟩ => ⟨S2048x1, .i32⟩
  | .hbm, ⟨63, _⟩ => ⟨S2048x512x1024, .f32⟩
  | .hbm, ⟨64, _⟩ => ⟨S2048x1024, .f32⟩
  | .hbm, ⟨65, _⟩ => ⟨S2048x1, .f32⟩
  | .hbm, ⟨66, _⟩ => ⟨S2048x1024, .f32⟩
  | .hbm, ⟨67, _⟩ => ⟨S2048x1024, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_1 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_2 : Ref sig .tc := ⟨.hbm, 55, rfl⟩
abbrev main_v26 : Ref sig .tc := ⟨.hbm, 56, rfl⟩
abbrev main_v27 : Ref sig .tc := ⟨.hbm, 57, rfl⟩
abbrev main_c_3 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]
-- ==== Proof.Mesh.lean ====
/-
The mesh of the kernel: the neighbours of a device, the row offsets its transfers name, its semaphores.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal Cert.KernelIdeal.Gen
open Idealize.ShloMosaic
open Idealize.ShloMosaic.TcCoe

/-! ## Neighbours

Device `c` stands at place `c % 4` of the ring of its plane `c / 4`. The four directions a device sends in are: right along
the ring, left along the ring, to the plane that differs in the low bit, to the plane that differs in the high bit. -/

set_option backward.proofsInPublic true in
def rt (c : Dev nD) : Dev nD := ⟨4 * (c.val / 4) + (c.val % 4 + 1) % 4, by have := c.isLt; simp only [nD] at *; omega⟩
set_option backward.proofsInPublic true in
def lf (c : Dev nD) : Dev nD := ⟨4 * (c.val / 4) + (c.val % 4 + 3) % 4, by have := c.isLt; simp only [nD] at *; omega⟩
set_option backward.proofsInPublic true in
def z1 (c : Dev nD) : Dev nD := ⟨8 * (c.val / 8) + (c.val % 8 + 4) % 8, by have := c.isLt; simp only [nD] at *; omega⟩
set_option backward.proofsInPublic true in
def z2 (c : Dev nD) : Dev nD := ⟨(c.val + 8) % 16, by have := c.isLt; simp only [nD] at *; omega⟩

/-- The neighbour a device's transfers in direction `d` go to; -/
def go (d : Fin 4) (c : Dev nD) : Dev nD := match d with | 0 => rt c | 1 => lf c | 2 => z1 c | 3 => z2 c
/-- the neighbour whose transfers in direction `d` come to it. -/
def back (d : Fin 4) (c : Dev nD) : Dev nD := match d with | 0 => lf c | 1 => rt c | 2 => z1 c | 3 => z2 c

theorem rt_lf (c : Dev nD) : rt (lf c) = c := by revert c; decide +kernel
theorem lf_rt (c : Dev nD) : lf (rt c) = c := by revert c; decide +kernel
theorem z1_z1 (c : Dev nD) : z1 (z1 c) = c := by revert c; decide +kernel
theorem z2_z2 (c : Dev nD) : z2 (z2 c) = c := by revert c; decide +kernel
theorem go_back (d : Fin 4) (c : Dev nD) : go d (back d c) = c := by
  match d with | 0 => exact rt_lf c | 1 => exact lf_rt c | 2 => exact z1_z1 c | 3 => exact z2_z2 c
theorem back_go (d : Fin 4) (c : Dev nD) : back d (go d c) = c := by
  match d with | 0 => exact lf_rt c | 1 => exact rt_lf c | 2 => exact z1_z1 c | 3 => exact z2_z2 c

/-- A direction as a permutation of the devices. -/
def turn (d : Fin 4) : Dev nD ≃ Dev nD := ⟨go d, back d, back_go d, go_back d⟩

/-! ## The transfers

Twenty-eight transfers, numbered in the order they are started. -/

/-- The direction each transfer goes in. -/
def dir : Fin 28 → Fin 4 := ![0, 1, 0, 1, 0, 1, 2, 2, 3, 3, 3, 2, 3, 2, 2, 2, 0, 1, 0, 1, 0, 1, 0, 1, 0, 1, 0, 1]
abbrev dst (t : Fin 28) (c : Dev nD) : Dev nD := go (dir t) c
abbrev src (t : Fin 28) (c : Dev nD) : Dev nD := back (dir t) c

theorem sig1 (c : Dev nD) : (⟨k0_dev1 c, k0_dev1_lt c⟩ : Dev nD) = back 0 c := by revert c; decide +kernel
theorem sig2 (c : Dev nD) : (⟨k0_dev2 c, k0_dev2_lt c⟩ : Dev nD) = back 1 c := by revert c; decide +kernel
theorem sig3 (c : Dev nD) : (⟨k0_dev3 c, k0_dev3_lt c⟩ : Dev nD) = back 2 c := by revert c; decide +kernel
theorem sig4 (c : Dev nD) : (⟨k0_dev4 c, k0_dev4_lt c⟩ : Dev nD) = back 3 c := by revert c; decide +kernel
theorem dev0 (c : Dev nD) : (⟨k0_dev5 c, k0_dev5_lt c⟩ : Dev nD) = dst 0 c := by revert c; decide +kernel
theorem dev1 (c : Dev nD) : (⟨k0_dev6 c, k0_dev6_lt c⟩ : Dev nD) = dst 1 c := by revert c; decide +kernel
theorem dev2 (c : Dev nD) : (⟨k0_dev7 c, k0_dev7_lt c⟩ : Dev nD) = dst 2 c := by revert c; decide +kernel
theorem dev3 (c : Dev nD) : (⟨k0_dev8 c, k0_dev8_lt c⟩ : Dev nD) = dst 3 c := by revert c; decide +kernel
theorem dev4 (c : Dev nD) : (⟨k0_dev9 c, k0_dev9_lt c⟩ : Dev nD) = dst 4 c := by revert c; decide +kernel
theorem dev5 (c : Dev nD) : (⟨k0_dev10 c, k0_dev10_lt c⟩ : Dev nD) = dst 5 c := by revert c; decide +kernel
theorem dev6 (c : Dev nD) : (⟨k0_dev11 c, k0_dev11_lt c⟩ : Dev nD) = dst 6 c := by revert c; decide +kernel
theorem dev7 (c : Dev nD) : (⟨k0_dev12 c, k0_dev12_lt c⟩ : Dev nD) = dst 7 c := by revert c; decide +kernel
theorem dev8 (c : Dev nD) : (⟨k0_dev13 c, k0_dev13_lt c⟩ : Dev nD) = dst 8 c := by revert c; decide +kernel
theorem dev9 (c : Dev nD) : (⟨k0_dev14 c, k0_dev14_lt c⟩ : Dev nD) = dst 9 c := by revert c; decide +kernel
theorem dev10 (c : Dev nD) : (⟨k0_dev15 c, k0_dev15_lt c⟩ : Dev nD) = dst 10 c := by revert c; decide +kernel
theorem dev11 (c : Dev nD) : (⟨k0_dev16 c, k0_dev16_lt c⟩ : Dev nD) = dst 11 c := by revert c; decide +kernel
theorem dev12 (c : Dev nD) : (⟨k0_dev17 c, k0_dev17_lt c⟩ : Dev nD) = dst 12 c := by revert c; decide +kernel
theorem dev13 (c : Dev nD) : (⟨k0_dev18 c, k0_dev18_lt c⟩ : Dev nD) = dst 13 c := by revert c; decide +kernel
theorem dev14 (c : Dev nD) : (⟨k0_dev19 c, k0_dev19_lt c⟩ : Dev nD) = dst 14 c := by revert c; decide +kernel
theorem dev15 (c : Dev nD) : (⟨k0_dev20 c, k0_dev20_lt c⟩ : Dev nD) = dst 15 c := by revert c; decide +kernel
theorem dev16 (c : Dev nD) : (⟨k0_dev21 c, k0_dev21_lt c⟩ : Dev nD) = dst 16 c := by revert c; decide +kernel
theorem dev17 (c : Dev nD) : (⟨k0_dev22 c, k0_dev22_lt c⟩ : Dev nD) = dst 17 c := by revert c; decide +kernel
theorem dev18 (c : Dev nD) : (⟨k0_dev23 c, k0_dev23_lt c⟩ : Dev nD) = dst 18 c := by revert c; decide +kernel
theorem dev19 (c : Dev nD) : (⟨k0_dev24 c, k0_dev24_lt c⟩ : Dev nD) = dst 19 c := by revert c; decide +kernel
theorem dev20 (c : Dev nD) : (⟨k0_dev25 c, k0_dev25_lt c⟩ : Dev nD) = dst 20 c := by revert c; decide +kernel
theorem dev21 (c : Dev nD) : (⟨k0_dev26 c, k0_dev26_lt c⟩ : Dev nD) = dst 21 c := by revert c; decide +kernel
theorem dev22 (c : Dev nD) : (⟨k0_dev27 c, k0_dev27_lt c⟩ : Dev nD) = dst 22 c := by revert c; decide +kernel
theorem dev23 (c : Dev nD) : (⟨k0_dev28 c, k0_dev28_lt c⟩ : Dev nD) = dst 23 c := by revert c; decide +kernel
theorem dev24 (c : Dev nD) : (⟨k0_dev29 c, k0_dev29_lt c⟩ : Dev nD) = dst 24 c := by revert c; decide +kernel
theorem dev25 (c : Dev nD) : (⟨k0_dev30 c, k0_dev30_lt c⟩ : Dev nD) = dst 25 c := by revert c; decide +kernel
theorem dev26 (c : Dev nD) : (⟨k0_dev31 c, k0_dev31_lt c⟩ : Dev nD) = dst 26 c := by revert c; decide +kernel
theorem dev27 (c : Dev nD) : (⟨k0_dev32 c, k0_dev32_lt c⟩ : Dev nD) = dst 27 c := by revert c; decide +kernel

/-! ## Row offsets -/

/-- The rows of the chunk a device finishes, in the left and in the right half of the columns; -/
def rowA (c : Dev nD) : Nat := 512 * ((c.val % 4 + 1) % 4)
def rowB (c : Dev nD) : Nat := 512 * ((c.val % 4 + 3) % 4)
/-- within a chunk: the half a device keeps and the half it sends at the first exchange between planes, the quarter it keeps
    and the quarter it sends at the second. -/
def k1 (c : Dev nD) : Nat := 256 * (c.val / 4 % 2)
def s1 (c : Dev nD) : Nat := 256 * (1 - c.val / 4 % 2)
def k2 (c : Dev nD) : Nat := 256 * (c.val / 4 % 2) + 128 * (c.val / 8)
def s2 (c : Dev nD) : Nat := 256 * (c.val / 4 % 2) + 128 * (1 - c.val / 8)

theorem off28 (c : Dev nD) : k0_off28 c = ![s1 c, 0] := by revert c; decide +kernel
theorem off29 (c : Dev nD) : k0_off29 c = ![k1 c, 0] := by revert c; decide +kernel
theorem off30 (c : Dev nD) : k0_off30 c = ![s2 c, 0] := by revert c; decide +kernel
theorem off31 (c : Dev nD) : k0_off31 c = ![k2 c, 0] := by revert c; decide +kernel
theorem off32 (c : Dev nD) : k0_off32 c = ![rowA c + k2 c, 0] := by revert c; decide +kernel
theorem off33 (c : Dev nD) : k0_off33 c = ![rowA c + k2 c, 0] := by revert c; decide +kernel
theorem off34 (c : Dev nD) : k0_off34 c = ![rowB c + k2 c, 512] := by revert c; decide +kernel
theorem off35 (c : Dev nD) : k0_off35 c = ![rowB c + k2 c, 512] := by revert c; decide +kernel
theorem off36 (c : Dev nD) : k0_off36 c = ![rowA c + s2 c, 0] := by revert c; decide +kernel
theorem off37 (c : Dev nD) : k0_off37 c = ![rowB c + s2 c, 512] := by revert c; decide +kernel

/-- The chunk of the left columns passed on at step `s` of the last ring, and of the right columns. -/
def cA (c : Dev nD) (s : Fin 3) : Nat := 512 * ((c.val % 4 + 5 - s.val) % 4)
def cB (c : Dev nD) (s : Fin 3) : Nat := 512 * ((c.val % 4 + s.val + 3) % 4)
theorem off38 (c : Dev nD) (s : Fin 3) (h : Fin 2) :
    k0_off38 c (BitVec.ofNat 32 s.val) (BitVec.ofNat 32 (256 * h.val)) = ![cA c s + 256 * h.val, 0] := k0_off38_eq c s h
theorem off39 (c : Dev nD) (s : Fin 3) (h : Fin 2) :
    k0_off39 c (BitVec.ofNat 32 s.val) (BitVec.ofNat 32 (256 * h.val)) = ![cB c s + 256 * h.val, 512] := k0_off39_eq c s h

theorem k2_z2 (c : Dev nD) : k2 (z2 c) = s2 c := by revert c; decide +kernel
theorem s1_z1 (c : Dev nD) : s1 (z1 c) = k1 c := by revert c; decide +kernel
theorem s2_z2 (c : Dev nD) : s2 (z2 c) = k2 c := by revert c; decide +kernel
theorem rowA_z1 (c : Dev nD) : rowA (z1 c) = rowA c := by revert c; decide +kernel
theorem rowA_z2 (c : Dev nD) : rowA (z2 c) = rowA c := by revert c; decide +kernel
theorem rowB_z1 (c : Dev nD) : rowB (z1 c) = rowB c := by revert c; decide +kernel
theorem rowB_z2 (c : Dev nD) : rowB (z2 c) = rowB c := by revert c; decide +kernel
theorem cA_zero (c : Dev nD) : cA c 0 = rowA c := by revert c; decide +kernel
theorem cB_zero (c : Dev nD) : cB c 0 = rowB c := by revert c; decide +kernel
theorem cA_lf (c : Dev nD) : cA (lf c) 0 = cA c 1 ∧ cA (lf c) 1 = cA c 2 := by revert c; decide +kernel
theorem cB_rt (c : Dev nD) : cB (rt c) 0 = cB c 1 ∧ cB (rt c) 1 = cB c 2 := by revert c; decide +kernel

/-! ## Semaphores -/

abbrev at3 (a : DmaSems sig S3) (i : Fin 3) : DmaSem sig := match i with
  | 0 => ((a.slice (Rect.unit (s := S3) ![0] S1.size inb_S3_S1_0)).squeeze S_ squeezes_S1_S_).sem
  | 1 => ((a.slice (Rect.unit (s := S3) ![1] S1.size inb_S3_S1_1)).squeeze S_ squeezes_S1_S_).sem
  | 2 => ((a.slice (Rect.unit (s := S3) ![2] S1.size inb_S3_S1_2)).squeeze S_ squeezes_S1_S_).sem
abbrev at2 (a : DmaSems sig S2) (i : Fin 2) : DmaSem sig := match i with
  | 0 => ((a.slice (Rect.unit (s := S2) ![0] S1.size inb_S2_S1_0)).squeeze S_ squeezes_S1_S_).sem
  | 1 => ((a.slice (Rect.unit (s := S2) ![1] S1.size inb_S2_S1_1)).squeeze S_ squeezes_S1_S_).sem
abbrev at6 (a : DmaSems sig S6) (i : Fin 6) : DmaSem sig := match i with
  | 0 => ((a.slice (Rect.unit (s := S6) ![0] S1.size inb_S6_S1_0)).squeeze S_ squeezes_S1_S_).sem
  | 1 => ((a.slice (Rect.unit (s := S6) ![1] S1.size inb_S6_S1_1)).squeeze S_ squeezes_S1_S_).sem
  | 2 => ((a.slice (Rect.unit (s := S6) ![2] S1.size inb_S6_S1_2)).squeeze S_ squeezes_S1_S_).sem
  | 3 => ((a.slice (Rect.unit (s := S6) ![3] S1.size inb_S6_S1_3)).squeeze S_ squeezes_S1_S_).sem
  | 4 => ((a.slice (Rect.unit (s := S6) ![4] S1.size inb_S6_S1_4)).squeeze S_ squeezes_S1_S_).sem
  | 5 => ((a.slice (Rect.unit (s := S6) ![5] S1.size inb_S6_S1_5)).squeeze S_ squeezes_S1_S_).sem

/-- The semaphore a transfer signals at its sender and the one it signals at its receiver. -/
def sendS : Fin 28 → DmaSem sig := ![
    at3 cc0_scratch11 0, at3 cc0_scratch13 0, at3 cc0_scratch11 1, at3 cc0_scratch13 1,
    at3 cc0_scratch11 2, at3 cc0_scratch13 2, at2 cc0_scratch15 0, at2 cc0_scratch17 0,
    at2 cc0_scratch15 1, at2 cc0_scratch17 1, at3 cc0_scratch19 0, at3 cc0_scratch19 1,
    at3 cc0_scratch21 0, at3 cc0_scratch21 1, at3 cc0_scratch19 2, at3 cc0_scratch21 2,
    at6 cc0_scratch23 0, at6 cc0_scratch25 0, at6 cc0_scratch23 1, at6 cc0_scratch25 1,
    at6 cc0_scratch23 2, at6 cc0_scratch25 2, at6 cc0_scratch23 3, at6 cc0_scratch25 3,
    at6 cc0_scratch23 4, at6 cc0_scratch25 4, at6 cc0_scratch23 5, at6 cc0_scratch25 5]
def recvS : Fin 28 → DmaSem sig := ![
    at3 cc0_scratch12 0, at3 cc0_scratch14 0, at3 cc0_scratch12 1, at3 cc0_scratch14 1,
    at3 cc0_scratch12 2, at3 cc0_scratch14 2, at2 cc0_scratch16 0, at2 cc0_scratch18 0,
    at2 cc0_scratch16 1, at2 cc0_scratch18 1, at3 cc0_scratch20 0, at3 cc0_scratch20 1,
    at3 cc0_scratch22 0, at3 cc0_scratch22 1, at3 cc0_scratch20 2, at3 cc0_scratch22 2,
    at6 cc0_scratch24 0, at6 cc0_scratch26 0, at6 cc0_scratch24 1, at6 cc0_scratch26 1,
    at6 cc0_scratch24 2, at6 cc0_scratch26 2, at6 cc0_scratch24 3, at6 cc0_scratch26 3,
    at6 cc0_scratch24 4, at6 cc0_scratch26 4, at6 cc0_scratch24 5, at6 cc0_scratch26 5]

/-- The runtime's barrier semaphore. -/
abbrev barS : Sem sig := (SemArray.scalar (sig.barrier 0 rfl) : Sems sig S_).sem

/-- A device's cells: the barrier, or the send (`false`) or receive (`true`) cell of a transfer. -/
abbrev CI : Type := Option (Bool × Fin 28)

def csem : CI → SemLoc sig := fun
  | none => .reg barS
  | some (false, t) => .dma (sendS t)
  | some (true, t) => .dma (recvS t)

theorem sends_inj : ∀ t t' : Fin 28, sendS t = sendS t' → t = t' := by decide +kernel
theorem recvs_inj : ∀ t t' : Fin 28, recvS t = recvS t' → t = t' := by decide +kernel
theorem send_ne_recv : ∀ t t' : Fin 28, sendS t ≠ recvS t' := by decide +kernel

theorem csem_injective : Function.Injective csem := by
  rintro (_ | ⟨_ | _, t⟩) (_ | ⟨_ | _, t'⟩) h
  · rfl
  · cases h
  · cases h
  · cases h
  · rw [sends_inj t t' (by injection h)]
  · exact absurd (by injection h) (send_ne_recv t t')
  · cases h
  · exact absurd (by injection h) (send_ne_recv t' t).symm
  · rw [recvs_inj t t' (by injection h)]

/-- Which of a device's cells a semaphore is. -/
def decode (s : SemLoc sig) : Option CI := preimage? ⟨csem, csem_injective⟩ s
theorem decode_csem (x : CI) : decode (csem x) = some x := preimage?_emb ⟨csem, csem_injective⟩ x

theorem csem_of_decode {s : SemLoc sig} {x : CI} (h : decode s = some x) : csem x = s := by
  by_cases hs : ∃ y, csem y = s
  · obtain ⟨y, rfl⟩ := hs
    rw [decode_csem] at h
    rw [Option.some.inj h]
  · rw [decode, preimage?_eq_none fun y hy => hs ⟨y, hy⟩] at h
    cases h

abbrev kcell (c : Dev nD) (x : CI) : GSem nD τ sig := ((c : Thread nD τ), csem x)
abbrev barCell (c : Dev nD) : GSem nD τ sig := kcell c none
abbrev sendCell (c : Dev nD) (t : Fin 28) : GSem nD τ sig := kcell c (some (false, t))
abbrev recvCell (c : Dev nD) (t : Fin 28) : GSem nD τ sig := kcell c (some (true, t))

theorem kcell_injective : Function.Injective (fun p : Dev nD × CI => kcell p.1 p.2) := by
  rintro ⟨c, x⟩ ⟨c', x'⟩ h
  have h1 : c = c' := congrArg (fun g : GSem nD τ sig => g.1.1) h
  have h2 : x = x' := csem_injective (congrArg Prod.snd h)
  rw [h1, h2]

theorem kcell_eq_iff {c c' : Dev nD} {x x' : CI} : kcell c x = kcell c' x' ↔ c = c' ∧ x = x' :=
  ⟨fun h => by have := kcell_injective (a₁ := (c, x)) (a₂ := (c', x')) h; exact ⟨congrArg Prod.fst this, congrArg Prod.snd this⟩,
   fun ⟨h, h'⟩ => by rw [h, h']⟩

end Cert.KernelIdeal.Moe

end
-- ==== Proof.Contents.lean ====
/-
What the kernel's buffers hold: the partial sums each device forms, what its transfers carry, and the result.
-/
module

public import proofs.«01_k».proof.Proof.Mesh
public import Idealize.ShloMosaic.Lib.Pointwise.Index

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers -/

abbrev xM : Memref sig .tc .vmem S2048x512 .f32 := Memref.whole cc0_stg0_0
abbrev rM : Memref sig .tc .vmem S512x128 .f32 := Memref.whole cc0_stg1_0
abbrev iM : Memref sig .tc .vmem S2048x2 .i32 := Memref.whole cc0_stg2_0
abbrev wM : Memref sig .tc .vmem S8x512x1024 .f32 := Memref.whole cc0_stg3_0
abbrev oM : Memref sig .tc .vmem S2048x1024 .f32 := Memref.whole cc0_stg4_0
abbrev gM : Memref sig .tc .vmem S2048x8 .f32 := Memref.whole cc0_scratch0
abbrev ownA : Memref sig .tc .vmem S512x512 .f32 := Memref.whole cc0_scratch1
abbrev ownB : Memref sig .tc .vmem S512x512 .f32 := Memref.whole cc0_scratch2
abbrev comA : Memref sig .tc .vmem S3x512x512 .f32 := Memref.whole cc0_scratch3
abbrev comB : Memref sig .tc .vmem S3x512x512 .f32 := Memref.whole cc0_scratch4
abbrev zwA : Memref sig .tc .vmem S512x512 .f32 := Memref.whole cc0_scratch5
abbrev zwB : Memref sig .tc .vmem S512x512 .f32 := Memref.whole cc0_scratch6
abbrev z1A : Memref sig .tc .vmem S256x512 .f32 := Memref.whole cc0_scratch7
abbrev z1B : Memref sig .tc .vmem S256x512 .f32 := Memref.whole cc0_scratch8
abbrev z2A : Memref sig .tc .vmem S128x512 .f32 := Memref.whole cc0_scratch9
abbrev z2B : Memref sig .tc .vmem S128x512 .f32 := Memref.whole cc0_scratch10

/-- The slots of a landing buffer of the first ring. -/
abbrev slot0 (M : Memref sig .tc .vmem S3x512x512 .f32) : Memref sig .tc .vmem S512x512 .f32 :=
  (M.slice (Rect.unit (s := S3x512x512) ![0, 0, 0] S1x512x512.size inb_S3x512x512_S1x512x512_0_0_0) (fun _ => rfl)).squeeze S512x512 squeezes_S1x512x512_S512x512
abbrev slot1 (M : Memref sig .tc .vmem S3x512x512 .f32) : Memref sig .tc .vmem S512x512 .f32 :=
  (M.slice (Rect.unit (s := S3x512x512) ![1, 0, 0] S1x512x512.size inb_S3x512x512_S1x512x512_1_0_0) (fun _ => rfl)).squeeze S512x512 squeezes_S1x512x512_S512x512
abbrev slot2 (M : Memref sig .tc .vmem S3x512x512 .f32) : Memref sig .tc .vmem S512x512 .f32 :=
  (M.slice (Rect.unit (s := S3x512x512) ![2, 0, 0] S1x512x512.size inb_S3x512x512_S1x512x512_2_0_0) (fun _ => rfl)).squeeze S512x512 squeezes_S1x512x512_S512x512

/-- The rectangles of the exchanges between planes, within a chunk: the half sent first, the half kept, the quarter sent
    second, the quarter kept. -/
abbrev rS1 (c : Dev nD) : Rect S512x512 := Rect.unit (s := S512x512) (k0_off28 c) S256x512.size (k0_off28_inb c)
abbrev rK1 (c : Dev nD) : Rect S512x512 := Rect.unit (s := S512x512) (k0_off29 c) S256x512.size (k0_off29_inb c)
abbrev rS2 (c : Dev nD) : Rect S512x512 := Rect.unit (s := S512x512) (k0_off30 c) S128x512.size (k0_off30_inb c)
abbrev rK2 (c : Dev nD) : Rect S512x512 := Rect.unit (s := S512x512) (k0_off31 c) S128x512.size (k0_off31_inb c)

/-! ## The inputs and the gates -/

def xin (c : Dev nD) : Vec F S2048x512 .f32 := (win0_0.blk (0 : Fin 1)).view.read (Elt F) ((s₀ m ρ).mem ((c : Thread nD τ).loc main_arg0))
def rin (c : Dev nD) : Vec F S512x128 .f32 := (win0_1.blk (0 : Fin 1)).view.read (Elt F) ((s₀ m ρ).mem ((c : Thread nD τ).loc main_arg1))
def iin (c : Dev nD) : Vec F S2048x2 .i32 := (win0_2.blk (0 : Fin 1)).view.read (Elt F) ((s₀ m ρ).mem ((c : Thread nD τ).loc main_arg2))
def win (c : Dev nD) : Vec F S8x512x1024 .f32 := (win0_3.blk (0 : Fin 1)).view.read (Elt F) ((s₀ m ρ).mem ((c : Thread nD τ).loc main_arg3))

/-- The device's number as the kernel computes it. -/
def wd (c : Dev nD) : BitVec 32 := Scalar.remsi (Scalar.divsi (Dev.word c) 1#32) 16#32

def probs (c : Dev nD) : FVec F S2048x128 .f32 :=
  k0_pay1 (xM.view.readAt (Elt F) (Rect.unit (s := S2048x512) ![0, 0] S2048x512.size inb_S2048x512_S2048x512_0_0).toLoadRect (xin m ρ c))
    (rM.view.readAt (Elt F) (Rect.unit (s := S512x128) ![0, 0] S512x128.size inb_S512x128_S512x128_0_0).toLoadRect (rin m ρ c))
def ix0 (c : Dev nD) : Vec F S2048x1 .i32 :=
  iM.view.readAt (Elt F) (Rect.unit (s := S2048x2) ![0, 0] S2048x1.size inb_S2048x2_S2048x1_0_0).toLoadRect (iin m ρ c)
def ix1 (c : Dev nD) : Vec F S2048x1 .i32 :=
  iM.view.readAt (Elt F) (Rect.unit (s := S2048x2) ![0, 1] S2048x1.size inb_S2048x2_S2048x1_0_1).toLoadRect (iin m ρ c)

/-- The gates of a device's eight experts, token by token, from the router's probabilities and the chosen experts. -/
def gatesOf (v2 : BitVec 32) (p : FVec F S2048x128 .f32) (i0 i1 : Vec F S2048x1 .i32) : FVec F S2048x8 .f32 :=
  k0_pay15 v2 (k0_pay2 i0) (k0_pay3 i1) (k0_pay7 p i0 i1) (k0_pay8 p i0 i1) (k0_pay9 v2 p i0 i1) (k0_pay10 v2 p i0 i1)
    (k0_pay11 (k0_pay2 i0) (k0_pay3 i1) (k0_pay7 p i0 i1) (k0_pay8 p i0 i1) (Scalar.muli v2 8#32) 2#32)
    (k0_pay12 v2 (k0_pay2 i0) (k0_pay3 i1) (k0_pay7 p i0 i1) (k0_pay8 p i0 i1))
    (k0_pay13 v2 (k0_pay2 i0) (k0_pay3 i1) (k0_pay7 p i0 i1) (k0_pay8 p i0 i1))
    (k0_pay14 v2 (k0_pay2 i0) (k0_pay3 i1) (k0_pay7 p i0 i1) (k0_pay8 p i0 i1))
    (Scalar.muli v2 8#32) 6#32
def gates (c : Dev nD) : FVec F S2048x8 .f32 := gatesOf (wd c) (probs m ρ c) (ix0 m ρ c) (ix1 m ρ c)

/-! ## The partial sums -/

/-- One expert's contribution added to the sum so far. -/
def stepV (x : FVec F S512x512 .f32) (g : Vec F S512x1 .f32) (w : Vec F S1x512x512 .f32) (acc : FVec F S512x512 .f32) : FVec F S512x512 .f32 :=
  addf acc (matmul dot_S512x512_S512x512_S512x512_1_0_0_1_n_n none (mulf x (broadcastTo S512x512 g broadcasts_S512x1_S512x512))
    (shapeCast S512x512 w shapeCasts_S1x512x512_S512x512) (constant S512x512 .f32 0x00000000#32))

/-- A device's eight experts on one chunk of tokens and one half of the columns. -/
def halfV (x : Vec F S512x512 .f32) (g0 g1 g2 g3 g4 g5 g6 g7 : Vec F S512x1 .f32) (w : Fin 8 → Vec F S1x512x512 .f32) : FVec F S512x512 .f32 :=
  let x' := shapeCast S512x512 x shapeCasts_S512x512_S512x512
  stepV x' g7 (w 7) (stepV x' g6 (w 6) (stepV x' g5 (w 5) (stepV x' g4 (w 4) (stepV x' g3 (w 3) (stepV x' g2 (w 2)
    (stepV x' g1 (w 1) (stepV x' g0 (w 0) (broadcast S512x512 (Scalar.ofBits .f32 0x00000000#32)))))))))

/-- The reads of the tokens, the gates and the weights. -/
abbrev xat (c : Dev nD) (off : Fin 2 → Nat) (h : ∀ a, off a + S512x512.size a ≤ S2048x512.size a) : Vec F S512x512 .f32 :=
  xM.view.readAt (Elt F) (Rect.unit (s := S2048x512) off S512x512.size h).toLoadRect (xin m ρ c)
abbrev gat (c : Dev nD) (off : Fin 2 → Nat) (h : ∀ a, off a + S512x1.size a ≤ S2048x8.size a) : Vec F S512x1 .f32 :=
  gM.view.readAt (Elt F) (Rect.unit (s := S2048x8) off S512x1.size h).toLoadRect (gates m ρ c)
abbrev wat (c : Dev nD) (off : Fin 3 → Nat) (h : ∀ a, off a + S1x512x512.size a ≤ S8x512x1024.size a) : Vec F S1x512x512 .f32 :=
  wM.view.readAt (Elt F) (Rect.unit (s := S8x512x1024) off S1x512x512.size h).toLoadRect (win m ρ c)

/-- The eight experts' weights in the left half of the columns and in the right half. -/
def wL (c : Dev nD) : Fin 8 → Vec F S1x512x512 .f32 :=
  ![wat m ρ c ![0, 0, 0] inb_S8x512x1024_S1x512x512_0_0_0, wat m ρ c ![1, 0, 0] inb_S8x512x1024_S1x512x512_1_0_0,
    wat m ρ c ![2, 0, 0] inb_S8x512x1024_S1x512x512_2_0_0, wat m ρ c ![3, 0, 0] inb_S8x512x1024_S1x512x512_3_0_0,
    wat m ρ c ![4, 0, 0] inb_S8x512x1024_S1x512x512_4_0_0, wat m ρ c ![5, 0, 0] inb_S8x512x1024_S1x512x512_5_0_0,
    wat m ρ c ![6, 0, 0] inb_S8x512x1024_S1x512x512_6_0_0, wat m ρ c ![7, 0, 0] inb_S8x512x1024_S1x512x512_7_0_0]
def wR (c : Dev nD) : Fin 8 → Vec F S1x512x512 .f32 :=
  ![wat m ρ c ![0, 0, 512] inb_S8x512x1024_S1x512x512_0_0_512, wat m ρ c ![1, 0, 512] inb_S8x512x1024_S1x512x512_1_0_512,
    wat m ρ c ![2, 0, 512] inb_S8x512x1024_S1x512x512_2_0_512, wat m ρ c ![3, 0, 512] inb_S8x512x1024_S1x512x512_3_0_512,
    wat m ρ c ![4, 0, 512] inb_S8x512x1024_S1x512x512_4_0_512, wat m ρ c ![5, 0, 512] inb_S8x512x1024_S1x512x512_5_0_512,
    wat m ρ c ![6, 0, 512] inb_S8x512x1024_S1x512x512_6_0_512, wat m ρ c ![7, 0, 512] inb_S8x512x1024_S1x512x512_7_0_512]

/-- The device's own chunk, in one half of the columns (`w` names the half); -/
def own (c : Dev nD) (w : Fin 8 → Vec F S1x512x512 .f32) : FVec F S512x512 .f32 :=
  halfV (xat m ρ c (k0_off1 c) (k0_off1_inb c)) (gat m ρ c (k0_off2 c) (k0_off2_inb c)) (gat m ρ c (k0_off3 c) (k0_off3_inb c))
    (gat m ρ c (k0_off4 c) (k0_off4_inb c)) (gat m ρ c (k0_off5 c) (k0_off5_inb c)) (gat m ρ c (k0_off6 c) (k0_off6_inb c))
    (gat m ρ c (k0_off7 c) (k0_off7_inb c)) (gat m ρ c (k0_off8 c) (k0_off8_inb c)) (gat m ρ c (k0_off9 c) (k0_off9_inb c)) w
/-- the chunks it adds to what comes from the left, -/
def addA (s : Fin 3) (c : Dev nD) : FVec F S512x512 .f32 :=
  halfV (xat m ρ c (k0_off10 c (BitVec.ofNat 32 s.val)) (k0_off10_inb c s)) (gat m ρ c (k0_off11 c (BitVec.ofNat 32 s.val)) (k0_off11_inb c s))
    (gat m ρ c (k0_off12 c (BitVec.ofNat 32 s.val)) (k0_off12_inb c s)) (gat m ρ c (k0_off13 c (BitVec.ofNat 32 s.val)) (k0_off13_inb c s))
    (gat m ρ c (k0_off14 c (BitVec.ofNat 32 s.val)) (k0_off14_inb c s)) (gat m ρ c (k0_off15 c (BitVec.ofNat 32 s.val)) (k0_off15_inb c s))
    (gat m ρ c (k0_off16 c (BitVec.ofNat 32 s.val)) (k0_off16_inb c s)) (gat m ρ c (k0_off17 c (BitVec.ofNat 32 s.val)) (k0_off17_inb c s))
    (gat m ρ c (k0_off18 c (BitVec.ofNat 32 s.val)) (k0_off18_inb c s)) (wL m ρ c)
/-- and to what comes from the right. -/
def addB (s : Fin 3) (c : Dev nD) : FVec F S512x512 .f32 :=
  halfV (xat m ρ c (k0_off19 c (BitVec.ofNat 32 s.val)) (k0_off19_inb c s)) (gat m ρ c (k0_off20 c (BitVec.ofNat 32 s.val)) (k0_off20_inb c s))
    (gat m ρ c (k0_off21 c (BitVec.ofNat 32 s.val)) (k0_off21_inb c s)) (gat m ρ c (k0_off22 c (BitVec.ofNat 32 s.val)) (k0_off22_inb c s))
    (gat m ρ c (k0_off23 c (BitVec.ofNat 32 s.val)) (k0_off23_inb c s)) (gat m ρ c (k0_off24 c (BitVec.ofNat 32 s.val)) (k0_off24_inb c s))
    (gat m ρ c (k0_off25 c (BitVec.ofNat 32 s.val)) (k0_off25_inb c s)) (gat m ρ c (k0_off26 c (BitVec.ofNat 32 s.val)) (k0_off26_inb c s))
    (gat m ρ c (k0_off27 c (BitVec.ofNat 32 s.val)) (k0_off27_inb c s)) (wR m ρ c)

/-- The running sums of the first ring: in the left columns they travel to the right, -/
def A0 (c : Dev nD) : FVec F S512x512 .f32 := own m ρ c (wL m ρ c)
def A1 (c : Dev nD) : FVec F S512x512 .f32 := addf (A0 m ρ (lf c)) (addA m ρ 0 c)
def A2 (c : Dev nD) : FVec F S512x512 .f32 := addf (A1 m ρ (lf c)) (addA m ρ 1 c)
def A3 (c : Dev nD) : FVec F S512x512 .f32 := addf (A2 m ρ (lf c)) (addA m ρ 2 c)
/-- in the right columns to the left. -/
def B0 (c : Dev nD) : FVec F S512x512 .f32 := own m ρ c (wR m ρ c)
def B1 (c : Dev nD) : FVec F S512x512 .f32 := addf (B0 m ρ (rt c)) (addB m ρ 0 c)
def B2 (c : Dev nD) : FVec F S512x512 .f32 := addf (B1 m ρ (rt c)) (addB m ρ 1 c)
def B3 (c : Dev nD) : FVec F S512x512 .f32 := addf (B2 m ρ (rt c)) (addB m ρ 2 c)

/-- The exchanges between planes: what is sent first, the working buffer after the first exchange, what is sent second, and
    the finished quarter. -/
def sentA1 (c : Dev nD) : Vec F S256x512 .f32 := (zwA.slice (rS1 c) (fun _ => rfl)).view.read (Elt F) (A3 m ρ c)
def sentB1 (c : Dev nD) : Vec F S256x512 .f32 := (zwB.slice (rS1 c) (fun _ => rfl)).view.read (Elt F) (B3 m ρ c)
def midA (c : Dev nD) : Vec F S512x512 .f32 :=
  (zwA.access (rK1 c)).write (Elt F) (A3 m ρ c) (k0_pay72 (zwA.view.readAt (Elt F) (rK1 c).toLoadRect (A3 m ρ c)) (sentA1 m ρ (z1 c))) Finset.univ
def midB (c : Dev nD) : Vec F S512x512 .f32 :=
  (zwB.access (rK1 c)).write (Elt F) (B3 m ρ c) (k0_pay73 (zwB.view.readAt (Elt F) (rK1 c).toLoadRect (B3 m ρ c)) (sentB1 m ρ (z1 c))) Finset.univ
def sentA2 (c : Dev nD) : Vec F S128x512 .f32 := (zwA.slice (rS2 c) (fun _ => rfl)).view.read (Elt F) (midA m ρ c)
def sentB2 (c : Dev nD) : Vec F S128x512 .f32 := (zwB.slice (rS2 c) (fun _ => rfl)).view.read (Elt F) (midB m ρ c)
def doneA (c : Dev nD) : Vec F S128x512 .f32 := k0_pay74 (zwA.view.readAt (Elt F) (rK2 c).toLoadRect (midA m ρ c)) (sentA2 m ρ (z2 c))
def doneB (c : Dev nD) : Vec F S128x512 .f32 := k0_pay75 (zwB.view.readAt (Elt F) (rK2 c).toLoadRect (midB m ρ c)) (sentB2 m ρ (z2 c))

/-! ## The result -/

set_option backward.proofsInPublic true in
/-- The device that finishes row `r` in the left columns, and in the right columns: the ring place from the chunk, the plane
    from the quarter. -/
def finA (r : Fin 2048) : Dev nD := ⟨4 * (2 * (r.val % 256 / 128) + r.val % 512 / 256) + (r.val / 512 + 3) % 4, by have := r.isLt; simp only [nD]; omega⟩
set_option backward.proofsInPublic true in
def finB (r : Fin 2048) : Dev nD := ⟨4 * (2 * (r.val % 256 / 128) + r.val % 512 / 256) + (r.val / 512 + 1) % 4, by have := r.isLt; simp only [nD]; omega⟩

set_option backward.proofsInPublic true in
/-- The whole result: each element is the finishing device's. -/
def res : Vec F S2048x1024 .f32 := fun i =>
  if h : (i 1).val < 512
  then doneA m ρ (finA (i 0)) (ix2 (n0 := 128) (n1 := 512) ⟨(i 0).val % 128, Nat.mod_lt _ (by decide)⟩ ⟨(i 1).val, h⟩)
  else doneB m ρ (finB (i 0)) (ix2 (n0 := 128) (n1 := 512) ⟨(i 0).val % 128, Nat.mod_lt _ (by decide)⟩
    ⟨(i 1).val - 512, by have h2 : (i 1).val < 1024 := (i 1).isLt; omega⟩)

end Cert.KernelIdeal.Moe

end
-- ==== Proof.Protocol.lean ====
/-
The kernel's protocol: what each transfer and each barrier signal hands over, what a device owes, in what order it may wait.
-/
module

public import proofs.«01_k».proof.Proof.Contents

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Regions of the result -/

/-- Rows `r` to `r + n` of the left (`h = 0`) or right (`h = 1`) half of the columns. -/
def box (r n h : ℕ) : Finset S2048x1024.Idx :=
  Finset.univ.filter fun i => (r ≤ (i 0).val ∧ (i 0).val < r + n) ∧ 512 * h ≤ (i 1).val ∧ (i 1).val < 512 * h + 512

/-- A region of a device's result buffer holding the result. -/
def outP (c : Dev nD) (q : PosShare TreeShare) (r n h : ℕ) : sProp 𝕄 :=
  (c : Thread nD τ).loc cc0_stg4_0 ↦[box r n h]{q} res m ρ
/-- The same at any contents. -/
def outAny (c : Dev nD) (r n h : ℕ) : sProp 𝕄 :=
  iprop(∃ f : Buf (Elt F) ((c : Thread nD τ).loc cc0_stg4_0), (c : Thread nD τ).loc cc0_stg4_0 ↦[box r n h]{fullShare} f)
/-- The elements a memref names on a device, at any contents. -/
def any (c : Dev nD) {sp : Space} {s : Shape} {e : EltTy} (M : Memref sig .tc sp s e) : sProp 𝕄 :=
  iprop(∃ f : Buf (Elt F) (M.view.loc (c : Thread nD τ)), M.view.loc (c : Thread nD τ) ↦[M.view.set]{fullShare} f)

omit [FloatOps F] in
instance outP_storable (c : Dev nD) (q) (r n h : ℕ) : BI.Storable (upEmb : UEmb _ 𝕄) (outP m ρ c q r n h) := by unfold outP; infer_instance
omit [FloatOps F] in
instance outAny_storable (c : Dev nD) (r n h : ℕ) : BI.Storable (upEmb : UEmb _ 𝕄) (outAny (F := F) c r n h) := by unfold outAny; infer_instance
omit [FloatOps F] in
instance any_storable (c : Dev nD) {sp : Space} {s : Shape} {e : EltTy} (M : Memref sig .tc sp s e) :
    BI.Storable (upEmb : UEmb _ 𝕄) (any (F := F) c M) := by unfold any; infer_instance

/-! ## What is handed over -/

/-- Where transfer `t` of device `c` lands, at its destination, at any contents. -/
def land (c : Dev nD) : Fin 28 → sProp 𝕄 := ![
  any (dst 0 c) (slot0 comA), any (dst 1 c) (slot0 comB), any (dst 2 c) (slot1 comA), any (dst 3 c) (slot1 comB),
  any (dst 4 c) (slot2 comA), any (dst 5 c) (slot2 comB), any (dst 6 c) z1A, any (dst 7 c) z1B, any (dst 8 c) z2A, any (dst 9 c) z2B,
  outAny (dst 10 c) (rowA c + k2 c) 128 0, outAny (dst 11 c) (rowA c + k2 c) 128 0,
  outAny (dst 12 c) (rowB c + k2 c) 128 1, outAny (dst 13 c) (rowB c + k2 c) 128 1,
  outAny (dst 14 c) (rowA c + s2 c) 128 0, outAny (dst 15 c) (rowB c + s2 c) 128 1,
  outAny (dst 16 c) (cA c 0) 256 0, outAny (dst 17 c) (cB c 0) 256 1, outAny (dst 18 c) (cA c 0 + 256) 256 0, outAny (dst 19 c) (cB c 0 + 256) 256 1,
  outAny (dst 20 c) (cA c 1) 256 0, outAny (dst 21 c) (cB c 1) 256 1, outAny (dst 22 c) (cA c 1 + 256) 256 0, outAny (dst 23 c) (cB c 1 + 256) 256 1,
  outAny (dst 24 c) (cA c 2) 256 0, outAny (dst 25 c) (cB c 2) 256 1, outAny (dst 26 c) (cA c 2 + 256) 256 0, outAny (dst 27 c) (cB c 2 + 256) 256 1]

/-- What the landing of transfer `t` hands its receiver `n`; -/
def recvPay (n : Dev nD) : Fin 28 → sProp 𝕄 := ![
  owns n (slot0 comA) fullShare (A0 m ρ (lf n)), owns n (slot0 comB) fullShare (B0 m ρ (rt n)),
  owns n (slot1 comA) fullShare (A1 m ρ (lf n)), owns n (slot1 comB) fullShare (B1 m ρ (rt n)),
  owns n (slot2 comA) fullShare (A2 m ρ (lf n)), owns n (slot2 comB) fullShare (B2 m ρ (rt n)),
  owns n z1A fullShare (sentA1 m ρ (z1 n)), owns n z1B fullShare (sentB1 m ρ (z1 n)),
  owns n z2A fullShare (sentA2 m ρ (z2 n)), owns n z2B fullShare (sentB2 m ρ (z2 n)),
  outP m ρ n fullShare (rowA (z2 n) + k2 (z2 n)) 128 0, outP m ρ n fullShare (rowA (z1 n) + k2 (z1 n)) 128 0,
  outP m ρ n fullShare (rowB (z2 n) + k2 (z2 n)) 128 1, outP m ρ n fullShare (rowB (z1 n) + k2 (z1 n)) 128 1,
  outP m ρ n fullShare (rowA (z1 n) + s2 (z1 n)) 128 0, outP m ρ n fullShare (rowB (z1 n) + s2 (z1 n)) 128 1,
  outP m ρ n fullShare (cA (lf n) 0) 256 0, outP m ρ n fullShare (cB (rt n) 0) 256 1,
  outP m ρ n fullShare (cA (lf n) 0 + 256) 256 0, outP m ρ n fullShare (cB (rt n) 0 + 256) 256 1,
  outP m ρ n fullShare (cA (lf n) 1) 256 0, outP m ρ n fullShare (cB (rt n) 1) 256 1,
  outP m ρ n fullShare (cA (lf n) 1 + 256) 256 0, outP m ρ n fullShare (cB (rt n) 1 + 256) 256 1,
  outP m ρ n fullShare (cA (lf n) 2) 256 0, outP m ρ n fullShare (cB (rt n) 2) 256 1,
  outP m ρ n fullShare (cA (lf n) 2 + 256) 256 0, outP m ρ n fullShare (cB (rt n) 2 + 256) 256 1]

/-- and what the end of its reading hands back to its sender. -/
def sendPay (c : Dev nD) : Fin 28 → sProp 𝕄 := ![
  any c ownA, any c ownB, any c (slot0 comA), any c (slot0 comB), any c (slot1 comA), any c (slot1 comB),
  any c (zwA.slice (rS1 c) (fun _ => rfl)), any c (zwB.slice (rS1 c) (fun _ => rfl)),
  any c (zwA.slice (rS2 c) (fun _ => rfl)), any c (zwB.slice (rS2 c) (fun _ => rfl)),
  outP m ρ c fullShare.left (rowA c + k2 c) 128 0, outP m ρ c fullShare.right (rowA c + k2 c) 128 0,
  outP m ρ c fullShare.left (rowB c + k2 c) 128 1, outP m ρ c fullShare.right (rowB c + k2 c) 128 1,
  outP m ρ c fullShare (rowA c + s2 c) 128 0, outP m ρ c fullShare (rowB c + s2 c) 128 1,
  outP m ρ c fullShare (cA c 0) 256 0, outP m ρ c fullShare (cB c 0) 256 1, outP m ρ c fullShare (cA c 0 + 256) 256 0, outP m ρ c fullShare (cB c 0 + 256) 256 1,
  outP m ρ c fullShare (cA c 1) 256 0, outP m ρ c fullShare (cB c 1) 256 1, outP m ρ c fullShare (cA c 1 + 256) 256 0, outP m ρ c fullShare (cB c 1 + 256) 256 1,
  outP m ρ c fullShare (cA c 2) 256 0, outP m ρ c fullShare (cB c 2) 256 1, outP m ρ c fullShare (cA c 2 + 256) 256 0, outP m ρ c fullShare (cB c 2 + 256) 256 1]

/-- The neighbour in direction `d` hands `c` the landing places of all of `c`'s transfers in that direction. -/
def barPay (c : Dev nD) : Fin 4 → sProp 𝕄 := ![
  iprop(land c 0 ∗ land c 2 ∗ land c 4 ∗ land c 16 ∗ land c 18 ∗ land c 20 ∗ land c 22 ∗ land c 24 ∗ land c 26),
  iprop(land c 1 ∗ land c 3 ∗ land c 5 ∗ land c 17 ∗ land c 19 ∗ land c 21 ∗ land c 23 ∗ land c 25 ∗ land c 27),
  iprop(land c 6 ∗ land c 7 ∗ land c 11 ∗ land c 13 ∗ land c 14 ∗ land c 15),
  iprop(land c 8 ∗ land c 9 ∗ land c 10 ∗ land c 12)]

theorem vec_all {α : Type*} {p : α → Prop} {n : ℕ} {a : α} {v : Fin n → α} (h : p a) (h' : ∀ i, p (v i)) : ∀ i, p (Matrix.vecCons a v i) :=
  Fin.cases h h'

omit [FloatOps F] in
instance land_storable (c : Dev nD) : ∀ t : Fin 28, BI.Storable (upEmb : UEmb _ 𝕄) (land (F := F) c t) := by
  unfold land
  iterate 10 refine vec_all (p := fun P => BI.Storable upEmb P) (any_storable _ _) ?_
  iterate 18 refine vec_all (p := fun P => BI.Storable upEmb P) (outAny_storable _ _ _ _) ?_
  exact fun i => i.elim0
instance sendPay_storable (c : Dev nD) : ∀ t : Fin 28, BI.Storable (upEmb : UEmb _ 𝕄) (sendPay m ρ c t) := by
  unfold sendPay
  iterate 10 refine vec_all (p := fun P => BI.Storable upEmb P) (any_storable _ _) ?_
  iterate 18 refine vec_all (p := fun P => BI.Storable upEmb P) (outP_storable _ _ _ _ _ _ _) ?_
  exact fun i => i.elim0
instance owns_store (c : Dev nD) {sp : Space} {s : Shape} {e : EltTy} (M : Memref sig .tc sp s e) (X : s.Idx → Elt F e) :
    BI.Storable (upEmb : UEmb _ 𝕄) (owns (c : Thread nD τ) M fullShare X : sProp 𝕄) := by unfold owns; infer_instance
instance recvPay_storable (c : Dev nD) : ∀ t : Fin 28, BI.Storable (upEmb : UEmb _ 𝕄) (recvPay m ρ c t) := by
  unfold recvPay
  iterate 10 refine vec_all (p := fun P => BI.Storable upEmb P) (owns_store _ _ _) ?_
  iterate 18 refine vec_all (p := fun P => BI.Storable upEmb P) (outP_storable _ _ _ _ _ _ _) ?_
  exact fun i => i.elim0
omit [FloatOps F] in
instance barPay_storable (c : Dev nD) (d : Fin 4) : BI.Storable (upEmb : UEmb _ 𝕄) (barPay (F := F) c d) := by
  match d with
  | 0 => show BI.Storable _ (iprop(_ ∗ _)); infer_instance
  | 1 => show BI.Storable _ (iprop(_ ∗ _)); infer_instance
  | 2 => show BI.Storable _ (iprop(_ ∗ _)); infer_instance
  | 3 => show BI.Storable _ (iprop(_ ∗ _)); infer_instance

/-! ## The schedule -/

abbrev n512 : ℕ := (slot0 comA).view.dmaCredit
abbrev n256 : ℕ := z1A.view.dmaCredit
abbrev n128 : ℕ := z2A.view.dmaCredit
/-- The credit of each transfer. -/
def cr : Fin 28 → ℕ := ![n512, n512, n512, n512, n512, n512, n256, n256, n128, n128, n128, n128, n128, n128, n128, n128,
  n256, n256, n256, n256, n256, n256, n256, n256, n256, n256, n256, n256]
theorem cr_pos (t : Fin 28) : 0 < cr t := by
  have h1 : 0 < n512 := View.dmaCredit_pos _ (by decide)
  have h2 : 0 < n256 := View.dmaCredit_pos _ (by decide)
  have h3 : 0 < n128 := View.dmaCredit_pos _ (by decide)
  revert t
  unfold cr
  repeat refine vec_all (by first | exact h1 | exact h2 | exact h3) ?_
  exact fun i => i.elim0

/-- One round: a barrier cell has one duty of one unit for each direction, a transfer's cell one duty of its credit. -/
def rd : Rounds.Schedule (GSem nD τ sig) (Fin 4) 𝕄 where
  duties g r := if r = 0 ∧ g.1.2 = .tc then
      match decode g.2 with | none => ∅ | some none => Finset.univ | some (some _) => {0}
    else ∅
  unitless _ := False
  amount g _ _ := match decode g.2 with | some (some (_, t)) => cr t | _ => 1
  payload g _ d := match decode g.2 with
    | none => iprop(emp)
    | some none => barPay g.1.1 d
    | some (some (false, t)) => sendPay m ρ g.1.1 t
    | some (some (true, t)) => recvPay m ρ g.1.1 t
  amount_pos g _ _ _ := by
    show 0 < (match decode g.2 with | some (some (_, t)) => cr t | _ => 1)
    split
    · exact cr_pos _
    · exact Nat.one_pos

instance rd_payload_storable (g : GSem nD τ sig) (r : ℕ) (d : Fin 4) :
    BI.Storable (upEmb : UEmb _ 𝕄) ((rd (F := F) m ρ).payload g r d) := by
  show BI.Storable upEmb (match decode g.2 with
    | none => iprop(emp)
    | some none => barPay g.1.1 d
    | some (some (false, t)) => sendPay m ρ g.1.1 t
    | some (some (true, t)) => recvPay m ρ g.1.1 t)
  split <;> infer_instance

section Sched
variable (c : Dev nD) (t : Fin 28)

theorem duties_bar : (rd (F := F) m ρ).duties (barCell c) 0 = Finset.univ := by
  dsimp only [rd, kcell]; rw [decode_csem, if_pos ⟨rfl, rfl⟩]
theorem duties_send : (rd (F := F) m ρ).duties (sendCell c t) 0 = {0} := by
  dsimp only [rd, kcell]; rw [decode_csem, if_pos ⟨rfl, rfl⟩]
theorem duties_recv : (rd (F := F) m ρ).duties (recvCell c t) 0 = {0} := by
  dsimp only [rd, kcell]; rw [decode_csem, if_pos ⟨rfl, rfl⟩]
theorem duties_later (g : GSem nD τ sig) : ∀ r, 1 ≤ r → (rd (F := F) m ρ).duties g r = ∅ :=
  fun r hr => by dsimp only [rd]; rw [if_neg fun h => by omega]

theorem amount_bar (d : Fin 4) : (rd (F := F) m ρ).amount (barCell c) 0 d = 1 := by dsimp only [rd, kcell]; rw [decode_csem]
theorem amount_send (d : Fin 4) : (rd (F := F) m ρ).amount (sendCell c t) 0 d = cr t := by dsimp only [rd, kcell]; rw [decode_csem]
theorem amount_recv (d : Fin 4) : (rd (F := F) m ρ).amount (recvCell c t) 0 d = cr t := by dsimp only [rd, kcell]; rw [decode_csem]

theorem expect_bar : (rd (F := F) m ρ).expect (barCell c) 0 = 4 := by
  unfold Schedule.expect Schedule.amountOf
  rw [duties_bar, Finset.sum_congr rfl fun d _ => amount_bar m ρ c d]; rfl
theorem expect_send : (rd (F := F) m ρ).expect (sendCell c t) 0 = cr t := by
  unfold Schedule.expect Schedule.amountOf; rw [duties_send, Finset.sum_singleton, amount_send]
theorem expect_recv : (rd (F := F) m ρ).expect (recvCell c t) 0 = cr t := by
  unfold Schedule.expect Schedule.amountOf; rw [duties_recv, Finset.sum_singleton, amount_recv]

theorem payload_bar (d : Fin 4) : (rd (F := F) m ρ).payload (barCell c) 0 d = barPay c d := by dsimp only [rd, kcell]; rw [decode_csem]
theorem payload_send (d : Fin 4) : (rd (F := F) m ρ).payload (sendCell c t) 0 d = sendPay m ρ c t := by dsimp only [rd, kcell]; rw [decode_csem]
theorem payload_recv (d : Fin 4) : (rd (F := F) m ρ).payload (recvCell c t) 0 d = recvPay m ρ c t := by dsimp only [rd, kcell]; rw [decode_csem]

theorem rest_bar : bigSep ((rd (F := F) m ρ).duties (barCell c) 0 \ ∅) (fun d => (rd (F := F) m ρ).payload (barCell c) 0 d)
    = iprop(barPay c 0 ∗ barPay c 1 ∗ barPay c 2 ∗ barPay c 3) := by
  rw [Finset.sdiff_empty, duties_bar, bigSep_univ_eq_bigSepL [0, 1, 2, 3] (by decide) (by decide), bigSepL_cons_cons, bigSepL_cons_cons,
    bigSepL_cons_cons, bigSepL_singleton, payload_bar, payload_bar, payload_bar, payload_bar]
  rfl
theorem rest_send : bigSep ((rd (F := F) m ρ).duties (sendCell c t) 0 \ ∅) (fun d => (rd (F := F) m ρ).payload (sendCell c t) 0 d) = sendPay m ρ c t := by
  rw [Finset.sdiff_empty, duties_send, bigSep_singleton, payload_send]
theorem rest_recv : bigSep ((rd (F := F) m ρ).duties (recvCell c t) 0 \ ∅) (fun d => (rd (F := F) m ρ).payload (recvCell c t) 0 d) = recvPay m ρ c t := by
  rw [Finset.sdiff_empty, duties_recv, bigSep_singleton, payload_recv]

end Sched

/-! ## What a device owes, and the levels -/

/-- What device `c` still owes before its transfer number `k`: the credits of the transfers from `k` on. -/
def O (c : Dev nD) (k : ℕ) : CellTallies nD τ sig Unit :=
  ∑ t ∈ Finset.univ.filter (fun t : Fin 28 => k ≤ t.val), tallyAt (recvCell (dst t c) t) () (cr t)

theorem O_step (c : Dev nD) (t : Fin 28) : O c t.val = O c (t.val + 1) + tallyAt (recvCell (dst t c) t) () (cr t) := by
  unfold O
  rw [show Finset.univ.filter (fun s : Fin 28 => t.val ≤ s.val) = insert t (Finset.univ.filter (fun s : Fin 28 => t.val + 1 ≤ s.val)) from by
    ext s; simp only [Finset.mem_filter, Finset.mem_univ, true_and, Finset.mem_insert, Fin.ext_iff]; omega,
    Finset.sum_insert (by simp), add_comm]
theorem O_end (c : Dev nD) : O c 28 = 0 := by
  unfold O; rw [Finset.sum_eq_zero]
  intro t ht; have := (Finset.mem_filter.mp ht).2; have := t.isLt; omega

/-- Before its barrier signals it owes those too; each signal peels the last one off. -/
def O3 (c : Dev nD) : CellTallies nD τ sig Unit := O c 0 + tallyAt (barCell (back 3 c)) () 1
def O2 (c : Dev nD) : CellTallies nD τ sig Unit := O3 c + tallyAt (barCell (back 2 c)) () 1
def O1 (c : Dev nD) : CellTallies nD τ sig Unit := O2 c + tallyAt (barCell (back 1 c)) () 1
def O0 (c : Dev nD) : CellTallies nD τ sig Unit := O1 c + tallyAt (barCell (back 0 c)) () 1

def L (g : GSem nD τ sig) : Finset Unit := if g.1.2 = .tc then {()} else ∅
/-- Barrier cells stand at level 1, the receive cell of transfer `t` at `2 + t`, everything else at 0. -/
def lv (g : GSem nD τ sig) (_ : Unit) : ℕ := match decode g.2 with
  | some none => 1
  | some (some (true, t)) => 2 + t.val
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv, kcell]; rw [decode_csem]
theorem lv_send (c : Dev nD) (t : Fin 28) : lv (sendCell c t) () = 0 := by dsimp only [lv, kcell]; rw [decode_csem]
theorem lv_recv (c : Dev nD) (t : Fin 28) : lv (recvCell c t) () = 2 + t.val := by dsimp only [lv, kcell]; rw [decode_csem]

theorem tally_pos {g g' : GSem nD τ sig} {u : Unit} {n : ℕ} (h : 0 < tallyAt g () n g' u) : g' = g := by
  rw [tallyAt_apply] at h
  by_contra hn
  rw [if_neg (fun h' => hn h'.1)] at h
  exact Nat.lt_irrefl 0 h

theorem O_pos {c : Dev nD} {k : ℕ} {g : GSem nD τ sig} {u : Unit} (h : 0 < O c k g u) : ∃ t : Fin 28, k ≤ t.val ∧ g = recvCell (dst t c) t := by
  unfold O at h
  rw [Finset.sum_apply, Finsupp.finset_sum_apply] at h
  obtain ⟨t, ht, hp⟩ := Finset.exists_ne_zero_of_sum_ne_zero (Nat.pos_iff_ne_zero.mp h)
  exact ⟨t, (Finset.mem_filter.mp ht).2, tally_pos (Nat.pos_of_ne_zero hp)⟩

theorem add_pos_cases {f f' : CellTallies nD τ sig Unit} {g : GSem nD τ sig} {u : Unit} (h : 0 < (f + f') g u) : 0 < f g u ∨ 0 < f' g u := by
  rw [Pi.add_apply, Finsupp.add_apply] at h; omega

theorem O0_pos {c : Dev nD} {g : GSem nD τ sig} {u : Unit} (h : 0 < O0 c g u) :
    (∃ t : Fin 28, g = recvCell (dst t c) t) ∨ ∃ d, g = barCell (back d c) := by
  unfold O0 O1 O2 O3 at h
  rcases add_pos_cases h with h | h
  · rcases add_pos_cases h with h | h
    · rcases add_pos_cases h with h | h
      · rcases add_pos_cases h with h | h
        · obtain ⟨t, -, ht⟩ := O_pos h; exact .inl ⟨t, ht⟩
        · exact .inr ⟨3, tally_pos h⟩
      · exact .inr ⟨2, tally_pos h⟩
    · exact .inr ⟨1, tally_pos h⟩
  · exact .inr ⟨0, tally_pos h⟩

/-- A device may wait on a cell whose level is below the receive cells it still owes. -/
theorem mayWait_O (c : Dev nD) (x : CI) (k cut : ℕ) (hx : lv (kcell c x) () ≤ cut) (hk : cut < 2 + k) :
    (levAts L lv : sProp 𝕄) ⊢ MayWait (c : Thread nD τ) (csem x) () (O c k) :=
  MayOwe.of_cut (L := L) (lev := lv) cut (fun p hp => by rw [Finset.mem_singleton.mp hp, L_tc]; exact Finset.mem_singleton_self _)
    (fun g u hg => by obtain ⟨t, -, rfl⟩ := O_pos hg; exact Finset.mem_singleton_self _)
    (fun p hp => by rw [Finset.mem_singleton.mp hp]; exact hx)
    (fun g u hg => by obtain ⟨t, ht, rfl⟩ := O_pos hg; rw [lv_recv]; omega)

theorem mayWait_bar (c : Dev nD) : (levAts L lv : sProp 𝕄) ⊢ MayWait (c : Thread nD τ) (.reg barS) () (O c 0) :=
  mayWait_O c none 0 1 (by rw [lv_bar]) (by omega)
theorem mayWait_send (c : Dev nD) (t : Fin 28) (k : ℕ) : (levAts L lv : sProp 𝕄) ⊢ MayWait (c : Thread nD τ) (.dma (sendS t)) () (O c k) :=
  mayWait_O c (some (false, t)) k 0 (by rw [lv_send]) (by omega)
theorem mayWait_recv (c : Dev nD) (t : Fin 28) (k : ℕ) (h : t.val < k) :
    (levAts L lv : sProp 𝕄) ⊢ MayWait (c : Thread nD τ) (.dma (recvS t)) () (O c k) :=
  mayWait_O c (some (true, t)) k (2 + t.val) (by rw [lv_recv]) (by omega)

/-- At launch, and at the end, it may wait on any cell outside the protocol. -/
theorem mayWait_stage (c : Dev nD) (q : DmaSem sig) (hq : ∀ t, q ≠ recvS t) (O : CellTallies nD τ sig Unit) (hO : O = O0 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O0_pos hg with ⟨t, rfl⟩ | ⟨d, rfl⟩ <;> exact Finset.mem_singleton_self _)
      (fun p hp => ?_)
      (fun g u hg => by
        rcases O0_pos hg with ⟨t, rfl⟩ | ⟨d, rfl⟩
        · rw [lv_recv]; omega
        · rw [lv_bar]; omega)
    rw [Finset.mem_singleton.mp hp]
    show lv ((c : Thread nD τ), .dma q) () ≤ 0
    dsimp only [lv]
    cases hd : decode (.dma q) with
    | none => exact le_refl _
    | some x =>
      have hx : csem x = .dma q := csem_of_decode hd
      match x, hx with
      | some (false, t), _ => exact le_refl _
      | some (true, t), hx => exact absurd (by injection hx with h; exact h.symm) (hq t)
  · rw [MayWait_zero]; iintro -; iempintro

end Cert.KernelIdeal.Moe

end
-- ==== Proof.Rules.lean ====
/-
One rule for each kind of step of the kernel: a transfer, the two waits on it, a barrier signal, the barrier wait, loads and stores.
-/
module

public import proofs.«01_k».proof.Proof.Protocol

@[expose] public section

set_option maxRecDepth 20000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

abbrev 𝒱₀ : Variants := Variants.none

/-- A program of device `c` run to a postcondition. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What a device knows and holds -/

/-- Every cell's invariant, that every cell has reached round 0, and the levels. -/
def Env : sProp 𝕄 :=
  iprop((bigSep Finset.univ fun p : Dev nD × CI => cellInv ER (rd m ρ) (K p) (kcell p.1 p.2))
    ∗ (bigSep Finset.univ fun p : Dev nD × CI => reached ER (kcell p.1 p.2) 0) ∗ levAts L lv)

instance Env_persistent : BI.Persistent (Env m ρ K) := by unfold Env; infer_instance

theorem env_inv (p : Dev nD × CI) : Env m ρ K ⊢ cellInv ER (rd m ρ) (K p) (kcell p.1 p.2) := by
  unfold Env; iintro ⟨H, -, -⟩
  have h : iprop(bigSep Finset.univ fun p : Dev nD × CI => cellInv ER (rd m ρ) (K p) (kcell p.1 p.2)) ⊢ cellInv ER (rd m ρ) (K p) (kcell p.1 p.2) :=
    bigSep_elim (Finset.mem_univ p)
  iapply h; iexact H
theorem env_reached (p : Dev nD × CI) : Env m ρ K ⊢ reached ER (kcell p.1 p.2) 0 := by
  unfold Env; iintro ⟨-, H, -⟩
  have h : iprop(bigSep Finset.univ fun p : Dev nD × CI => (reached ER (kcell p.1 p.2) 0 : sProp 𝕄)) ⊢ reached ER (kcell p.1 p.2) 0 :=
    bigSep_elim (Finset.mem_univ p)
  iapply h; iexact H
theorem env_lev : Env m ρ K ⊢ levAts L lv := by
  unfold Env; iintro ⟨-, -, H⟩; iexact H

/-- A transfer of device `c` not yet started: the tokens it is paid with, the positions of its cells, the credit promised to
    its receive cell; -/
def T0 (c : Dev nD) (t : Fin 28) : sProp 𝕄 :=
  iprop((dutyTok ER (sendCell c t) 0 0 ∗ dutyTok ER (recvCell (dst t c) t) 0 0)
    ∗ atPos ER (sendCell c t) 0 ∅ 0 ∗ atPos ER (recvCell c t) 0 ∅ 0 ∗ cred (tallyAt (recvCell c t) () (cr t)))
/-- started; -/
def T1 (c : Dev nD) (t : Fin 28) : sProp 𝕄 :=
  iprop(cred (tallyAt (sendCell c t) () (cr t)) ∗ atPos ER (sendCell c t) 0 ∅ 0 ∗ atPos ER (recvCell c t) 0 ∅ 0 ∗ cred (tallyAt (recvCell c t) () (cr t)))
/-- known to have left; -/
def T2 (c : Dev nD) (t : Fin 28) : sProp 𝕄 :=
  iprop(semVal (sendCell c t) 0 ∗ atPos ER (recvCell c t) 0 ∅ 0 ∗ cred (tallyAt (recvCell c t) () (cr t)))
/-- and its counterpart known to have arrived. -/
def T3 (c : Dev nD) (t : Fin 28) : sProp 𝕄 := iprop(semVal (sendCell c t) 0 ∗ semVal (recvCell c t) 0)
/-- What device `c` owes before its transfer number `k`. -/
def Ow (c : Dev nD) (k : ℕ) : sProp 𝕄 := iprop(∃ W, owes (c : Thread nD τ) (O c k) W)

theorem sendCell_eq (c : Dev nD) (t : Fin 28) : ((c : Thread nD τ), SemLoc.dma (sendS t)) = sendCell c t := rfl
theorem recvCell_eq (c : Dev nD) (t : Fin 28) : ((c : Thread nD τ), SemLoc.dma (recvS t)) = recvCell c t := rfl
theorem barCell_eq (c : Dev nD) : ((c : Thread nD τ), SemLoc.reg barS) = barCell c := rfl

/-! ## Transfers -/

section Start
variable {m ρ K}
variable {sp sp' : Space} {s : Shape} {e : EltTy} {M : Memref sig .tc sp s e}

/-- Starting transfer `t`: `h1` and `h2` say the source, and the destination as written, are what the schedule hands over. -/
theorem start (c n : Dev nD) (t : Fin 28) (hn : n = dst t c) {M' : Memref sig (Dev.tc n : Thread nD τ).2.kind sp' s e}
    {sS sR : DmaSem sig} (hS : sS = sendS t) (hR : sR = recvS t)
    {hsc : M'.view.ref.isScScratch = false} {hsrc : M.view.WordExact} {hdst : M'.view.WordExact}
    {hsem : DmaTarget.Typed sp (.dma sR) (.remote (Dev.tc n : Thread nD τ) M' (.dma sS) hsc)}
    {α : Type} {Q : α → sProp 𝕄} {k : PUnit → Prog (TpuEff nD τ sig (Elt F) Λ₀ .tc) α}
    (hN : M'.view.amount (.dma (recvS t)) = cr t) {q : PosShare TreeShare} {fs : Buf (Elt F) (M.view.loc (c : Thread nD τ))}
    (h1 : (M.view.loc (c : Thread nD τ) ↦[M.view.set]{q} fs) ⊢ sendPay m ρ c t)
    (h2 : ∀ fd, (M'.view.loc (n : Thread nD τ) ↦[M'.view.set]{fullShare} (M'.view.write (Elt F) fd (M.view.read (Elt F) fs) Finset.univ)) ⊢ recvPay m ρ (dst t c) t) :
    iprop(Env m ρ K ∗ T0 c t ∗ (M.view.loc (c : Thread nD τ) ↦[M.view.set]{q} fs)
        ∗ (∃ fd : Buf (Elt F) (M'.view.loc (n : Thread nD τ)), M'.view.loc (n : Thread nD τ) ↦[M'.view.set]{fullShare} fd) ∗ Ow c t.val)
      ⊢ iprop(((T1 c t ∗ Ow c (t.val + 1)) -∗ Run c (k ⟨⟩) Q)
          -∗ Run c (.op (.enqueueDma M (.remote (Dev.tc n : Thread nD τ) M' (.dma sS) hsc) (.dma sR) hsrc hdst hsem) k) Q) := by
  subst hn hS hR
  unfold T0 T1 Ow
  iintro ⟨#HE, ⟨⟨HtS, HtR⟩, HaS, HaR, HcR⟩, Hs, ⟨%fd, Hd⟩, ⟨%W, HO⟩⟩ Hk
  iapply (Rounds.wp_send_pointsTo 𝒱₀ ER (rd m ρ) (c : Thread nD τ) none (κ₁ := K (c, some (false, t))) (κ₂ := K (dst t c, some (true, t)))
    (r₁ := 0) (r₂ := 0) (d₁ := 0) (d₂ := 0) (fd := fd) (fs := fs) (q := q)
    (by rw [show (((c : Dev nD) : Thread nD τ), csem (some (false, t))) = sendCell c t from rfl, duties_send]; exact Finset.mem_singleton_self _)
    (by rw [recvCell_eq, duties_recv]; exact Finset.mem_singleton_self _)
    () () (cr t) hN (amount_send m ρ c t 0) (amount_recv m ρ (dst t c) t 0) (O c (t.val + 1)) (O_step c t) (W := W)
    (h1.trans (Entails.of_eq (payload_send m ρ c t 0).symm))
    ((h2 fd).trans (Entails.of_eq (payload_recv m ρ (dst t c) t 0).symm))) $$ [HtS HtR Hs Hd HO]
  · isplitr; · iapply (env_inv m ρ K (c, some (false, t))); iexact HE
    isplitr; · iapply (env_inv m ρ K (dst t c, some (true, t))); iexact HE
    isplitl [Hs]; · iexact Hs
    isplitl [Hd]; · iexact Hd
    isplitl [HO]; · iexact HO
    isplitl [HtS]; · iexact HtS
    isplitr; · iapply (env_reached m ρ K (c, some (false, t))); iexact HE
    isplitl [HtR]; · iexact HtR
    iapply (env_reached m ρ K (dst t c, some (true, t))); iexact HE
  iintro ⟨HcS, HO⟩
  iapply Hk
  isplitl [HcS HaS HaR HcR]
  · isplitl [HcS]; · iexact HcS
    isplitl [HaS]; · iexact HaS
    isplitl [HaR]; · iexact HaR
    iexact HcR
  iexists W; iexact HO

/-- A transfer of a block held with known contents. -/
theorem start_owns (c n : Dev nD) (t : Fin 28) (hn : n = dst t c) {M' : Memref sig .tc sp' s e}
    {sS sR : DmaSem sig} (hS : sS = sendS t) (hR : sR = recvS t)
    {hsc : M'.view.ref.isScScratch = false} {hsrc : M.view.WordExact} {hdst : M'.view.WordExact}
    {hsem : DmaTarget.Typed sp (.dma sR) (.remote (Dev.tc n : Thread nD τ) M' (.dma sS) hsc)}
    {α : Type} {Q : α → sProp 𝕄} {k : PUnit → Prog (TpuEff nD τ sig (Elt F) Λ₀ .tc) α}
    (hN : M'.view.dmaCredit = cr t) {X : s.Idx → Elt F e}
    (h1 : sendPay m ρ c t = any c M) (hl : land c t = any (F := F) (dst t c) M')
    (h2 : recvPay m ρ (dst t c) t = owns ((dst t c : Dev nD) : Thread nD τ) M' fullShare X) :
    iprop(Env m ρ K ∗ T0 c t ∗ owns (c : Thread nD τ) M fullShare X ∗ land c t ∗ Ow c t.val)
      ⊢ iprop(((T1 c t ∗ Ow c (t.val + 1)) -∗ Run c (k ⟨⟩) Q)
          -∗ Run c (.op (.enqueueDma M (.remote (Dev.tc n : Thread nD τ) M' (.dma sS) hsc) (.dma sR) hsrc hdst hsem) k) Q) := by
  unfold owns
  iintro ⟨#HE, HT, ⟨%fs, %hfs, Hs⟩, Hl, HO⟩
  subst hfs hn
  iapply (start (m := m) (ρ := ρ) (K := K) c (dst t c) t rfl hS hR ((View.amount_dma _ _).trans hN) (q := fullShare) (fs := fs)
    (by rw [h1]; unfold any; iintro H; iexists fs; iexact H)
    (fun fd => by
      rw [h2]; unfold owns; iintro H; iexists (M'.view.write (Elt F) fd (M.view.read (Elt F) fs) Finset.univ)
      isplitr
      · ipureintro; exact View.read_write_univ _ _
      iexact H))
  isplitr; · iexact HE
  isplitl [HT]; · iexact HT
  isplitl [Hs]; · iexact Hs
  isplitl [Hl]
  · iapply (show land c t ⊢ iprop(∃ fd : Buf (Elt F) (M'.view.loc ((dst t c : Dev nD) : Thread nD τ)), M'.view.loc ((dst t c : Dev nD) : Thread nD τ) ↦[M'.view.set]{fullShare} fd) from
      Entails.of_eq hl)
    iexact Hl
  iexact HO

omit [FloatOps F] in
/-- Writing back what a view reads changes none of its elements. -/
theorem write_read_eq {sp : Space} {s : Shape} {e : EltTy} (v : View sig .tc sp s e) (fd f : v.ty.Contents (Elt F)) :
    ∀ i ∈ v.set, v.write (Elt F) fd (v.read (Elt F) f) Finset.univ i = f i := by
  intro i hi
  obtain ⟨x, -, rfl⟩ := Finset.mem_map.mp hi
  rw [View.write_emb_of_mem _ _ (Finset.mem_univ _), View.read_apply, cast_cast, cast_eq]

/-- A transfer of a region of the result to the same region elsewhere. -/
theorem start_out (c n : Dev nD) (t : Fin 28) (hn : n = dst t c) {r : Rect S2048x1024} {hr : ∀ a, r.stride a = 1}
    {sS sR : DmaSem sig} (hS : sS = sendS t) (hR : sR = recvS t)
    {hsc : (oM.slice r hr).view.ref.isScScratch = false} {hsrc hdst : (oM.slice r hr).view.WordExact}
    {hsem : DmaTarget.Typed .vmem (.dma sR) (.remote (Dev.tc n : Thread nD τ) (oM.slice r hr) (.dma sS) hsc)}
    {α : Type} {Q : α → sProp 𝕄} {k : PUnit → Prog (TpuEff nD τ sig (Elt F) Λ₀ .tc) α}
    (hN : (oM.slice r hr).view.dmaCredit = cr t) {q : PosShare TreeShare} {a b h : ℕ} (hset : r.set = box a b h)
    (h1 : sendPay m ρ c t = outP m ρ c q a b h) (hl : land c t = outAny (F := F) (dst t c) a b h)
    (h2 : recvPay m ρ (dst t c) t = outP m ρ (dst t c) fullShare a b h) :
    iprop(Env m ρ K ∗ T0 c t ∗ outP m ρ c q a b h ∗ land c t ∗ Ow c t.val)
      ⊢ iprop(((T1 c t ∗ Ow c (t.val + 1)) -∗ Run c (k ⟨⟩) Q)
          -∗ Run c (.op (.enqueueDma (oM.slice r hr) (.remote (Dev.tc n : Thread nD τ) (oM.slice r hr) (.dma sS) hsc) (.dma sR) hsrc hdst hsem) k) Q) := by
  subst hn
  have hv : (oM.slice r hr).view.set = box a b h := (View.set_slice_whole cc0_stg4_0 r).trans hset
  iintro ⟨#HE, HT, Hs, Hl, HO⟩
  iapply (start (m := m) (ρ := ρ) (K := K) (M := oM.slice r hr) (M' := oM.slice r hr) c (dst t c) t rfl hS hR ((View.amount_dma _ _).trans hN) (q := q) (fs := res m ρ)
    (by rw [h1, hv]; unfold outP; exact BI.Entails.refl _)
    (fun fd => by
      rw [h2]; unfold outP
      rw [← hv]
      exact Entails.of_eq (pointsTo_congr (write_read_eq (oM.slice r hr).view fd (res m ρ)))))
  isplitr; · iexact HE
  isplitl [HT]; · iexact HT
  isplitl [Hs]; · rw [hv]; unfold outP; iexact Hs
  isplitl [Hl]
  · rw [hv]
    iapply (show land c t ⊢ iprop(∃ fd : Buf (Elt F) ((oM.slice r hr).view.loc ((dst t c : Dev nD) : Thread nD τ)), (oM.slice r hr).view.loc ((dst t c : Dev nD) : Thread nD τ) ↦[box a b h]{fullShare} fd) from
      Entails.of_eq hl)
    iexact Hl
  iexact HO

/-- The wait that a transfer has left. -/
theorem waitS (c : Dev nD) (t : Fin 28) (j : ℕ) {sS : DmaSem sig} (hS : sS = sendS t) {sp sp' : Space} {s s' : Shape} {e e' : EltTy}
    {M : Memref sig .tc sp s e} {M' : Memref sig .tc sp' s' e'} {h : M.view.WordExact} {h' : M'.view.WordExact}
    {α : Type} {Q : α → sProp 𝕄} {k : PUnit → Prog (TpuEff nD τ sig (Elt F) Λ₀ .tc) α} (hN : M'.view.dmaCredit = cr t) :
    iprop(Env m ρ K ∗ T1 c t ∗ Ow c j)
      ⊢ iprop(((T2 c t ∗ sendPay m ρ c t ∗ Ow c j) -∗ Run c (k ⟨⟩) Q) -∗ Run c (.op (.waitDma2 sS M M' h h') k) Q) := by
  subst hS
  unfold T1 T2 Ow
  iintro ⟨#HE, ⟨HcS, HaS, HaR, HcR⟩, ⟨%W, HO⟩⟩ Hk
  iapply (Rounds.wp_wait_rest_token 𝒱₀ ER (rd m ρ) (c : Thread nD τ) none (κ := K (c, some (false, t)))
      (wpE_waitDma2_eq 𝒱₀ (c : Thread nD τ) none Set.univ) (Set.mem_univ _) () (O := O c j) (W := W) (R := 0) (m := 0) (T := ∅)
      ((Nat.zero_add _).trans (hN.trans (by rw [sendCell_eq]; exact (expect_send m ρ c t).symm)))) $$ [HcS HO HaS]
  · isplitr; · iapply (env_inv m ρ K (c, some (false, t))); iexact HE
    isplitl [HcS]; · rw [hN]; iexact HcS
    isplitl [HO]; · iexact HO
    isplitr
    · iapply ((env_lev m ρ K).trans (mayWait_send c t j)); iexact HE
    iexact HaS
  iintro ⟨HO, HaS, -, Hpay⟩
  ihave Hpay := (Entails.of_eq (by rw [sendCell_eq]; exact rest_send m ρ c t) : _ ⊢ sendPay m ρ c t) $$ Hpay
  imod (Rounds.cell_close ER (rd m ρ) (Set.mem_univ (K (c, some (false, t)))) (fun h => h) (R := 0 + 1) (duties_later m ρ (sendCell c t))) $$ [HaS] with Hz
  · isplitr; · iapply (env_inv m ρ K (c, some (false, t))); iexact HE
    iexact HaS
  iapply Hk
  isplitl [Hz HaR HcR]
  · isplitl [Hz]; · iexact Hz
    isplitl [HaR] <;> iassumption
  isplitl [Hpay]; · iexact Hpay
  iexists _; iexact HO

/-- The wait that the counterpart has arrived. -/
theorem waitR (c : Dev nD) (t : Fin 28) (j : ℕ) {sR : DmaSem sig} (hR : sR = recvS t) (hj : t.val < j) {sp sp' : Space} {s s' : Shape} {e e' : EltTy}
    {M : Memref sig .tc sp s e} {M' : Memref sig .tc sp' s' e'} {h : M.view.WordExact} {h' : M'.view.WordExact}
    {α : Type} {Q : α → sProp 𝕄} {k : PUnit → Prog (TpuEff nD τ sig (Elt F) Λ₀ .tc) α} (hN : M'.view.dmaCredit = cr t) :
    iprop(Env m ρ K ∗ T2 c t ∗ Ow c j)
      ⊢ iprop(((T3 c t ∗ recvPay m ρ c t ∗ Ow c j) -∗ Run c (k ⟨⟩) Q) -∗ Run c (.op (.waitDma2 sR M M' h h') k) Q) := by
  subst hR
  unfold T2 T3 Ow
  iintro ⟨#HE, ⟨Hz, HaR, HcR⟩, ⟨%W, HO⟩⟩ Hk
  iapply (Rounds.wp_wait_rest_token 𝒱₀ ER (rd m ρ) (c : Thread nD τ) none (κ := K (c, some (true, t)))
      (wpE_waitDma2_eq 𝒱₀ (c : Thread nD τ) none Set.univ) (Set.mem_univ _) () (O := O c j) (W := W) (R := 0) (m := 0) (T := ∅)
      ((Nat.zero_add _).trans (hN.trans (by rw [recvCell_eq]; exact (expect_recv m ρ c t).symm)))) $$ [HcR HO HaR]
  · isplitr; · iapply (env_inv m ρ K (c, some (true, t))); iexact HE
    isplitl [HcR]; · rw [hN]; iexact HcR
    isplitl [HO]; · iexact HO
    isplitr
    · iapply ((env_lev m ρ K).trans (mayWait_recv c t j hj)); iexact HE
    iexact HaR
  iintro ⟨HO, HaR, -, Hpay⟩
  ihave Hpay := (Entails.of_eq (by rw [recvCell_eq]; exact rest_recv m ρ c t) : _ ⊢ recvPay m ρ c t) $$ Hpay
  imod (Rounds.cell_close ER (rd m ρ) (Set.mem_univ (K (c, some (true, t)))) (fun h => h) (R := 0 + 1) (duties_later m ρ (recvCell c t))) $$ [HaR] with Hz'
  · isplitr; · iapply (env_inv m ρ K (c, some (true, t))); iexact HE
    iexact HaR
  iapply Hk
  isplitl [Hz Hz']
  · isplitl [Hz] <;> iassumption
  isplitl [Hpay]; · iexact Hpay
  iexists _; iexact HO

/-! ## The barrier -/

/-- The signal to the neighbour whose transfers in direction `d` come here. -/
theorem signal (c n : Dev nD) (d : Fin 4) (hn : n = back d c) {k' : ℕ} (hk' : 1 = k') (W : Waits sig Unit) {O' : CellTallies nD τ sig Unit}
    {α : Type} {Q : α → sProp 𝕄} {k : PUnit → Prog (TpuEff nD τ sig (Elt F) Λ₀ .tc) α} :
    iprop(Env m ρ K ∗ owes (c : Thread nD τ) (O' + tallyAt (barCell (back d c)) () 1) W ∗ dutyTok ER (barCell (back d c)) 0 d ∗ barPay (back d c) d)
      ⊢ iprop((owes (c : Thread nD τ) O' W -∗ Run c (k ⟨⟩) Q) -∗ Run c (.op (.semSignal (n : Thread nD τ) barS k') k) Q) := by
  subst hn hk'
  iintro ⟨#HE, HO, Ht, Hp⟩ Hk
  iapply (Rounds.wp_signal 𝒱₀ ER (rd m ρ) (c : Thread nD τ) none (dst := ((back d c : Dev nD) : Thread nD τ)) (κ := K (back d c, none)) (r := 0)
      (d := d) (by rw [show (((back d c : Dev nD) : Thread nD τ), SemLoc.reg barS) = barCell (back d c) from rfl, duties_bar]; exact Finset.mem_univ _)
      (amount_bar m ρ (back d c) d) () O' rfl (W := W)) $$ [HO Ht Hp]
  · isplitr; · iapply (env_inv m ρ K (back d c, none)); iexact HE
    isplitl [HO]; · iexact HO
    isplitl [Ht]; · iexact Ht
    isplitl [Hp]; · rw [barCell_eq, payload_bar]; iexact Hp
    iapply (env_reached m ρ K (back d c, none)); iexact HE
  iexact Hk

/-- The wait for the four neighbours' signals. -/
theorem waitBar (c : Dev nD) {k' : ℕ} (hk' : k' = 4) {α : Type} {Q : α → sProp 𝕄} {k : PUnit → Prog (TpuEff nD τ sig (Elt F) Λ₀ .tc) α} :
    iprop(Env m ρ K ∗ atPos ER (barCell c) 0 ∅ 0 ∗ cred (tallyAt (barCell c) () 4) ∗ Ow c 0)
      ⊢ iprop(((semVal (barCell c) 0 ∗ (barPay c 0 ∗ barPay c 1 ∗ barPay c 2 ∗ barPay c 3) ∗ Ow c 0) -∗ Run c (k ⟨⟩) Q)
        -∗ Run c (.op (.semWait barS k') k) Q) := by
  subst hk'
  unfold Ow
  iintro ⟨#HE, Ha, Hc, ⟨%W, HO⟩⟩ Hk
  iapply (Rounds.wp_wait_rest_token 𝒱₀ ER (rd m ρ) (c : Thread nD τ) none (κ := K (c, none))
      (wpE_semWait_eq 𝒱₀ (c : Thread nD τ) none Set.univ) (Set.mem_univ _) () (O := O c 0) (W := W) (R := 0) (m := 0) (T := ∅)
      ((Nat.zero_add _).trans (by rw [barCell_eq]; exact (expect_bar m ρ c).symm))) $$ [Hc HO Ha]
  · isplitr; · iapply (env_inv m ρ K (c, none)); iexact HE
    isplitl [Hc]; · iexact Hc
    isplitl [HO]; · iexact HO
    isplitr
    · iapply ((env_lev m ρ K).trans (mayWait_bar c)); iexact HE
    iexact Ha
  iintro ⟨HO, Ha, -, Hpay⟩
  ihave Hpay := (Entails.of_eq (by rw [barCell_eq]; exact rest_bar m ρ c) : _ ⊢ iprop(barPay c 0 ∗ barPay c 1 ∗ barPay c 2 ∗ barPay c 3)) $$ Hpay
  imod (Rounds.cell_close ER (rd m ρ) (Set.mem_univ (K (c, none))) (fun h => h) (R := 0 + 1) (duties_later m ρ (barCell c))) $$ [Ha] with Hz
  · isplitr; · iapply (env_inv m ρ K (c, none)); iexact HE
    iexact Ha
  iapply Hk
  isplitl [Hz]; · iexact Hz
  isplitl [Hpay]; · iexact Hpay
  iexists _; iexact HO

end Start

/-! ## What the first ring's and the exchanges' transfers hand over, seen from the sender -/

theorem recv_0 (c : Dev nD) : recvPay m ρ (dst 0 c) 0 = (owns ((dst 0 c : Dev nD) : Thread nD τ) (slot0 comA) fullShare (A0 m ρ c) : sProp 𝕄) :=
  congrArg (fun d => (owns ((dst 0 c : Dev nD) : Thread nD τ) (slot0 comA) fullShare (A0 m ρ d) : sProp 𝕄)) (lf_rt c)
theorem recv_1 (c : Dev nD) : recvPay m ρ (dst 1 c) 1 = (owns ((dst 1 c : Dev nD) : Thread nD τ) (slot0 comB) fullShare (B0 m ρ c) : sProp 𝕄) :=
  congrArg (fun d => (owns ((dst 1 c : Dev nD) : Thread nD τ) (slot0 comB) fullShare (B0 m ρ d) : sProp 𝕄)) (rt_lf c)
theorem recv_2 (c : Dev nD) : recvPay m ρ (dst 2 c) 2 = (owns ((dst 2 c : Dev nD) : Thread nD τ) (slot1 comA) fullShare (A1 m ρ c) : sProp 𝕄) :=
  congrArg (fun d => (owns ((dst 2 c : Dev nD) : Thread nD τ) (slot1 comA) fullShare (A1 m ρ d) : sProp 𝕄)) (lf_rt c)
theorem recv_3 (c : Dev nD) : recvPay m ρ (dst 3 c) 3 = (owns ((dst 3 c : Dev nD) : Thread nD τ) (slot1 comB) fullShare (B1 m ρ c) : sProp 𝕄) :=
  congrArg (fun d => (owns ((dst 3 c : Dev nD) : Thread nD τ) (slot1 comB) fullShare (B1 m ρ d) : sProp 𝕄)) (rt_lf c)
theorem recv_4 (c : Dev nD) : recvPay m ρ (dst 4 c) 4 = (owns ((dst 4 c : Dev nD) : Thread nD τ) (slot2 comA) fullShare (A2 m ρ c) : sProp 𝕄) :=
  congrArg (fun d => (owns ((dst 4 c : Dev nD) : Thread nD τ) (slot2 comA) fullShare (A2 m ρ d) : sProp 𝕄)) (lf_rt c)
theorem recv_5 (c : Dev nD) : recvPay m ρ (dst 5 c) 5 = (owns ((dst 5 c : Dev nD) : Thread nD τ) (slot2 comB) fullShare (B2 m ρ c) : sProp 𝕄) :=
  congrArg (fun d => (owns ((dst 5 c : Dev nD) : Thread nD τ) (slot2 comB) fullShare (B2 m ρ d) : sProp 𝕄)) (rt_lf c)
theorem recv_6 (c : Dev nD) : recvPay m ρ (dst 6 c) 6 = (owns ((dst 6 c : Dev nD) : Thread nD τ) z1A fullShare (sentA1 m ρ c) : sProp 𝕄) :=
  congrArg (fun d => (owns ((dst 6 c : Dev nD) : Thread nD τ) z1A fullShare (sentA1 m ρ d) : sProp 𝕄)) (z1_z1 c)
theorem recv_7 (c : Dev nD) : recvPay m ρ (dst 7 c) 7 = (owns ((dst 7 c : Dev nD) : Thread nD τ) z1B fullShare (sentB1 m ρ c) : sProp 𝕄) :=
  congrArg (fun d => (owns ((dst 7 c : Dev nD) : Thread nD τ) z1B fullShare (sentB1 m ρ d) : sProp 𝕄)) (z1_z1 c)
theorem recv_8 (c : Dev nD) : recvPay m ρ (dst 8 c) 8 = (owns ((dst 8 c : Dev nD) : Thread nD τ) z2A fullShare (sentA2 m ρ c) : sProp 𝕄) :=
  congrArg (fun d => (owns ((dst 8 c : Dev nD) : Thread nD τ) z2A fullShare (sentA2 m ρ d) : sProp 𝕄)) (z2_z2 c)
theorem recv_9 (c : Dev nD) : recvPay m ρ (dst 9 c) 9 = (owns ((dst 9 c : Dev nD) : Thread nD τ) z2B fullShare (sentB2 m ρ c) : sProp 𝕄) :=
  congrArg (fun d => (owns ((dst 9 c : Dev nD) : Thread nD τ) z2B fullShare (sentB2 m ρ d) : sProp 𝕄)) (z2_z2 c)

theorem barPay_0 (c : Dev nD) : barPay (F := F) c 0 = iprop(land c 0 ∗ land c 2 ∗ land c 4 ∗ land c 16 ∗ land c 18 ∗ land c 20 ∗ land c 22 ∗ land c 24 ∗ land c 26) := rfl
theorem barPay_1 (c : Dev nD) : barPay (F := F) c 1 = iprop(land c 1 ∗ land c 3 ∗ land c 5 ∗ land c 17 ∗ land c 19 ∗ land c 21 ∗ land c 23 ∗ land c 25 ∗ land c 27) := rfl
theorem barPay_2 (c : Dev nD) : barPay (F := F) c 2 = iprop(land c 6 ∗ land c 7 ∗ land c 11 ∗ land c 13 ∗ land c 14 ∗ land c 15) := rfl
theorem barPay_3 (c : Dev nD) : barPay (F := F) c 3 = iprop(land c 8 ∗ land c 9 ∗ land c 10 ∗ land c 12) := rfl

end Cert.KernelIdeal.Moe

end
-- ==== Proof.Local.lean ====
/-
The kernel's text applied to its buffers, and the loads and stores of its own memory.
-/
module

public import proofs.«01_k».proof.Proof.Rules
public import Idealize.ShloMosaic.Lib.VecWindow
public import Idealize.ShloMosaic.Lib.Pipeline.Value

@[expose] public section

set_option maxRecDepth 20000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A piece of the kernel's text at the call's buffers and semaphores. -/
abbrev on {β : Type 1} (f : (arg0 : Memref sig .tc .vmem S2048x512 .f32) → (harg0 : arg0.IsWhole) → (arg1 : Memref sig .tc .vmem S512x128 .f32) → (harg1 : arg1.IsWhole) → (arg2 : Memref sig .tc .vmem S2048x2 .i32) → (harg2 : arg2.IsWhole) → (arg3 : Memref sig .tc .vmem S8x512x1024 .f32) → (harg3 : arg3.IsWhole) → (arg4 : Memref sig .tc .vmem S2048x1024 .f32) → (harg4 : arg4.IsWhole) → (arg5 : Memref sig .tc .vmem S2048x8 .f32) → (harg5 : arg5.IsWhole) → (arg6 : Memref sig .tc .vmem S512x512 .f32) → (harg6 : arg6.IsWhole) → (arg7 : Memref sig .tc .vmem S512x512 .f32) → (harg7 : arg7.IsWhole) → (arg8 : Memref sig .tc .vmem S3x512x512 .f32) → (harg8 : arg8.IsWhole) → (arg9 : Memref sig .tc .vmem S3x512x512 .f32) → (harg9 : arg9.IsWhole) → (arg10 : Memref sig .tc .vmem S512x512 .f32) → (harg10 : arg10.IsWhole) → (arg11 : Memref sig .tc .vmem S512x512 .f32) → (harg11 : arg11.IsWhole) → (arg12 : Memref sig .tc .vmem S256x512 .f32) → (harg12 : arg12.IsWhole) → (arg13 : Memref sig .tc .vmem S256x512 .f32) → (harg13 : arg13.IsWhole) → (arg14 : Memref sig .tc .vmem S128x512 .f32) → (harg14 : arg14.IsWhole) → (arg15 : Memref sig .tc .vmem S128x512 .f32) → (harg15 : arg15.IsWhole) → (arg16 : DmaSems sig S3) → (arg17 : DmaSems sig S3) → (arg18 : DmaSems sig S3) → (arg19 : DmaSems sig S3) → (arg20 : DmaSems sig S2) → (arg21 : DmaSems sig S2) → (arg22 : DmaSems sig S2) → (arg23 : DmaSems sig S2) → (arg24 : DmaSems sig S3) → (arg25 : DmaSems sig S3) → (arg26 : DmaSems sig S3) → (arg27 : DmaSems sig S3) → (arg28 : DmaSems sig S6) → (arg29 : DmaSems sig S6) → (arg30 : DmaSems sig S6) → (arg31 : DmaSems sig S6) → β) : β :=
  f xM (Memref.isWhole_whole _) rM (Memref.isWhole_whole _) iM (Memref.isWhole_whole _) wM (Memref.isWhole_whole _) oM (Memref.isWhole_whole _) gM (Memref.isWhole_whole _) ownA (Memref.isWhole_whole _) ownB (Memref.isWhole_whole _) comA (Memref.isWhole_whole _) comB (Memref.isWhole_whole _) zwA (Memref.isWhole_whole _) zwB (Memref.isWhole_whole _) z1A (Memref.isWhole_whole _) z1B (Memref.isWhole_whole _) z2A (Memref.isWhole_whole _) z2B (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26

/-! ## The inputs -/

/-- The tokens, the weights and the gates. -/
def In (c : Dev nD) : sProp 𝕄 :=
  iprop((xM.view.loc (c : Thread nD τ) ↦{fullShare} (xin m ρ c)) ∗ (wM.view.loc (c : Thread nD τ) ↦{fullShare} (win m ρ c))
    ∗ (gM.view.loc (c : Thread nD τ) ↦{fullShare} (gates m ρ c)))

section Steps
variable {m ρ}

theorem ld_x {α : Type} {Q : α → sProp 𝕄} (c : Dev nD) {r : LoadRect S2048x512} {hl : xM.view.LoadsAt r} {k : (r.shape.Idx → Elt F .f32) → Prog (TpuEff nD τ sig (Elt F) Λ₀ .tc) α} :
    In m ρ c ⊢ iprop((In m ρ c -∗ Run c (k (xM.view.readAt (Elt F) r (xin m ρ c))) Q) -∗ Run c (.op (.load xM r hl) k) Q) := by
  unfold In
  iintro ⟨Hx, Hw, Hg⟩ Hk
  iapply (wp_load 𝒱₀ (c : Thread nD τ) none Set.univ (m := xM) (Finset.subset_univ _)) $$ Hx; iintro Hx
  iapply Hk
  isplitl [Hx]; · iexact Hx
  isplitl [Hw] <;> iassumption

theorem ld_w {α : Type} {Q : α → sProp 𝕄} (c : Dev nD) {r : LoadRect S8x512x1024} {hl : wM.view.LoadsAt r} {k : (r.shape.Idx → Elt F .f32) → Prog (TpuEff nD τ sig (Elt F) Λ₀ .tc) α} :
    In m ρ c ⊢ iprop((In m ρ c -∗ Run c (k (wM.view.readAt (Elt F) r (win m ρ c))) Q) -∗ Run c (.op (.load wM r hl) k) Q) := by
  unfold In
  iintro ⟨Hx, Hw, Hg⟩ Hk
  iapply (wp_load 𝒱₀ (c : Thread nD τ) none Set.univ (m := wM) (Finset.subset_univ _)) $$ Hw; iintro Hw
  iapply Hk
  isplitl [Hx]; · iexact Hx
  isplitl [Hw] <;> iassumption

theorem ld_g {α : Type} {Q : α → sProp 𝕄} (c : Dev nD) {r : LoadRect S2048x8} {hl : gM.view.LoadsAt r} {k : (r.shape.Idx → Elt F .f32) → Prog (TpuEff nD τ sig (Elt F) Λ₀ .tc) α} :
    In m ρ c ⊢ iprop((In m ρ c -∗ Run c (k (gM.view.readAt (Elt F) r (gates m ρ c))) Q) -∗ Run c (.op (.load gM r hl) k) Q) := by
  unfold In
  iintro ⟨Hx, Hw, Hg⟩ Hk
  iapply (wp_load 𝒱₀ (c : Thread nD τ) none Set.univ (m := gM) (Finset.subset_univ _)) $$ Hg; iintro Hg
  iapply Hk
  isplitl [Hx]; · iexact Hx
  isplitl [Hw] <;> iassumption

/-! ## Whole blocks -/

variable {s : Shape} {e : EltTy} {M : Memref sig .tc .vmem s e}

theorem owns_any (c : Dev nD) {X : s.Idx → Elt F e} : owns (c : Thread nD τ) M fullShare X ⊢ any c M := by
  unfold owns any; iintro ⟨%f, -, H⟩; iexists f; iexact H

/-- A load whose value is not used. -/
theorem ld_any {α : Type} {Q : α → sProp 𝕄} (c : Dev nD) {r : LoadRect s} {hl : M.view.LoadsAt r} {k : (r.shape.Idx → Elt F e) → Prog (TpuEff nD τ sig (Elt F) Λ₀ .tc) α} :
    any c M ⊢ iprop((∀ v, any c M -∗ Run c (k v) Q) -∗ Run c (.op (.load M r hl) k) Q) := by
  unfold any
  iintro ⟨%f, H⟩ Hk
  iapply (wp_load 𝒱₀ (c : Thread nD τ) none Set.univ (m := M) (View.setOn_subset_set _ _)) $$ H; iintro H
  iapply Hk; iexists f; iexact H

/-- A whole buffer's block is the buffer. -/
theorem owns_whole (c : Dev nD) (b : Ref sig .tc) {X : b.ty.Contents (Elt F)} :
    owns (c : Thread nD τ) (Memref.whole b) fullShare X ⊢ ((Memref.whole b).view.loc (c : Thread nD τ) ↦{fullShare} X : sProp 𝕄) := by
  unfold owns; iintro ⟨%f, %hf, H⟩
  have e1 : f = X := hf
  subst e1
  rw [View.set_whole]; iexact H

theorem whole_owns (c : Dev nD) (b : Ref sig .tc) {X : b.ty.Contents (Elt F)} :
    ((Memref.whole b).view.loc (c : Thread nD τ) ↦{fullShare} X : sProp 𝕄) ⊢ owns (c : Thread nD τ) (Memref.whole b) fullShare X := by
  unfold owns; iintro H
  iexists X
  isplitr
  · ipureintro; rfl
  rw [View.set_whole]; iexact H

theorem ld_owns {α : Type} {Q : α → sProp 𝕄} (c : Dev nD) {off : Fin s.rank → ℕ} {inb : ∀ a, off a + s.size a ≤ s.size a} {hl : M.view.LoadsAt (Rect.unit (s := s) off s.size inb).toLoadRect}
    {X : s.Idx → Elt F e} {k : (s.Idx → Elt F e) → Prog (TpuEff nD τ sig (Elt F) Λ₀ .tc) α} :
    owns (c : Thread nD τ) M fullShare X
      ⊢ iprop((owns (c : Thread nD τ) M fullShare X -∗ Run c (k X) Q) -∗ Run c (.op (.load M (Rect.unit (s := s) off s.size inb).toLoadRect hl) k) Q) := by
  unfold owns
  iintro ⟨%f, %hf, H⟩ Hk
  iapply (wp_load 𝒱₀ (c : Thread nD τ) none Set.univ (m := M) (View.setOn_subset_set _ _)) $$ H; iintro H
  have e1 : M.view.readAt (Elt F) (Rect.unit (s := s) off s.size inb).toLoadRect f = X := by
    rw [← hf]; funext x
    exact congrArg (M.view.read (Elt F) f) (Rect.emb_unit_full inb x)
  rw [e1]
  iapply Hk; iexists f
  isplitr; · ipureintro; exact hf
  iexact H

theorem st_whole {α : Type} {Q : α → sProp 𝕄} (c : Dev nD) {off : Fin s.rank → ℕ} {inb : ∀ a, off a + s.size a ≤ s.size a} {w : s.Idx → Elt F e}
    {hx : (M.access (Rect.unit (s := s) off s.size inb)).Stores Finset.univ} {hm : (Finset.univ : Finset s.Idx) = Finset.univ ∨ ∀ a, (Rect.unit (s := s) off s.size inb).stride a = 1}
    {k : PUnit → Prog (TpuEff nD τ sig (Elt F) Λ₀ .tc) α} :
    any c M ⊢ iprop((owns (c : Thread nD τ) M fullShare w -∗ Run c (k ⟨⟩) Q) -∗ Run c (.op (.store M (Rect.unit (s := s) off s.size inb) w Finset.univ hx hm) k) Q) := by
  unfold any owns
  iintro ⟨%f, H⟩ Hk
  iapply (wp_store 𝒱₀ (c : Thread nD τ) none Set.univ (m := M) (r := Rect.unit (s := s) off s.size inb) (Mk := Finset.univ) (S := M.view.set)
    ((View.setOn_subset_set _ _).trans (by
      show (M.view.slice _).set ⊆ _
      rw [View.set_slice]; exact View.setOn_subset_set _ _))) $$ H; iintro H
  iapply Hk; iexists _
  isplitr
  · ipureintro
    show M.view.read (Elt F) ((M.access (Rect.unit (s := s) off s.size inb)).write (Elt F) f w Finset.univ) = w
    have e1 := View.read_write_univ (v := M.access (Rect.unit (s := s) off s.size inb)) (Val := Elt F) f w
    funext x
    refine Eq.trans ?_ (congrFun e1 x)
    exact congrArg (M.view.read (Elt F) _) (Rect.emb_unit_full inb x).symm
  iexact H

/-! ## The slots of the first ring's landing buffers -/

variable {N : Memref sig .tc .vmem S3x512x512 .f32}

/-- A slot at an offset. -/
abbrev slotAt (N : Memref sig .tc .vmem S3x512x512 .f32) (off : Fin 3 → ℕ) (inb : ∀ a, off a + S1x512x512.size a ≤ S3x512x512.size a) :
    Memref sig .tc .vmem S512x512 .f32 :=
  (N.slice (Rect.unit (s := S3x512x512) off S1x512x512.size inb) (fun _ => rfl)).squeeze S512x512 squeezes_S1x512x512_S512x512

theorem slot_set (off : Fin 3 → ℕ) (inb : ∀ a, off a + S1x512x512.size a ≤ S3x512x512.size a) :
    (slotAt N off inb).view.set = N.view.setOn (Rect.unit (s := S3x512x512) off S1x512x512.size inb).set := by
  rw [show (slotAt N off inb).view.set = (N.view.slice (Rect.unit (s := S3x512x512) off S1x512x512.size inb)).set from View.set_reshape _ _, View.set_slice]; rfl

theorem ld_slot {α : Type} {Q : α → sProp 𝕄} (c : Dev nD) {off : Fin 3 → ℕ} {inb : ∀ a, off a + S1x512x512.size a ≤ S3x512x512.size a}
    {hl : N.view.LoadsAt (Rect.unit (s := S3x512x512) off S1x512x512.size inb).toLoadRect}
    {X : FVec F S512x512 .f32} {k : (S1x512x512.Idx → Elt F .f32) → Prog (TpuEff nD τ sig (Elt F) Λ₀ .tc) α} :
    owns (c : Thread nD τ) (slotAt N off inb) fullShare X
      ⊢ iprop((owns (c : Thread nD τ) (slotAt N off inb) fullShare X -∗ Run c (k (shapeCast S1x512x512 X shapeCasts_S512x512_S1x512x512)) Q)
        -∗ Run c (.op (.load N (Rect.unit (s := S3x512x512) off S1x512x512.size inb).toLoadRect hl) k) Q) := by
  unfold owns
  iintro ⟨%f, %hf, H⟩ Hk
  iapply (wp_load 𝒱₀ (c : Thread nD τ) none Set.univ (m := N) (S := (slotAt N off inb).view.set) (by rw [slot_set])) $$ H
  iintro H
  have e1 : N.view.readAt (Elt F) (Rect.unit (s := S3x512x512) off S1x512x512.size inb).toLoadRect f = shapeCast S1x512x512 X shapeCasts_S512x512_S1x512x512 := by
    rw [← hf]
    exact (shapeCast_shapeCast (N.view.readAt (Elt F) (Rect.unit (s := S3x512x512) off S1x512x512.size inb).toLoadRect f)
      shapeCasts_S1x512x512_S512x512 shapeCasts_S512x512_S1x512x512).symm
  rw [e1]
  iapply Hk; iexists f
  isplitr; · ipureintro; exact hf
  iexact H

theorem st_slot {α : Type} {Q : α → sProp 𝕄} (c : Dev nD) {off : Fin 3 → ℕ} {inb : ∀ a, off a + S1x512x512.size a ≤ S3x512x512.size a} {w : S1x512x512.Idx → Elt F .f32}
    {hx : (N.access (Rect.unit (s := S3x512x512) off S1x512x512.size inb)).Stores Finset.univ}
    {hm : (Finset.univ : Finset S1x512x512.Idx) = Finset.univ ∨ ∀ a, (Rect.unit (s := S3x512x512) off S1x512x512.size inb).stride a = 1}
    {k : PUnit → Prog (TpuEff nD τ sig (Elt F) Λ₀ .tc) α} :
    any c (slotAt N off inb)
      ⊢ iprop((owns (c : Thread nD τ) (slotAt N off inb) fullShare (shapeCast S512x512 w shapeCasts_S1x512x512_S512x512 : FVec F S512x512 .f32) -∗ Run c (k ⟨⟩) Q)
        -∗ Run c (.op (.store N (Rect.unit (s := S3x512x512) off S1x512x512.size inb) w Finset.univ hx hm) k) Q) := by
  unfold any owns
  iintro ⟨%f, H⟩ Hk
  iapply (wp_store 𝒱₀ (c : Thread nD τ) none Set.univ (m := N) (r := Rect.unit (s := S3x512x512) off S1x512x512.size inb) (Mk := Finset.univ)
    (S := (slotAt N off inb).view.set)
    ((View.setOn_subset_set _ _).trans (by
      show (N.view.slice _).set ⊆ _
      rw [slot_set, View.set_slice]; exact Finset.Subset.refl _))) $$ H; iintro H
  iapply Hk; iexists ((N.access (Rect.unit (s := S3x512x512) off S1x512x512.size inb)).write (Elt F) f w Finset.univ)
  isplitr
  · ipureintro
    show (slotAt N off inb).view.read (Elt F) ((N.access (Rect.unit (s := S3x512x512) off S1x512x512.size inb)).write (Elt F) f w Finset.univ) = shapeCast S512x512 w shapeCasts_S1x512x512_S512x512
    have e0 : ∀ g, (slotAt N off inb).view.read (Elt F) g
        = shapeCast S512x512 ((N.access (Rect.unit (s := S3x512x512) off S1x512x512.size inb)).read (Elt F) g) shapeCasts_S1x512x512_S512x512 := fun g => rfl
    have e1 := View.read_write_univ (v := N.access (Rect.unit (s := S3x512x512) off S1x512x512.size inb)) (Val := Elt F) f w
    rw [e0, e1]
  iexact H

end Steps

/-! ## What is stored, as sums -/

theorem own_left (x : Vec F S512x512 .f32) (g0 g1 g2 g3 g4 g5 g6 g7 : Vec F S512x1 .f32) (w : Fin 8 → Vec F S1x512x512 .f32) :
    k0_pay19 (k0_pay16 x) (k0_pay18 (k0_pay16 x) (k0_pay17 x g0 (w 0)) g1 (w 1) g2 (w 2) g3 (w 3) g4 (w 4)) g5 (w 5) g6 (w 6) g7 (w 7)
      = halfV x g0 g1 g2 g3 g4 g5 g6 g7 w :=
  shapeCast_self _ _

theorem own_right (x : Vec F S512x512 .f32) (g0 g1 g2 g3 g4 g5 g6 g7 : Vec F S512x1 .f32) (w : Fin 8 → Vec F S1x512x512 .f32) :
    k0_pay23 (k0_pay20 x) (k0_pay22 (k0_pay20 x) (k0_pay21 x g0 (w 0)) g1 (w 1) g2 (w 2) g3 (w 3) g4 (w 4)) g5 (w 5) g6 (w 6) g7 (w 7)
      = halfV x g0 g1 g2 g3 g4 g5 g6 g7 w :=
  shapeCast_self _ _

/-- Storing the sum of a slot's contents and a partial sum. -/
theorem sum_slot (X acc : FVec F S512x512 .f32) :
    shapeCast S512x512 (shapeCast S1x512x512 (addf (shapeCast S512x512 (shapeCast S1x512x512 X shapeCasts_S512x512_S1x512x512) shapeCasts_S1x512x512_S512x512) acc)
      shapeCasts_S512x512_S1x512x512) shapeCasts_S1x512x512_S512x512 = addf X acc := by
  rw [shapeCast_shapeCast, shapeCast_shapeCast]

/-- Copying a slot. -/
theorem copy_slot (X : FVec F S512x512 .f32) :
    shapeCast S512x512 (shapeCast S512x512 (shapeCast S1x512x512 X shapeCasts_S512x512_S1x512x512) shapeCasts_S1x512x512_S512x512) shapeCasts_S512x512_S512x512 = X := by
  rw [shapeCast_shapeCast, shapeCast_self]

/-! ## What is left to do -/

/-- The transfers from number `k` on: not started, their landing places at hand. -/
def todo (c : Dev nD) (k : ℕ) : sProp 𝕄 := bigSep (Finset.univ.filter fun t : Fin 28 => k ≤ t.val) fun t => iprop(T0 (F := F) c t ∗ land c t)

theorem todo_step (c : Dev nD) (t : Fin 28) : todo (F := F) c t.val ⊢ iprop((T0 c t ∗ land c t) ∗ todo c (t.val + 1)) := by
  unfold todo
  have h : (Finset.univ.filter fun u : Fin 28 => t.val ≤ u.val) = insert t (Finset.univ.filter fun u : Fin 28 => t.val + 1 ≤ u.val) := by
    ext u; simp only [Finset.mem_filter, Finset.mem_univ, true_and, Finset.mem_insert, Fin.ext_iff]; omega
  rw [h, bigSep_insert (by simp)]
  exact BI.Entails.refl _

end Cert.KernelIdeal.Moe

end
-- ==== Proof.SegA.lean ====
/-
The router's gates, the device's own chunk in both halves of the columns, the barrier, and the first transfer.
-/
module

public import proofs.«01_k».proof.Proof.Local

@[expose] public section

set_option maxRecDepth 20000
set_option maxHeartbeats 4000000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-- What a device brings to the barrier: for each direction, the token of the signal it sends and the landing places it hands
    over; its own position and the credit of its wait. -/
def Bar (c : Dev nD) : sProp 𝕄 :=
  iprop((dutyTok ER (barCell (back 0 c)) 0 0 ∗ barPay (back 0 c) 0) ∗ (dutyTok ER (barCell (back 1 c)) 0 1 ∗ barPay (back 1 c) 1)
    ∗ (dutyTok ER (barCell (back 2 c)) 0 2 ∗ barPay (back 2 c) 2) ∗ (dutyTok ER (barCell (back 3 c)) 0 3 ∗ barPay (back 3 c) 3)
    ∗ atPos ER (barCell c) 0 ∅ 0 ∗ cred (tallyAt (barCell c) () 4))

/-- The four signals together bring the landing places of all transfers. -/
theorem lands_all (c : Dev nD) : iprop(barPay (F := F) c 0 ∗ barPay c 1 ∗ barPay c 2 ∗ barPay c 3) ⊢ bigSep Finset.univ fun t : Fin 28 => land (F := F) c t := by
  rw [bigSep_univ_eq_bigSepL [0, 1, 2, 3, 4, 5, 6, 7, 8, 9, 10, 11, 12, 13, 14, 15, 16, 17, 18, 19, 20, 21, 22, 23, 24, 25, 26, 27] (by decide) (by decide)]
  simp only [bigSepL_cons_cons, bigSepL_singleton]
  rw [barPay_0, barPay_1, barPay_2, barPay_3]
  change _ ⊢ iprop(land c 0 ∗ land c 1 ∗ land c 2 ∗ land c 3 ∗ land c 4 ∗ land c 5 ∗ land c 6 ∗ land c 7 ∗ land c 8 ∗ land c 9 ∗ land c 10
    ∗ land c 11 ∗ land c 12 ∗ land c 13 ∗ land c 14 ∗ land c 15 ∗ land c 16 ∗ land c 17 ∗ land c 18 ∗ land c 19 ∗ land c 20
    ∗ land c 21 ∗ land c 22 ∗ land c 23 ∗ land c 24 ∗ land c 25 ∗ land c 26 ∗ land c 27)
  iintro ⟨⟨H0, H2, H4, H16, H18, H20, H22, H24, H26⟩, ⟨H1, H3, H5, H17, H19, H21, H23, H25, H27⟩, ⟨H6, H7, H11, H13, H14, H15⟩, H8, H9, H10, H12⟩
  iframe H0 H1 H2 H3 H4 H5 H6 H7 H8 H9 H10 H11 H12 H13 H14 H15 H16 H17 H18 H19 H20 H21 H22 H23 H24 H25 H26 H27

theorem todo_start (c : Dev nD) :
    iprop((bigSep Finset.univ fun t : Fin 28 => T0 (F := F) c t) ∗ barPay c 0 ∗ barPay c 1 ∗ barPay c 2 ∗ barPay c 3)
      ⊢ iprop((T0 c 0 ∗ land c 0) ∗ todo c 1) := by
  have h : todo (F := F) c 0 = iprop((bigSep Finset.univ fun t : Fin 28 => T0 (F := F) c t) ∗ bigSep Finset.univ fun t : Fin 28 => land (F := F) c t) := by
    unfold todo
    rw [show (Finset.univ.filter fun t : Fin 28 => 0 ≤ t.val) = Finset.univ from Finset.filter_true_of_mem fun _ _ => Nat.zero_le _, bigSep_sep']
  have h' := todo_step (F := F) c 0
  refine (sep_mono_right (lands_all c)).trans ?_
  rw [← h]; exact h'

/-- The inputs as the call finds them. -/
def In0 (c : Dev nD) : sProp 𝕄 :=
  iprop((xM.view.loc (c : Thread nD τ) ↦{fullShare} (xin m ρ c)) ∗ (rM.view.loc (c : Thread nD τ) ↦{fullShare} (rin m ρ c))
    ∗ (iM.view.loc (c : Thread nD τ) ↦{fullShare} (iin m ρ c)) ∗ (wM.view.loc (c : Thread nD τ) ↦{fullShare} (win m ρ c)))

theorem segA (c : Dev nD) (W : Waits sig Unit) {α : Type} {Q : α → sProp 𝕄} (v19 v36 v20 v24 v29 v32 v35 : BitVec 32)
    (k : BitVec 32 → BitVec 32 → BitVec 32 → Prog (TpuEff nD τ sig (Elt F) Λ₀ .tc) α) :
    iprop(Env m ρ K ∗ In0 m ρ c ∗ any c gM ∗ any c ownA ∗ any c ownB ∗ owes (c : Thread nD τ) (O0 c) W ∗ Bar c
        ∗ (bigSep Finset.univ fun t : Fin 28 => T0 (F := F) c t)
      ∗ ((In m ρ c ∗ (rM.view.loc (c : Thread nD τ) ↦{fullShare} (rin m ρ c)) ∗ (iM.view.loc (c : Thread nD τ) ↦{fullShare} (iin m ρ c))
          ∗ T1 c 0 ∗ owns (c : Thread nD τ) ownB fullShare (B0 m ρ c) ∗ semVal (barCell c) 0 ∗ todo c 1 ∗ Ow c 1)
        -∗ ∀ a b d, Run c (k a b d) Q))
    ⊢ Run c (
        on (k0_part2 (F := F)) v19 v36 >>= fun o2 =>
        on (k0_part3 (F := F)) (wd c) o2.2.2.2 >>= fun o3 =>
        on (k0_part4 (F := F)) (wd c) o3.1 o3.2.1 o3.2.2.1 o3.2.2.2.1 o3.2.2.2.2.2.2.1 o3.2.2.2.2.2.2.2 >>= fun o4 =>
        on (k0_part5 (F := F)) c (wd c) v20 o3.1 o3.2.1 o3.2.2.1 o3.2.2.2.1 o3.2.2.2.2.1 o3.2.2.2.2.2.1 o4.1 o4.2.1 o4.2.2.1 o4.2.2.2.1 o4.2.2.2.2.1 o4.2.2.2.2.2 >>= fun o5 =>
        on (k0_part6 (F := F)) c v20 o5.1 o5.2 >>= fun o6 =>
        on (k0_part7 (F := F)) c v20 v24 v29 o5.1 o6 >>= fun o7 =>
        on (k0_part8 (F := F)) c v20 v24 v32 v35 o7 >>= fun o8 =>
        on (k0_part9 (F := F)) c v20 o8.1 o8.2.1 o8.2.2 >>= fun o9 =>
        on (k0_part10 (F := F)) c v20 v29 o8.1 o9.1 o9.2 >>= fun _ =>
        k o2.1 o2.2.1 o2.2.2.1) Q := by
  simp only [on, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  simp only [k0_part2_skel, k0_part3_skel, k0_part4_skel, k0_part5_skel, k0_part6_skel, k0_part7_skel, k0_part8_skel, k0_part9_skel, k0_part10_skel]
  simp only [Prog.lift, Prog.bind_op, Prog.bind_ret, Prog.pure_eq_ret, semSignalWord, semWaitWord]
  unfold In0
  iintro ⟨#HE, ⟨Hx, Hr, Hi, Hw⟩, Hg, HA, HB, HO, Hbar, HT, Hk⟩
  iapply (wp_load 𝒱₀ (c : Thread nD τ) none Set.univ (m := xM) (Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  iapply (ld_any c) $$ Hg; iintro %v Hg
  iapply (st_whole c) $$ Hg; iintro Hg
  ihave Hg := (owns_whole c cc0_scratch0) $$ Hg
  ihave HI : In m ρ c $$ [Hx Hw Hg]
  · unfold In
    isplitl [Hx]; · iexact Hx
    isplitl [Hw]; · iexact Hw
    iexact Hg
  iapply (ld_x c) $$ HI; iintro HI
  iapply (ld_g c) $$ HI; iintro HI
  iapply (ld_w c) $$ HI; iintro HI
  iapply (ld_g c) $$ HI; iintro HI
  iapply (ld_w c) $$ HI; iintro HI
  iapply (ld_g c) $$ HI; iintro HI
  iapply (ld_w c) $$ HI; iintro HI
  iapply (ld_g c) $$ HI; iintro HI
  iapply (ld_w c) $$ HI; iintro HI
  iapply (ld_g c) $$ HI; iintro HI
  iapply (ld_w c) $$ HI; iintro HI
  iapply (ld_g c) $$ HI; iintro HI
  iapply (ld_w c) $$ HI; iintro HI
  iapply (ld_g c) $$ HI; iintro HI
  iapply (ld_w c) $$ HI; iintro HI
  iapply (ld_g c) $$ HI; iintro HI
  iapply (ld_w c) $$ HI; iintro HI
  iapply (ld_any c) $$ HA; iintro %va HA
  iapply (st_whole c) $$ HA; iintro HA
  ihave HA' : owns (c : Thread nD τ) ownA fullShare (A0 m ρ c) $$ [HA]
  · iapply (Entails.of_eq (congrArg (owns (c : Thread nD τ) ownA fullShare) (own_left (xat m ρ c (k0_off1 c) (k0_off1_inb c)) (gat m ρ c (k0_off2 c) (k0_off2_inb c))
      (gat m ρ c (k0_off3 c) (k0_off3_inb c)) (gat m ρ c (k0_off4 c) (k0_off4_inb c)) (gat m ρ c (k0_off5 c) (k0_off5_inb c)) (gat m ρ c (k0_off6 c) (k0_off6_inb c))
      (gat m ρ c (k0_off7 c) (k0_off7_inb c)) (gat m ρ c (k0_off8 c) (k0_off8_inb c)) (gat m ρ c (k0_off9 c) (k0_off9_inb c)) (wL m ρ c))))
    iexact HA
  unfold Bar
  icases Hbar with ⟨⟨Ht0, Hl0⟩, ⟨Ht1, Hl1⟩, ⟨Ht2, Hl2⟩, ⟨Ht3, Hl3⟩, Ha, Hc⟩
  iapply (signal c _ 0 (sig1 c) rfl W (O' := O1 c)) $$ [HO Ht0 Hl0]
  · isplitr; · iexact HE
    isplitl [HO]; · iexact HO
    isplitl [Ht0] <;> iassumption
  iintro HO
  iapply (signal c _ 1 (sig2 c) rfl W (O' := O2 c)) $$ [HO Ht1 Hl1]
  · isplitr; · iexact HE
    isplitl [HO]; · iexact HO
    isplitl [Ht1] <;> iassumption
  iintro HO
  iapply (signal c _ 2 (sig3 c) rfl W (O' := O3 c)) $$ [HO Ht2 Hl2]
  · isplitr; · iexact HE
    isplitl [HO]; · iexact HO
    isplitl [Ht2] <;> iassumption
  iintro HO
  iapply (signal c _ 3 (sig4 c) rfl W (O' := O c 0)) $$ [HO Ht3 Hl3]
  · isplitr; · iexact HE
    isplitl [HO]; · iexact HO
    isplitl [Ht3] <;> iassumption
  iintro HO
  iapply (waitBar c rfl) $$ [HO Ha Hc]
  · isplitr; · iexact HE
    isplitl [Ha]; · iexact Ha
    isplitl [Hc]; · iexact Hc
    unfold Ow; iexists W; iexact HO
  iintro ⟨Hz, Hlands, HO⟩
  ihave Htodo := (todo_start c) $$ [HT Hlands]
  · isplitl [HT] <;> iassumption
  icases Htodo with ⟨⟨HT0, Hl0⟩, Htodo⟩
  iapply (start_owns c _ 0 (dev0 c) rfl rfl (X := A0 m ρ c) rfl rfl rfl (recv_0 m ρ c)) $$ [HT0 HA' Hl0 HO]
  · isplitr; · iexact HE
    isplitl [HT0]; · iexact HT0
    isplitl [HA']; · iexact HA'
    isplitl [Hl0]; · iexact Hl0
    iexact HO
  iintro ⟨HT0, HO⟩
  iapply (ld_x c) $$ HI; iintro HI
  iapply (ld_g c) $$ HI; iintro HI
  iapply (ld_w c) $$ HI; iintro HI
  iapply (ld_g c) $$ HI; iintro HI
  iapply (ld_w c) $$ HI; iintro HI
  iapply (ld_g c) $$ HI; iintro HI
  iapply (ld_w c) $$ HI; iintro HI
  iapply (ld_g c) $$ HI; iintro HI
  iapply (ld_w c) $$ HI; iintro HI
  iapply (ld_g c) $$ HI; iintro HI
  iapply (ld_w c) $$ HI; iintro HI
  iapply (ld_g c) $$ HI; iintro HI
  iapply (ld_w c) $$ HI; iintro HI
  iapply (ld_g c) $$ HI; iintro HI
  iapply (ld_w c) $$ HI; iintro HI
  iapply (ld_g c) $$ HI; iintro HI
  iapply (ld_w c) $$ HI; iintro HI
  iapply (ld_any c) $$ HB; iintro %vb HB
  iapply (st_whole c) $$ HB; iintro HB
  ihave HB' : owns (c : Thread nD τ) ownB fullShare (B0 m ρ c) $$ [HB]
  · iapply (Entails.of_eq (congrArg (owns (c : Thread nD τ) ownB fullShare) (own_right (xat m ρ c (k0_off1 c) (k0_off1_inb c)) (gat m ρ c (k0_off2 c) (k0_off2_inb c))
      (gat m ρ c (k0_off3 c) (k0_off3_inb c)) (gat m ρ c (k0_off4 c) (k0_off4_inb c)) (gat m ρ c (k0_off5 c) (k0_off5_inb c)) (gat m ρ c (k0_off6 c) (k0_off6_inb c))
      (gat m ρ c (k0_off7 c) (k0_off7_inb c)) (gat m ρ c (k0_off8 c) (k0_off8_inb c)) (gat m ρ c (k0_off9 c) (k0_off9_inb c)) (wR m ρ c))))
    iexact HB
  iapply Hk $$ [HI Hr Hi HT0 HB' Hz Htodo HO]
  iframe HI Hr Hi HT0 HB' Hz Htodo
  iexact HO

end Cert.KernelIdeal.Moe

end
-- ==== Proof.Ring.lean ====
/-
The first ring's three steps: on each, the sum that came from a neighbour takes in the device's own part.
-/
module

public import proofs.«01_k».proof.Proof.SegA

@[expose] public section

set_option maxRecDepth 20000
set_option maxHeartbeats 4000000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

section Steps
variable {m ρ K}
variable {sp sp' : Space} {s : Shape} {e : EltTy} {M : Memref sig .tc sp s e}

/-- Starting the next transfer. -/
theorem go_owns (c n : Dev nD) (t : Fin 28) (hn : n = dst t c) {M' : Memref sig .tc sp' s e}
    {sS sR : DmaSem sig} (hS : sS = sendS t) (hR : sR = recvS t)
    {hsc : M'.view.ref.isScScratch = false} {hsrc : M.view.WordExact} {hdst : M'.view.WordExact}
    {hsem : DmaTarget.Typed sp (.dma sR) (.remote (Dev.tc n : Thread nD τ) M' (.dma sS) hsc)}
    {α : Type} {Q : α → sProp 𝕄} {k : PUnit → Prog (TpuEff nD τ sig (Elt F) Λ₀ .tc) α}
    (hN : M'.view.dmaCredit = cr t) {X : s.Idx → Elt F e}
    (h1 : sendPay m ρ c t = any c M) (hl : land c t = any (F := F) (dst t c) M')
    (h2 : recvPay m ρ (dst t c) t = owns ((dst t c : Dev nD) : Thread nD τ) M' fullShare X) :
    iprop(Env m ρ K ∗ owns (c : Thread nD τ) M fullShare X ∗ todo c t.val ∗ Ow c t.val)
      ⊢ iprop(((T1 c t ∗ todo c (t.val + 1) ∗ Ow c (t.val + 1)) -∗ Run c (k ⟨⟩) Q)
          -∗ Run c (.op (.enqueueDma M (.remote (Dev.tc n : Thread nD τ) M' (.dma sS) hsc) (.dma sR) hsrc hdst hsem) k) Q) := by
  iintro ⟨#HE, HX, Htodo, HO⟩ Hk
  ihave Htodo := (todo_step c t) $$ Htodo
  icases Htodo with ⟨⟨HT, Hl⟩, Htodo⟩
  iapply (start_owns c n t hn hS hR hN h1 hl h2) $$ [HT HX Hl HO]
  · isplitr; · iexact HE
    isplitl [HT]; · iexact HT
    isplitl [HX]; · iexact HX
    isplitl [Hl]; · iexact Hl
    iexact HO
  iintro ⟨HT, HO⟩
  iapply Hk
  isplitl [HT]; · iexact HT
  isplitl [Htodo] <;> iassumption

/-- The two waits on a transfer, one after the other. -/
theorem waitSR (c : Dev nD) (t : Fin 28) (j : ℕ) {sS sR : DmaSem sig} (hS : sS = sendS t) (hR : sR = recvS t) (hj : t.val < j)
    {sp₁ sp₂ sp₃ sp₄ : Space} {s₁ s₂ s₃ s₄ : Shape} {e₁ e₂ e₃ e₄ : EltTy}
    {M₁ : Memref sig .tc sp₁ s₁ e₁} {M₂ : Memref sig .tc sp₂ s₂ e₂} {M₃ : Memref sig .tc sp₃ s₃ e₃} {M₄ : Memref sig .tc sp₄ s₄ e₄}
    {w₁ : M₁.view.WordExact} {w₂ : M₂.view.WordExact} {w₃ : M₃.view.WordExact} {w₄ : M₄.view.WordExact}
    {α : Type} {Q : α → sProp 𝕄} {k : PUnit → Prog (TpuEff nD τ sig (Elt F) Λ₀ .tc) α}
    (hN : M₂.view.dmaCredit = cr t) (hN' : M₄.view.dmaCredit = cr t) {PS PR : sProp 𝕄} (hPS : sendPay m ρ c t = PS) (hPR : recvPay m ρ c t = PR) :
    iprop(Env m ρ K ∗ T1 c t ∗ Ow c j)
      ⊢ iprop(((T3 c t ∗ PS ∗ PR ∗ Ow c j) -∗ Run c (k ⟨⟩) Q)
        -∗ Run c (.op (.waitDma2 sS M₁ M₂ w₁ w₂) fun _ => .op (.waitDma2 sR M₃ M₄ w₃ w₄) k) Q) := by
  subst hPS hPR
  iintro ⟨#HE, HT, HO⟩ Hk
  iapply (waitS c t j hS hN) $$ [HT HO]
  · isplitr; · iexact HE
    isplitl [HT] <;> iassumption
  iintro ⟨HT, Hs, HO⟩
  iapply (waitR c t j hR hj hN') $$ [HT HO]
  · isplitr; · iexact HE
    isplitl [HT] <;> iassumption
  iintro ⟨HT, Hr, HO⟩
  iapply Hk
  isplitl [HT]; · iexact HT
  isplitl [Hs]; · iexact Hs
  isplitl [Hr] <;> iassumption

/-- The update of a slot: its contents are read, and their sum with the device's own part is stored. -/
theorem add_slot (c : Dev nD) {N : Memref sig .tc .vmem S3x512x512 .f32} {off : Fin 3 → ℕ} {inb : ∀ a, off a + S1x512x512.size a ≤ S3x512x512.size a}
    {hl hl' : N.view.LoadsAt (Rect.unit (s := S3x512x512) off S1x512x512.size inb).toLoadRect}
    {hx : (N.access (Rect.unit (s := S3x512x512) off S1x512x512.size inb)).Stores Finset.univ}
    {hm : (Finset.univ : Finset S1x512x512.Idx) = Finset.univ ∨ ∀ a, (Rect.unit (s := S3x512x512) off S1x512x512.size inb).stride a = 1}
    (X acc : FVec F S512x512 .f32) {p : (S1x512x512.Idx → Elt F .f32) → S1x512x512.Idx → Elt F .f32}
    (hp : ∀ v, p v = shapeCast S1x512x512 (addf (shapeCast S512x512 v shapeCasts_S1x512x512_S512x512) acc) shapeCasts_S512x512_S1x512x512)
    {α : Type} {Q : α → sProp 𝕄} {k : PUnit → Prog (TpuEff nD τ sig (Elt F) Λ₀ .tc) α} :
    owns (c : Thread nD τ) (slotAt N off inb) fullShare X
      ⊢ iprop((owns (c : Thread nD τ) (slotAt N off inb) fullShare (addf X acc) -∗ Run c (k ⟨⟩) Q)
        -∗ Run c (.op (.load N (Rect.unit (s := S3x512x512) off S1x512x512.size inb).toLoadRect hl) fun v =>
            .op (.load N (Rect.unit (s := S3x512x512) off S1x512x512.size inb).toLoadRect hl') fun _ =>
            .op (.store N (Rect.unit (s := S3x512x512) off S1x512x512.size inb) (p v) Finset.univ hx hm) k) Q) := by
  iintro H Hk
  iapply (ld_slot c) $$ H; iintro H
  iapply (ld_slot c) $$ H; iintro H
  ihave H := (owns_any c) $$ H
  iapply (st_slot c) $$ H; iintro H
  rw [hp, sum_slot]
  iapply Hk; iexact H

/-- The copy of a slot into a working buffer. -/
theorem take_slot (c : Dev nD) {N : Memref sig .tc .vmem S3x512x512 .f32} {off : Fin 3 → ℕ} {inb : ∀ a, off a + S1x512x512.size a ≤ S3x512x512.size a}
    {Z : Memref sig .tc .vmem S512x512 .f32} {off' : Fin 2 → ℕ} {inb' : ∀ a, off' a + S512x512.size a ≤ S512x512.size a}
    {hl : N.view.LoadsAt (Rect.unit (s := S3x512x512) off S1x512x512.size inb).toLoadRect}
    {hl' : Z.view.LoadsAt (Rect.unit (s := S512x512) off' S512x512.size inb').toLoadRect}
    {hx : (Z.access (Rect.unit (s := S512x512) off' S512x512.size inb')).Stores Finset.univ}
    {hm : (Finset.univ : Finset S512x512.Idx) = Finset.univ ∨ ∀ a, (Rect.unit (s := S512x512) off' S512x512.size inb').stride a = 1}
    {X : FVec F S512x512 .f32} {p : (S1x512x512.Idx → Elt F .f32) → S512x512.Idx → Elt F .f32}
    (hp : ∀ v, p v = shapeCast S512x512 (shapeCast S512x512 v shapeCasts_S1x512x512_S512x512) shapeCasts_S512x512_S512x512)
    {α : Type} {Q : α → sProp 𝕄} {k : PUnit → Prog (TpuEff nD τ sig (Elt F) Λ₀ .tc) α} :
    iprop(owns (c : Thread nD τ) (slotAt N off inb) fullShare X ∗ any c Z)
      ⊢ iprop(((owns (c : Thread nD τ) (slotAt N off inb) fullShare X ∗ owns (c : Thread nD τ) Z fullShare X) -∗ Run c (k ⟨⟩) Q)
        -∗ Run c (.op (.load N (Rect.unit (s := S3x512x512) off S1x512x512.size inb).toLoadRect hl) fun v =>
            .op (.load Z (Rect.unit (s := S512x512) off' S512x512.size inb').toLoadRect hl') fun _ =>
            .op (.store Z (Rect.unit (s := S512x512) off' S512x512.size inb') (p v) Finset.univ hx hm) k) Q) := by
  iintro ⟨H, HZ⟩ Hk
  iapply (ld_slot c) $$ H; iintro H
  iapply (ld_any c) $$ HZ; iintro %v HZ
  iapply (st_whole c) $$ HZ; iintro HZ
  rw [hp, copy_slot]
  iapply Hk
  isplitl [H] <;> iassumption

end Steps

/-- The first step. -/
theorem segB (c : Dev nD) {α : Type} {Q : α → sProp 𝕄} (v20 v24 v29 : BitVec 32)
    (k : Prog (TpuEff nD τ sig (Elt F) Λ₀ .tc) α) :
    iprop(Env m ρ K ∗ In m ρ c ∗ T1 c 0 ∗ owns (c : Thread nD τ) ownB fullShare (B0 m ρ c) ∗ todo c 1 ∗ Ow c 1
      ∗ ((In m ρ c ∗ T3 c 0 ∗ T3 c 1 ∗ any c ownA ∗ any c ownB ∗ owns (c : Thread nD τ) (slot0 comA) fullShare (A1 m ρ c) ∗ owns (c : Thread nD τ) (slot0 comB) fullShare (B1 m ρ c) ∗ todo c 2 ∗ Ow c 2)
        -∗ Run c k Q))
    ⊢ Run c (
        on (k0_part11 (F := F)) c v20 >>= fun o11 =>
        on (k0_part12 (F := F)) c o11.1 o11.2.1 o11.2.2.1 o11.2.2.2.1 o11.2.2.2.2 >>= fun o12 =>
        on (k0_part13 (F := F)) c v20 o11.1 o11.2.1 o12.1 o12.2.1 o12.2.2 >>= fun o13 =>
        on (k0_part14 (F := F)) c o13.2.1 o13.2.2.1 o13.2.2.2.1 o13.2.2.2.2.1 o13.2.2.2.2.2.1 o13.2.2.2.2.2.2 >>= fun o14 =>
        on (k0_part15 (F := F)) c v24 o13.2.1 o13.2.2.1 o14.1 o14.2.1 o14.2.2.1 o14.2.2.2 >>= fun o15 =>
        on (k0_part16 (F := F)) v24 v29 o13.1 o15 >>= fun _ =>
        k) Q := by
  simp only [on, k0_part11_eq_skeleton, k0_part12_eq_skeleton, k0_part13_eq_skeleton, k0_part14_eq_skeleton, k0_part15_eq_skeleton, k0_part16_eq_skeleton]
  simp only [k0_part11_skel, k0_part12_skel, k0_part13_skel, k0_part14_skel, k0_part15_skel, k0_part16_skel]
  simp only [Prog.lift, Prog.bind_op, Prog.bind_ret, Prog.pure_eq_ret, semSignalWord, semWaitWord]
  iintro ⟨#HE, HI, HT0, HB0, Htodo, HO, Hk⟩
  iapply (go_owns c _ 1 (dev1 c) rfl rfl (M := ownB) (M' := slot0 comB) (X := B0 m ρ c) rfl rfl rfl (recv_1 m ρ c)) $$ [HB0 Htodo HO]
  · isplitr; · iexact HE
    isplitl [HB0]; · iexact HB0
    isplitl [Htodo]; · iexact Htodo
    iexact HO
  iintro ⟨HT1, Htodo, HO⟩
  iterate 2
    iapply (ld_x c) $$ HI; iintro HI
    iterate 8
      iapply (ld_g c) $$ HI; iintro HI
      iapply (ld_w c) $$ HI; iintro HI
  iapply (waitSR c 0 2 (M₂ := ownA) (M₄ := slot0 comA) rfl rfl (by decide) rfl rfl
    (PS := any c (ownA)) (PR := owns (c : Thread nD τ) (slot0 comA) fullShare (A0 m ρ (lf c))) rfl rfl) $$ [HT0 HO]
  · isplitr; · iexact HE
    isplitl [HT0]; · iexact HT0
    iexact HO
  iintro ⟨HT0, HS0, HR0, HO⟩
  iapply (add_slot c (A0 m ρ (lf c)) (addA m ρ 0 c) (fun _ => rfl)) $$ [HR0]; · iexact HR0
  iintro HA1
  iapply (waitSR c 1 2 (M₂ := ownB) (M₄ := slot0 comB) rfl rfl (by decide) rfl rfl
    (PS := any c (ownB)) (PR := owns (c : Thread nD τ) (slot0 comB) fullShare (B0 m ρ (rt c))) rfl rfl) $$ [HT1 HO]
  · isplitr; · iexact HE
    isplitl [HT1]; · iexact HT1
    iexact HO
  iintro ⟨HT1, HS1, HR1, HO⟩
  iapply (add_slot c (B0 m ρ (rt c)) (addB m ρ 0 c) (fun _ => rfl)) $$ [HR1]; · iexact HR1
  iintro HB1
  iapply Hk $$ [HI HT0 HT1 HS0 HS1 HA1 HB1 Htodo HO]
  isplitl [HI]; · iexact HI
  isplitl [HT0]; · iexact HT0
  isplitl [HT1]; · iexact HT1
  isplitl [HS0]; · iexact HS0
  isplitl [HS1]; · iexact HS1
  isplitl [HA1]; · iexact HA1
  isplitl [HB1]; · iexact HB1
  isplitl [Htodo]; · iexact Htodo
  iexact HO

/-- The second step, and the start of the third. -/
theorem segC (c : Dev nD) {α : Type} {Q : α → sProp 𝕄} (v20 v24 v29 : BitVec 32)
    (k : Prog (TpuEff nD τ sig (Elt F) Λ₀ .tc) α) :
    iprop(Env m ρ K ∗ In m ρ c ∗ owns (c : Thread nD τ) (slot0 comA) fullShare (A1 m ρ c) ∗ owns (c : Thread nD τ) (slot0 comB) fullShare (B1 m ρ c) ∗ todo c 2 ∗ Ow c 2
      ∗ ((In m ρ c ∗ T3 c 2 ∗ T3 c 3 ∗ any c (slot0 comA) ∗ any c (slot0 comB) ∗ T1 c 4 ∗ owns (c : Thread nD τ) (slot1 comB) fullShare (B2 m ρ c) ∗ todo c 5 ∗ Ow c 5)
        -∗ Run c k Q))
    ⊢ Run c (
        on (k0_part17 (F := F)) c v20 v29 >>= fun o17 =>
        on (k0_part18 (F := F)) c o17.1 o17.2.1 o17.2.2.1 o17.2.2.2 >>= fun o18 =>
        on (k0_part19 (F := F)) c v20 o17.1 o17.2.1 o18.1 o18.2 >>= fun o19 =>
        on (k0_part20 (F := F)) c o19.2.1 o19.2.2.1 o19.2.2.2 >>= fun o20 =>
        on (k0_part21 (F := F)) c o19.2.1 o19.2.2.1 o20 >>= fun o21 =>
        on (k0_part22 (F := F)) v24 o19.1 >>= fun _ =>
        on (k0_part23 (F := F)) c v24 v29 o21 >>= fun _ =>
        k) Q := by
  simp only [on, k0_part17_eq_skeleton, k0_part18_eq_skeleton, k0_part19_eq_skeleton, k0_part20_eq_skeleton, k0_part21_eq_skeleton, k0_part22_eq_skeleton, k0_part23_eq_skeleton]
  simp only [k0_part17_skel, k0_part18_skel, k0_part19_skel, k0_part20_skel, k0_part21_skel, k0_part22_skel, k0_part23_skel]
  simp only [Prog.lift, Prog.bind_op, Prog.bind_ret, Prog.pure_eq_ret, semSignalWord, semWaitWord]
  iintro ⟨#HE, HI, HA1, HB1, Htodo, HO, Hk⟩
  iapply (go_owns c _ 2 (dev2 c) rfl rfl (M := slot0 comA) (M' := slot1 comA) (X := A1 m ρ c) rfl rfl rfl (recv_2 m ρ c)) $$ [HA1 Htodo HO]
  · isplitr; · iexact HE
    isplitl [HA1]; · iexact HA1
    isplitl [Htodo]; · iexact Htodo
    iexact HO
  iintro ⟨HT2, Htodo, HO⟩
  iapply (go_owns c _ 3 (dev3 c) rfl rfl (M := slot0 comB) (M' := slot1 comB) (X := B1 m ρ c) rfl rfl rfl (recv_3 m ρ c)) $$ [HB1 Htodo HO]
  · isplitr; · iexact HE
    isplitl [HB1]; · iexact HB1
    isplitl [Htodo]; · iexact Htodo
    iexact HO
  iintro ⟨HT3, Htodo, HO⟩
  iterate 2
    iapply (ld_x c) $$ HI; iintro HI
    iterate 8
      iapply (ld_g c) $$ HI; iintro HI
      iapply (ld_w c) $$ HI; iintro HI
  iapply (waitSR c 2 4 (M₂ := slot0 comA) (M₄ := slot1 comA) rfl rfl (by decide) rfl rfl
    (PS := any c (slot0 comA)) (PR := owns (c : Thread nD τ) (slot1 comA) fullShare (A1 m ρ (lf c))) rfl rfl) $$ [HT2 HO]
  · isplitr; · iexact HE
    isplitl [HT2]; · iexact HT2
    iexact HO
  iintro ⟨HT2, HS2, HR2, HO⟩
  iapply (add_slot c (A1 m ρ (lf c)) (addA m ρ 1 c) (fun _ => rfl)) $$ [HR2]; · iexact HR2
  iintro HA2
  iapply (waitSR c 3 4 (M₂ := slot0 comB) (M₄ := slot1 comB) rfl rfl (by decide) rfl rfl
    (PS := any c (slot0 comB)) (PR := owns (c : Thread nD τ) (slot1 comB) fullShare (B1 m ρ (rt c))) rfl rfl) $$ [HT3 HO]
  · isplitr; · iexact HE
    isplitl [HT3]; · iexact HT3
    iexact HO
  iintro ⟨HT3, HS3, HR3, HO⟩
  iapply (add_slot c (B1 m ρ (rt c)) (addB m ρ 1 c) (fun _ => rfl)) $$ [HR3]; · iexact HR3
  iintro HB2
  iapply (go_owns c _ 4 (dev4 c) rfl rfl (M := slot1 comA) (M' := slot2 comA) (X := A2 m ρ c) rfl rfl rfl (recv_4 m ρ c)) $$ [HA2 Htodo HO]
  · isplitr; · iexact HE
    isplitl [HA2]; · iexact HA2
    isplitl [Htodo]; · iexact Htodo
    iexact HO
  iintro ⟨HT4, Htodo, HO⟩
  iapply Hk $$ [HI HT2 HT3 HS2 HS3 HT4 HB2 Htodo HO]
  isplitl [HI]; · iexact HI
  isplitl [HT2]; · iexact HT2
  isplitl [HT3]; · iexact HT3
  isplitl [HS2]; · iexact HS2
  isplitl [HS3]; · iexact HS3
  isplitl [HT4]; · iexact HT4
  isplitl [HB2]; · iexact HB2
  isplitl [Htodo]; · iexact Htodo
  iexact HO

/-- The third step, and the finished sums copied into the working buffers. -/
theorem segD (c : Dev nD) {α : Type} {Q : α → sProp 𝕄} (v20 v24 v29 v32 : BitVec 32)
    (k : BitVec 32 → BitVec 32 → BitVec 32 → Prog (TpuEff nD τ sig (Elt F) Λ₀ .tc) α) :
    iprop(Env m ρ K ∗ In m ρ c ∗ T1 c 4 ∗ owns (c : Thread nD τ) (slot1 comB) fullShare (B2 m ρ c) ∗ any c zwA ∗ any c zwB ∗ todo c 5 ∗ Ow c 5
      ∗ ((In m ρ c ∗ T3 c 4 ∗ T3 c 5 ∗ any c (slot1 comA) ∗ any c (slot1 comB) ∗ any c (slot2 comA) ∗ any c (slot2 comB) ∗ owns (c : Thread nD τ) zwA fullShare (A3 m ρ c) ∗ owns (c : Thread nD τ) zwB fullShare (B3 m ρ c) ∗ todo c 6 ∗ Ow c 6)
        -∗ ∀ a b d, Run c (k a b d) Q))
    ⊢ Run c (
        on (k0_part24 (F := F)) c v20 v29 >>= fun o24 =>
        on (k0_part25 (F := F)) c o24.1 o24.2.1 o24.2.2.1 o24.2.2.2.1 o24.2.2.2.2 >>= fun o25 =>
        on (k0_part26 (F := F)) c v20 o24.1 o24.2.1 o25.1 o25.2.1 o25.2.2 >>= fun o26 =>
        on (k0_part27 (F := F)) c o26.2.1 o26.2.2.1 o26.2.2.2.1 o26.2.2.2.2.1 o26.2.2.2.2.2 >>= fun o27 =>
        on (k0_part28 (F := F)) c o26.2.1 o26.2.2.1 o27.1 o27.2.1 o27.2.2 >>= fun o28 =>
        on (k0_part29 (F := F)) v24 v29 o26.1 >>= fun _ =>
        on (k0_part30 (F := F)) v20 v32 o28 >>= fun o30 =>
        k o30.1 o30.2.1 o30.2.2) Q := by
  simp only [on, k0_part24_eq_skeleton, k0_part25_eq_skeleton, k0_part26_eq_skeleton, k0_part27_eq_skeleton, k0_part28_eq_skeleton, k0_part29_eq_skeleton, k0_part30_eq_skeleton]
  simp only [k0_part24_skel, k0_part25_skel, k0_part26_skel, k0_part27_skel, k0_part28_skel, k0_part29_skel, k0_part30_skel]
  simp only [Prog.lift, Prog.bind_op, Prog.bind_ret, Prog.pure_eq_ret, semSignalWord, semWaitWord]
  iintro ⟨#HE, HI, HT4, HB2, HzA, HzB, Htodo, HO, Hk⟩
  iapply (go_owns c _ 5 (dev5 c) rfl rfl (M := slot1 comB) (M' := slot2 comB) (X := B2 m ρ c) rfl rfl rfl (recv_5 m ρ c)) $$ [HB2 Htodo HO]
  · isplitr; · iexact HE
    isplitl [HB2]; · iexact HB2
    isplitl [Htodo]; · iexact Htodo
    iexact HO
  iintro ⟨HT5, Htodo, HO⟩
  iterate 2
    iapply (ld_x c) $$ HI; iintro HI
    iterate 8
      iapply (ld_g c) $$ HI; iintro HI
      iapply (ld_w c) $$ HI; iintro HI
  iapply (waitSR c 4 6 (M₂ := slot1 comA) (M₄ := slot2 comA) rfl rfl (by decide) rfl rfl
    (PS := any c (slot1 comA)) (PR := owns (c : Thread nD τ) (slot2 comA) fullShare (A2 m ρ (lf c))) rfl rfl) $$ [HT4 HO]
  · isplitr; · iexact HE
    isplitl [HT4]; · iexact HT4
    iexact HO
  iintro ⟨HT4, HS4, HR4, HO⟩
  iapply (add_slot c (A2 m ρ (lf c)) (addA m ρ 2 c) (fun _ => rfl)) $$ [HR4]; · iexact HR4
  iintro HA3
  iapply (waitSR c 5 6 (M₂ := slot1 comB) (M₄ := slot2 comB) rfl rfl (by decide) rfl rfl
    (PS := any c (slot1 comB)) (PR := owns (c : Thread nD τ) (slot2 comB) fullShare (B2 m ρ (rt c))) rfl rfl) $$ [HT5 HO]
  · isplitr; · iexact HE
    isplitl [HT5]; · iexact HT5
    iexact HO
  iintro ⟨HT5, HS5, HR5, HO⟩
  iapply (add_slot c (B2 m ρ (rt c)) (addB m ρ 2 c) (fun _ => rfl)) $$ [HR5]; · iexact HR5
  iintro HB3
  iapply (take_slot c (fun _ => rfl)) $$ [HA3 HzA]
  · isplitl [HA3] <;> iassumption
  iintro ⟨HA3, HzA⟩
  iapply (take_slot c (fun _ => rfl)) $$ [HB3 HzB]
  · isplitl [HB3] <;> iassumption
  iintro ⟨HB3, HzB⟩
  ihave HA3 := (owns_any c) $$ HA3
  ihave HB3 := (owns_any c) $$ HB3
  iapply Hk $$ [HI HT4 HT5 HS4 HS5 HA3 HB3 HzA HzB Htodo HO]
  isplitl [HI]; · iexact HI
  isplitl [HT4]; · iexact HT4
  isplitl [HT5]; · iexact HT5
  isplitl [HS4]; · iexact HS4
  isplitl [HS5]; · iexact HS5
  isplitl [HA3]; · iexact HA3
  isplitl [HB3]; · iexact HB3
  isplitl [HzA]; · iexact HzA
  isplitl [HzB]; · iexact HzB
  isplitl [Htodo]; · iexact Htodo
  iexact HO

end Cert.KernelIdeal.Moe

end
-- ==== Proof.Pieces.lean ====
/-
Pieces of the working buffers and regions of the result: loads, stores, transfers, and how pieces make up a whole.
-/
module

public import proofs.«01_k».proof.Proof.Ring

@[expose] public section

set_option maxRecDepth 20000
set_option maxHeartbeats 400000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

section Pieces
variable {m ρ K}
variable {s : Shape} {e : EltTy} {Z : Memref sig .tc .vmem s e}

/-! ## Pieces of a buffer -/

theorem piece_set {r : Rect s} {hr : ∀ a, r.stride a = 1} : (Z.slice r hr).view.set = Z.view.setOn r.set := View.set_slice _ _

/-- A part of a buffer whose contents are `G` is two pieces with the contents `G`. -/
theorem split_on (c : Dev nD) (G : s.Idx → Elt F e) (S : Finset s.Idx) (a b : Rect s) (ha : ∀ x, a.stride x = 1) (hb : ∀ x, b.stride x = 1)
    (hS : S = a.set ∪ b.set) (hd : Disjoint a.set b.set) (f : Buf (Elt F) (Z.view.loc (c : Thread nD τ))) (hf : ∀ i ∈ S, Z.view.read (Elt F) f i = G i) :
    (Z.view.loc (c : Thread nD τ) ↦[Z.view.setOn S]{fullShare} f : sProp 𝕄)
      ⊢ iprop(owns (c : Thread nD τ) (Z.slice a ha) fullShare (fun i => G (a.emb i)) ∗ owns (c : Thread nD τ) (Z.slice b hb) fullShare (fun i => G (b.emb i))) := by
  have e1 : Z.view.setOn S = (Z.slice a ha).view.set ∪ (Z.slice b hb).view.set := by
    rw [piece_set, piece_set, hS]; exact Finset.map_union _ _
  have e2 : Disjoint (Z.slice a ha).view.set (Z.slice b hb).view.set := by
    rw [piece_set, piece_set]; exact (Finset.disjoint_map _).mpr hd
  rw [e1]
  refine (pointsTo_union e2).1.trans ?_
  unfold owns
  iintro ⟨Ha, Hb⟩
  isplitl [Ha]
  · iexists f
    isplitr
    · ipureintro; funext i
      exact hf (a.emb i) (by rw [hS]; exact Finset.mem_union_left _ (by rw [← Rect.map_emb_univ]; exact Finset.mem_map_of_mem _ (Finset.mem_univ _)))
    iexact Ha
  iexists f
  isplitr
  · ipureintro; funext i
    exact hf (b.emb i) (by rw [hS]; exact Finset.mem_union_right _ (by rw [← Rect.map_emb_univ]; exact Finset.mem_map_of_mem _ (Finset.mem_univ _)))
  iexact Hb

theorem split_all (c : Dev nD) {G : s.Idx → Elt F e} {a b : Rect s} {ha : ∀ x, a.stride x = 1} {hb : ∀ x, b.stride x = 1}
    (hS : Finset.univ = a.set ∪ b.set) (hd : Disjoint a.set b.set) :
    owns (c : Thread nD τ) Z fullShare G
      ⊢ iprop(owns (c : Thread nD τ) (Z.slice a ha) fullShare (fun i => G (a.emb i)) ∗ owns (c : Thread nD τ) (Z.slice b hb) fullShare (fun i => G (b.emb i)) : sProp 𝕄) := by
  conv_lhs => unfold owns
  iintro ⟨%f, %hf, H⟩
  iapply (split_on c G Finset.univ a b ha hb hS hd f (fun i _ => congrFun hf i)); iexact H

theorem split_piece (c : Dev nD) {G : s.Idx → Elt F e} {r a b : Rect s} {hr : ∀ x, r.stride x = 1} {ha : ∀ x, a.stride x = 1} {hb : ∀ x, b.stride x = 1}
    (hS : r.set = a.set ∪ b.set) (hd : Disjoint a.set b.set) :
    owns (c : Thread nD τ) (Z.slice r hr) fullShare (fun i => G (r.emb i))
      ⊢ iprop(owns (c : Thread nD τ) (Z.slice a ha) fullShare (fun i => G (a.emb i)) ∗ owns (c : Thread nD τ) (Z.slice b hb) fullShare (fun i => G (b.emb i)) : sProp 𝕄) := by
  conv_lhs => unfold owns
  iintro ⟨%f, %hf, H⟩
  rw [piece_set]
  iapply (split_on c G r.set a b ha hb hS hd f (fun i hi => by
    rw [← Rect.map_emb_univ] at hi
    obtain ⟨j, -, rfl⟩ := Finset.mem_map.mp hi
    exact congrFun hf j)); iexact H

/-- Two pieces at any contents make up the part they cover. -/
theorem join_on (c : Dev nD) (S : Finset s.Idx) (a b : Rect s) (ha : ∀ x, a.stride x = 1) (hb : ∀ x, b.stride x = 1)
    (hS : S = a.set ∪ b.set) (hd : Disjoint a.set b.set) :
    iprop(any (F := F) c (Z.slice a ha) ∗ any c (Z.slice b hb))
      ⊢ (iprop(∃ f : Buf (Elt F) (Z.view.loc (c : Thread nD τ)), Z.view.loc (c : Thread nD τ) ↦[Z.view.setOn S]{fullShare} f) : sProp 𝕄) := by
  have e1 : Z.view.setOn S = (Z.slice a ha).view.set ∪ (Z.slice b hb).view.set := by
    rw [piece_set, piece_set, hS]; exact Finset.map_union _ _
  have e2 : Disjoint (Z.slice a ha).view.set (Z.slice b hb).view.set := by
    rw [piece_set, piece_set]; exact (Finset.disjoint_map _).mpr hd
  rw [e1]
  unfold any
  iintro ⟨⟨%f, Ha⟩, ⟨%g, Hb⟩⟩
  iexists _
  iapply (pointsTo_join e2)
  isplitl [Ha] <;> iassumption

theorem join_all (c : Dev nD) {a b : Rect s} {ha : ∀ x, a.stride x = 1} {hb : ∀ x, b.stride x = 1}
    (hS : Finset.univ = a.set ∪ b.set) (hd : Disjoint a.set b.set) :
    iprop(any (F := F) c (Z.slice a ha) ∗ any c (Z.slice b hb)) ⊢ any c Z := join_on c Finset.univ a b ha hb hS hd

theorem join_piece (c : Dev nD) {r a b : Rect s} {hr : ∀ x, r.stride x = 1} {ha : ∀ x, a.stride x = 1} {hb : ∀ x, b.stride x = 1}
    (hS : r.set = a.set ∪ b.set) (hd : Disjoint a.set b.set) :
    iprop(any (F := F) c (Z.slice a ha) ∗ any c (Z.slice b hb)) ⊢ any c (Z.slice r hr) := by
  refine (join_on c r.set a b ha hb hS hd).trans ?_
  unfold any; rw [piece_set]

theorem ld_piece (c : Dev nD) {r : Rect s} {hr : ∀ x, r.stride x = 1} {hl : Z.view.LoadsAt r.toLoadRect}
    {X : r.shape.Idx → Elt F e} {α : Type} {Q : α → sProp 𝕄} {k : (r.shape.Idx → Elt F e) → Prog (TpuEff nD τ sig (Elt F) Λ₀ .tc) α} :
    owns (c : Thread nD τ) (Z.slice r hr) fullShare X
      ⊢ iprop((owns (c : Thread nD τ) (Z.slice r hr) fullShare X -∗ Run c (k X) Q) -∗ Run c (.op (.load Z r.toLoadRect hl) k) Q) := by
  unfold owns
  iintro ⟨%f, %hf, H⟩ Hk
  iapply (wp_load 𝒱₀ (c : Thread nD τ) none Set.univ (m := Z) (S := (Z.slice r hr).view.set) (by rw [piece_set])) $$ H; iintro H
  have e1 : Z.view.readAt (Elt F) r.toLoadRect f = X := hf
  rw [e1]
  iapply Hk; iexists f
  isplitr; · ipureintro; exact hf
  iexact H

theorem st_piece (c : Dev nD) {r : Rect s} {hr : ∀ x, r.stride x = 1} {w : r.shape.Idx → Elt F e}
    {hx : (Z.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    any c (Z.slice r hr) ⊢ iprop((owns (c : Thread nD τ) (Z.slice r hr) fullShare w -∗ Run c (k ⟨⟩) Q) -∗ Run c (.op (.store Z r w Finset.univ hx hm) k) Q) := by
  unfold any owns
  iintro ⟨%f, H⟩ Hk
  iapply (wp_store 𝒱₀ (c : Thread nD τ) none Set.univ (m := Z) (r := r) (Mk := Finset.univ) (S := (Z.slice r hr).view.set) (View.setOn_subset_set _ _)) $$ H; iintro H
  iapply Hk; iexists _
  isplitr
  · ipureintro; exact View.read_write_univ (v := Z.access r) (Val := Elt F) f w
  iexact H

/-- A piece's update: it is read, the other summand is read, their sum is stored in the piece's place. -/
theorem add_piece (c : Dev nD) {r : Rect s} {hr : ∀ x, r.stride x = 1} {hl hl' : Z.view.LoadsAt r.toLoadRect}
    {s' : Shape} {M : Memref sig .tc .vmem s' e} {off : Fin s'.rank → ℕ} {inb : ∀ a, off a + s'.size a ≤ s'.size a}
    {hl'' : M.view.LoadsAt (Rect.unit (s := s') off s'.size inb).toLoadRect}
    {X : r.shape.Idx → Elt F e} {Y : s'.Idx → Elt F e} {p : (r.shape.Idx → Elt F e) → (s'.Idx → Elt F e) → r.shape.Idx → Elt F e}
    {hx : (Z.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    iprop(owns (c : Thread nD τ) (Z.slice r hr) fullShare X ∗ owns (c : Thread nD τ) M fullShare Y)
      ⊢ iprop(((owns (c : Thread nD τ) (Z.slice r hr) fullShare (p X Y) ∗ owns (c : Thread nD τ) M fullShare Y) -∗ Run c (k ⟨⟩) Q)
        -∗ Run c (.op (.load Z r.toLoadRect hl) fun v => .op (.load M (Rect.unit (s := s') off s'.size inb).toLoadRect hl'') fun w =>
            .op (.load Z r.toLoadRect hl') fun _ => .op (.store Z r (p v w) Finset.univ hx hm) k) Q) := by
  iintro ⟨HX, HY⟩ Hk
  iapply (ld_piece c) $$ HX; iintro HX
  iapply (ld_owns c) $$ HY; iintro HY
  iapply (ld_piece c) $$ HX; iintro HX
  ihave HX := (owns_any c) $$ HX
  iapply (st_piece c) $$ HX; iintro HX
  iapply Hk
  isplitl [HX] <;> iassumption

end Pieces

/-! ## Regions of the result -/

theorem box_set {off size : Fin S2048x1024.rank → ℕ} {inb : ∀ a, off a + size a ≤ S2048x1024.size a} {a b h : ℕ}
    (h0 : off = ![a, 512 * h]) (h1 : size = ![b, 512]) : (Rect.unit (s := S2048x1024) off size inb).set = box a b h := by
  subst h0 h1
  ext i
  rw [Rect.mem_set_unit]
  unfold box
  rw [Finset.mem_filter]
  constructor
  · intro h; exact ⟨Finset.mem_univ _, h 0, h 1⟩
  · rintro ⟨-, h0, h1⟩ x
    match x with
    | 0 => exact h0
    | 1 => exact h1

theorem box_disjoint {a b a' b' h h' : ℕ} (H : a + b ≤ a' ∨ a' + b' ≤ a ∨ h ≠ h') : Disjoint (box a b h) (box a' b' h') := by
  rw [Finset.disjoint_left]
  intro i hi hi'
  unfold box at hi hi'
  have := (Finset.mem_filter.mp hi).2
  have := (Finset.mem_filter.mp hi').2
  omega

/-- Regions side by side that fill a block of rows are that block. -/
theorem box_family {n : ℕ} (r w : Fin n → ℕ) (R N h : ℕ) (hin : ∀ i, R ≤ r i ∧ r i + w i ≤ R + N)
    (hc : ∀ b : Fin 16, R ≤ 128 * b.val → 128 * b.val + 128 ≤ R + N → ∃ i, r i ≤ 128 * b.val ∧ 128 * b.val + 128 ≤ r i + w i)
    (hR : R % 128 = 0) (hN : N % 128 = 0) :
    ∀ i, (∃ j ∈ Finset.univ, i ∈ box (r j) (w j) h) ↔ i ∈ box R N h := by
  intro i
  unfold box
  simp only [Finset.mem_filter, Finset.mem_univ, _root_.true_and]
  have hi : (i 0).val < 2048 := (i 0).isLt
  constructor
  · rintro ⟨j, h1, h2⟩
    have := hin j
    exact ⟨⟨by omega, by omega⟩, h2⟩
  · rintro ⟨h1, h2⟩
    obtain ⟨j, hj⟩ := hc ⟨(i 0).val / 128, by omega⟩ (by show R ≤ 128 * ((i 0).val / 128); omega) (by show 128 * ((i 0).val / 128) + 128 ≤ R + N; omega)
    have hj1 : r j ≤ 128 * ((i 0).val / 128) := hj.1
    have hj2 : 128 * ((i 0).val / 128) + 128 ≤ r j + w j := hj.2
    exact ⟨j, ⟨by omega, by omega⟩, h2⟩

theorem family {n : ℕ} (r w : Fin n → ℕ) (R N h : ℕ) (hin : ∀ i, R ≤ r i ∧ r i + w i ≤ R + N)
    (hd : ∀ i j, i ≠ j → r i + w i ≤ r j ∨ r j + w j ≤ r i)
    (hc : ∀ b : Fin 16, R ≤ 128 * b.val → 128 * b.val + 128 ≤ R + N → ∃ i, r i ≤ 128 * b.val ∧ 128 * b.val + 128 ≤ r i + w i)
    (hR : R % 128 = 0) (hN : N % 128 = 0) (c : Dev nD) (q : PosShare TreeShare) (f : Buf (Elt F) ((c : Thread nD τ).loc cc0_stg4_0)) :
    ((c : Thread nD τ).loc cc0_stg4_0 ↦[box R N h]{q} f : sProp 𝕄) = bigSep Finset.univ fun i => (c : Thread nD τ).loc cc0_stg4_0 ↦[box (r i) (w i) h]{q} f := by
  refine Eq.trans ?_ (pointsTo_biUnion (ℓ := (c : Thread nD τ).loc cc0_stg4_0) (f := f) Finset.univ (fun i => box (r i) (w i) h)
    fun i _ j _ hij => box_disjoint ((hd i j hij).imp_right Or.inl))
  refine congrArg (fun S : Finset (Idx ((c : Thread nD τ).loc cc0_stg4_0)) => ((c : Thread nD τ).loc cc0_stg4_0 ↦[S]{q} f : sProp 𝕄)) ?_
  ext i
  rw [Finset.mem_biUnion]
  exact (box_family r w R N h hin hc hR hN i).symm

/-- The left and the right half of the columns are the whole result. -/
theorem halves (c : Dev nD) (f : Buf (Elt F) ((c : Thread nD τ).loc cc0_stg4_0)) :
    ((c : Thread nD τ).loc cc0_stg4_0 ↦{fullShare} f : sProp 𝕄)
      ⊣⊢ iprop(((c : Thread nD τ).loc cc0_stg4_0 ↦[box 0 2048 0]{fullShare} f) ∗ ((c : Thread nD τ).loc cc0_stg4_0 ↦[box 0 2048 1]{fullShare} f)) := by
  have h : (Finset.univ : Finset S2048x1024.Idx) = box 0 2048 0 ∪ box 0 2048 1 := by
    ext i
    have h0 : (i 0).val < 2048 := (i 0).isLt
    have h1 : (i 1).val < 1024 := (i 1).isLt
    refine iff_of_true (Finset.mem_univ i) (Finset.mem_union.mpr ?_)
    unfold box
    rcases Nat.lt_or_ge (i 1).val 512 with h | h
    · exact .inl (Finset.mem_filter.mpr ⟨Finset.mem_univ i, ⟨Nat.zero_le _, by omega⟩, by omega, by omega⟩)
    · exact .inr (Finset.mem_filter.mpr ⟨Finset.mem_univ i, ⟨Nat.zero_le _, by omega⟩, by omega, by omega⟩)
  have e := congrArg (fun S : Finset S2048x1024.Idx => ((c : Thread nD τ).loc cc0_stg4_0 ↦[S]{fullShare} f : sProp 𝕄)) h
  rw [show ((c : Thread nD τ).loc cc0_stg4_0 ↦{fullShare} f : sProp 𝕄) = ((c : Thread nD τ).loc cc0_stg4_0 ↦[box 0 2048 0 ∪ box 0 2048 1]{fullShare} f) from e]
  exact pointsTo_union (box_disjoint (by omega))

section Out
variable {m ρ K}

theorem ld_out (c : Dev nD) {r : Rect S2048x1024} {hl : oM.view.LoadsAt r.toLoadRect} {a b h : ℕ} (hset : r.set = box a b h)
    {α : Type} {Q : α → sProp 𝕄} {k : (r.shape.Idx → Elt F .f32) → Prog (TpuEff nD τ sig (Elt F) Λ₀ .tc) α} :
    outAny c a b h ⊢ iprop((∀ v, outAny c a b h -∗ Run c (k v) Q) -∗ Run c (.op (.load oM r.toLoadRect hl) k) Q) := by
  unfold outAny
  iintro ⟨%f, H⟩ Hk
  iapply (wp_load 𝒱₀ (c : Thread nD τ) none Set.univ (m := oM) (S := box a b h) (by
    rw [← hset]; exact Finset.Subset.trans (Finset.subset_of_eq (Finset.map_refl)) (Finset.Subset.refl _))) $$ H; iintro H
  iapply Hk; iexists f; iexact H

/-- A store of the result's own elements in a region. -/
theorem st_out (c : Dev nD) {r : Rect S2048x1024} {w : r.shape.Idx → Elt F .f32} {a b h : ℕ} (hset : r.set = box a b h)
    {hx : (oM.access r).Stores Finset.univ} {hm : (Finset.univ : Finset r.shape.Idx) = Finset.univ ∨ ∀ a, r.stride a = 1}
    (hw : ∀ i, w i = res m ρ (r.emb i))
    {α : Type} {Q : α → sProp 𝕄} {k : PUnit → Prog (TpuEff nD τ sig (Elt F) Λ₀ .tc) α} :
    outAny c a b h ⊢ iprop((outP m ρ c fullShare a b h -∗ Run c (k ⟨⟩) Q) -∗ Run c (.op (.store oM r w Finset.univ hx hm) k) Q) := by
  unfold outAny outP
  have hv : (oM.access r).set = box a b h := (View.set_slice_whole cc0_stg4_0 r).trans hset
  iintro ⟨%f, H⟩ Hk
  iapply (wp_store 𝒱₀ (c : Thread nD τ) none Set.univ (m := oM) (r := r) (Mk := Finset.univ) (S := box a b h)
    ((View.setOn_subset_set _ _).trans (Finset.subset_of_eq hv))) $$ H; iintro H
  have key : ∀ i ∈ box a b h, (oM.access r).write (Elt F) f w Finset.univ i = res m ρ i := fun i hi => by
    rw [← hv] at hi
    obtain ⟨x, -, rfl⟩ := Finset.mem_map.mp hi
    exact (View.write_emb_of_mem (v := oM.access r) (Val := Elt F) f w (Finset.mem_univ x)).trans ((cast_eq _ _).trans (hw x))
  ihave H := (Entails.of_eq (pointsTo_congr key)) $$ H
  iapply Hk; iexact H

/-- The two shares of a region. -/
theorem outP_share (c : Dev nD) (a b h : ℕ) :
    outP m ρ c fullShare a b h ⊣⊢ iprop(outP m ρ c fullShare.left a b h ∗ outP m ρ c fullShare.right a b h) := by
  unfold outP; exact pointsTo_share (PosShare.mem_left_op_right fullShare)

/-- Starting the next transfer of a region of the result. -/
theorem go_out (c n : Dev nD) (t : Fin 28) (hn : n = dst t c) {off size : Fin S2048x1024.rank → ℕ} {inb : ∀ a, off a + size a ≤ S2048x1024.size a}
    {hr : ∀ a, (Rect.unit (s := S2048x1024) off size inb).stride a = 1}
    {sS sR : DmaSem sig} (hS : sS = sendS t) (hR : sR = recvS t)
    {hsc : (oM.slice (Rect.unit (s := S2048x1024) off size inb) hr).view.ref.isScScratch = false} {hsrc hdst : (oM.slice (Rect.unit (s := S2048x1024) off size inb) hr).view.WordExact}
    {hsem : DmaTarget.Typed .vmem (.dma sR) (.remote (Dev.tc n : Thread nD τ) (oM.slice (Rect.unit (s := S2048x1024) off size inb) hr) (.dma sS) hsc)}
    {α : Type} {Q : α → sProp 𝕄} {k : PUnit → Prog (TpuEff nD τ sig (Elt F) Λ₀ .tc) α} (q : PosShare TreeShare) (a b h : ℕ)
    (h0 : off = ![a, 512 * h]) (hs : size = ![b, 512]) (hN : (oM.slice (Rect.unit (s := S2048x1024) off size inb) hr).view.dmaCredit = cr t)
    (h1 : sendPay m ρ c t = outP m ρ c q a b h) (hl : land c t = outAny (F := F) (dst t c) a b h)
    (h2 : recvPay m ρ (dst t c) t = outP m ρ (dst t c) fullShare a b h) :
    iprop(Env m ρ K ∗ outP m ρ c q a b h ∗ todo c t.val ∗ Ow c t.val)
      ⊢ iprop(((T1 c t ∗ todo c (t.val + 1) ∗ Ow c (t.val + 1)) -∗ Run c (k ⟨⟩) Q)
          -∗ Run c (.op (.enqueueDma (oM.slice (Rect.unit (s := S2048x1024) off size inb) hr) (.remote (Dev.tc n : Thread nD τ) (oM.slice (Rect.unit (s := S2048x1024) off size inb) hr) (.dma sS) hsc) (.dma sR) hsrc hdst hsem) k) Q) := by
  iintro ⟨#HE, HX, Htodo, HO⟩ Hk
  ihave Htodo := (todo_step c t) $$ Htodo
  icases Htodo with ⟨⟨HT, Hl⟩, Htodo⟩
  iapply (start_out c n t hn hS hR hN (box_set h0 hs) h1 hl h2) $$ [HT HX Hl HO]
  · isplitr; · iexact HE
    isplitl [HT]; · iexact HT
    isplitl [HX]; · iexact HX
    isplitl [Hl]; · iexact Hl
    iexact HO
  iintro ⟨HT, HO⟩
  iapply Hk
  isplitl [HT]; · iexact HT
  isplitl [Htodo] <;> iassumption

/-- The credit of a region of the result depends on its size only. -/
theorem credit_out {off off' size : Fin S2048x1024.rank → ℕ} {inb inb'} {hr hr'} :
    (oM.slice (Rect.unit (s := S2048x1024) off size inb) hr).view.dmaCredit = (oM.slice (Rect.unit (s := S2048x1024) off' size inb') hr').view.dmaCredit := rfl

end Out

end Cert.KernelIdeal.Moe

end
-- ==== Proof.Exchange.lean ====
/-
The two exchanges between planes, and the finished quarters stored in the result.
-/
module

public import proofs.«01_k».proof.Proof.Pieces

@[expose] public section

set_option maxRecDepth 20000
set_option maxHeartbeats 1000000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The pieces of the working buffers -/

def rows (a b : ℕ) : Finset S512x512.Idx := Finset.univ.filter fun i => a ≤ (i 0).val ∧ (i 0).val < a + b

theorem rows_set {off size : Fin S512x512.rank → ℕ} {inb : ∀ a, off a + size a ≤ S512x512.size a} {a b : ℕ}
    (h0 : off = ![a, 0]) (h1 : size = ![b, 512]) : (Rect.unit (s := S512x512) off size inb).set = rows a b := by
  subst h0 h1
  ext i
  rw [Rect.mem_set_unit]
  unfold rows
  rw [Finset.mem_filter]
  constructor
  · intro h; exact ⟨Finset.mem_univ _, h 0⟩
  · rintro ⟨-, h0⟩ x
    match x with
    | 0 => exact h0
    | 1 => exact ⟨Nat.zero_le _, lt_of_lt_of_le (i 1).isLt (Nat.le_add_left _ _)⟩

theorem rows_two {a b a' : ℕ} {S : ℕ} (h : (a = S ∧ a' = S + b) ∨ (a' = S ∧ a = S + b)) : rows S (b + b) = rows a b ∪ rows a' b ∧ Disjoint (rows a b) (rows a' b) := by
  constructor
  · ext i
    unfold rows
    rw [Finset.mem_union, Finset.mem_filter, Finset.mem_filter, Finset.mem_filter]
    constructor
    · rintro ⟨hi, h1, h2⟩
      by_cases h3 : a ≤ (i 0).val ∧ (i 0).val < a + b
      · exact .inl ⟨hi, h3⟩
      · exact .inr ⟨hi, by omega, by omega⟩
    · rintro (⟨hi, h1, h2⟩ | ⟨hi, h1, h2⟩)
      · exact ⟨hi, by omega, by omega⟩
      · exact ⟨hi, by omega, by omega⟩
  · rw [Finset.disjoint_left]
    intro i hi hi'
    unfold rows at hi hi'
    have := (Finset.mem_filter.mp hi).2
    have := (Finset.mem_filter.mp hi').2
    omega

theorem rows_all : rows 0 (256 + 256) = Finset.univ := by
  ext i
  unfold rows
  rw [Finset.mem_filter]
  have h : (i 0).val < 512 := (i 0).isLt
  exact ⟨fun h => h.1, fun hi => ⟨hi, Nat.zero_le _, by omega⟩⟩

theorem halves_of (c : Dev nD) : (s1 c = 0 ∧ k1 c = 0 + 256) ∨ (k1 c = 0 ∧ s1 c = 0 + 256) := by revert c; decide +kernel
theorem quarters_of (c : Dev nD) : (s2 c = k1 c ∧ k2 c = k1 c + 128) ∨ (k2 c = k1 c ∧ s2 c = k1 c + 128) := by revert c; decide +kernel

theorem set_S1 (c : Dev nD) : (rS1 c).set = rows (s1 c) 256 := rows_set (off28 c) rfl
theorem set_K1 (c : Dev nD) : (rK1 c).set = rows (k1 c) 256 := rows_set (off29 c) rfl
theorem set_S2 (c : Dev nD) : (rS2 c).set = rows (s2 c) 128 := rows_set (off30 c) rfl
theorem set_K2 (c : Dev nD) : (rK2 c).set = rows (k2 c) 128 := rows_set (off31 c) rfl
theorem cut1 (c : Dev nD) : Finset.univ = (rS1 c).set ∪ (rK1 c).set := by
  rw [set_S1, set_K1, ← rows_all]; exact (rows_two (halves_of c)).1
theorem cut1_disjoint (c : Dev nD) : Disjoint (rS1 c).set (rK1 c).set := by
  rw [set_S1, set_K1]; exact (rows_two (halves_of c)).2
theorem cut2 (c : Dev nD) : (rK1 c).set = (rS2 c).set ∪ (rK2 c).set := by
  rw [set_S2, set_K2, set_K1]; exact (rows_two (quarters_of c)).1
theorem cut2_disjoint (c : Dev nD) : Disjoint (rS2 c).set (rK2 c).set := by
  rw [set_S2, set_K2]; exact (rows_two (quarters_of c)).2

/-- After the first exchange the kept half holds the sum. -/
theorem mid_A (c : Dev nD) : (fun i => midA m ρ c ((rK1 c).emb i)) = k0_pay72 (fun i => A3 m ρ c ((rK1 c).emb i)) (sentA1 m ρ (z1 c)) :=
  View.read_write_univ (v := zwA.access (rK1 c)) (Val := Elt F) (A3 m ρ c) _
theorem mid_B (c : Dev nD) : (fun i => midB m ρ c ((rK1 c).emb i)) = k0_pay73 (fun i => B3 m ρ c ((rK1 c).emb i)) (sentB1 m ρ (z1 c)) :=
  View.read_write_univ (v := zwB.access (rK1 c)) (Val := Elt F) (B3 m ρ c) _

theorem sent_A1 (c : Dev nD) : sentA1 m ρ c = fun i => A3 m ρ c ((rS1 c).emb i) := rfl
theorem sent_A2 (c : Dev nD) : sentA2 m ρ c = fun i => midA m ρ c ((rS2 c).emb i) := rfl
theorem sent_B1 (c : Dev nD) : sentB1 m ρ c = fun i => B3 m ρ c ((rS1 c).emb i) := rfl
theorem sent_B2 (c : Dev nD) : sentB2 m ρ c = fun i => midB m ρ c ((rS2 c).emb i) := rfl

/-- The working buffer before the first exchange: what is sent, and what is kept. -/
theorem open_A (c : Dev nD) : owns (c : Thread nD τ) zwA fullShare (A3 m ρ c)
    ⊢ (iprop(owns (c : Thread nD τ) (zwA.slice (rS1 c) (fun _ => rfl)) fullShare (sentA1 m ρ c)
        ∗ owns (c : Thread nD τ) (zwA.slice (rK1 c) (fun _ => rfl)) fullShare (fun i => A3 m ρ c ((rK1 c).emb i))) : sProp 𝕄) := by
  rw [sent_A1]
  exact split_all c (cut1 c) (cut1_disjoint c)
/-- After it: the quarter sent second, and the quarter kept. -/
theorem mid_open_A (c : Dev nD) : owns (c : Thread nD τ) (zwA.slice (rK1 c) (fun _ => rfl)) fullShare (k0_pay72 (fun i => A3 m ρ c ((rK1 c).emb i)) (sentA1 m ρ (z1 c)))
    ⊢ (iprop(owns (c : Thread nD τ) (zwA.slice (rS2 c) (fun _ => rfl)) fullShare (sentA2 m ρ c)
        ∗ owns (c : Thread nD τ) (zwA.slice (rK2 c) (fun _ => rfl)) fullShare (fun i => midA m ρ c ((rK2 c).emb i))) : sProp 𝕄) := by
  rw [sent_A2, ← mid_A]
  exact split_piece (Z := zwA) c (G := midA m ρ c) (cut2 c) (cut2_disjoint c)
/-- The working buffer put together again. -/
theorem close_A (c : Dev nD) : iprop(any (F := F) c (zwA.slice (rS1 c) (fun _ => rfl)) ∗ any c (zwA.slice (rS2 c) (fun _ => rfl)) ∗ any c (zwA.slice (rK2 c) (fun _ => rfl)))
    ⊢ any c zwA :=
  (sep_mono_right (join_piece (F := F) (Z := zwA) c (r := rK1 c) (hr := fun _ => rfl) (cut2 c) (cut2_disjoint c))).trans
    (join_all (F := F) (Z := zwA) c (cut1 c) (cut1_disjoint c))

/-- The working buffer before the first exchange: what is sent, and what is kept. -/
theorem open_B (c : Dev nD) : owns (c : Thread nD τ) zwB fullShare (B3 m ρ c)
    ⊢ (iprop(owns (c : Thread nD τ) (zwB.slice (rS1 c) (fun _ => rfl)) fullShare (sentB1 m ρ c)
        ∗ owns (c : Thread nD τ) (zwB.slice (rK1 c) (fun _ => rfl)) fullShare (fun i => B3 m ρ c ((rK1 c).emb i))) : sProp 𝕄) := by
  rw [sent_B1]
  exact split_all c (cut1 c) (cut1_disjoint c)
/-- After it: the quarter sent second, and the quarter kept. -/
theorem mid_open_B (c : Dev nD) : owns (c : Thread nD τ) (zwB.slice (rK1 c) (fun _ => rfl)) fullShare (k0_pay73 (fun i => B3 m ρ c ((rK1 c).emb i)) (sentB1 m ρ (z1 c)))
    ⊢ (iprop(owns (c : Thread nD τ) (zwB.slice (rS2 c) (fun _ => rfl)) fullShare (sentB2 m ρ c)
        ∗ owns (c : Thread nD τ) (zwB.slice (rK2 c) (fun _ => rfl)) fullShare (fun i => midB m ρ c ((rK2 c).emb i))) : sProp 𝕄) := by
  rw [sent_B2, ← mid_B]
  exact split_piece (Z := zwB) c (G := midB m ρ c) (cut2 c) (cut2_disjoint c)
/-- The working buffer put together again. -/
theorem close_B (c : Dev nD) : iprop(any (F := F) c (zwB.slice (rS1 c) (fun _ => rfl)) ∗ any c (zwB.slice (rS2 c) (fun _ => rfl)) ∗ any c (zwB.slice (rK2 c) (fun _ => rfl)))
    ⊢ any c zwB :=
  (sep_mono_right (join_piece (F := F) (Z := zwB) c (r := rK1 c) (hr := fun _ => rfl) (cut2 c) (cut2_disjoint c))).trans
    (join_all (F := F) (Z := zwB) c (cut1 c) (cut1_disjoint c))

/-! ## The finished quarters are the result's -/

theorem fin_A (c : Dev nD) (j : Fin 128) : ∀ h : rowA c + k2 c + j.val < 2048, finA ⟨rowA c + k2 c + j.val, h⟩ = c ∧ (rowA c + k2 c + j.val) % 128 = j.val := by
  revert c j; decide +kernel
theorem fin_B (c : Dev nD) (j : Fin 128) : ∀ h : rowB c + k2 c + j.val < 2048, finB ⟨rowB c + k2 c + j.val, h⟩ = c ∧ (rowB c + k2 c + j.val) % 128 = j.val := by
  revert c j; decide +kernel

theorem done_A (c : Dev nD) {off : Fin S2048x1024.rank → ℕ} {inb : ∀ a, off a + S128x512.size a ≤ S2048x1024.size a} (h : off = ![rowA c + k2 c, 0]) (i : S128x512.Idx) :
    doneA m ρ c i = res m ρ ((Rect.unit (s := S2048x1024) off S128x512.size inb).emb i) := by
  subst h
  have e0 : ((Rect.unit (s := S2048x1024) ![rowA c + k2 c, 0] S128x512.size inb).emb i 0).val = rowA c + k2 c + (i 0).val := by
    show rowA c + k2 c + 1 * (i 0).val = _; rw [Nat.one_mul]
  have e1 : ((Rect.unit (s := S2048x1024) ![rowA c + k2 c, 0] S128x512.size inb).emb i 1).val = (i 1).val := by
    show 0 + 1 * (i 1).val = _; omega
  have hlt : rowA c + k2 c + (i 0).val < 2048 := e0 ▸ ((Rect.unit (s := S2048x1024) ![rowA c + k2 c, 0] S128x512.size inb).emb i 0).isLt
  have hf := fin_A c (i 0) hlt
  have e2 : finA ((Rect.unit (s := S2048x1024) ![rowA c + k2 c, 0] S128x512.size inb).emb i 0) = c := by
    rw [show (Rect.unit (s := S2048x1024) ![rowA c + k2 c, 0] S128x512.size inb).emb i 0 = (⟨rowA c + k2 c + (i 0).val, hlt⟩ : Fin 2048) from Fin.ext e0]; exact hf.1
  have h1 : (i 1).val < 512 := (i 1).isLt
  unfold res
  rw [dif_pos (by rw [e1]; exact h1), e2]
  refine congrArg (doneA m ρ c) ?_
  funext x
  match x with
  | 0 => exact Fin.ext (by show (i 0).val = _ % 128; rw [e0]; exact hf.2.symm)
  | 1 => exact Fin.ext (by show (i 1).val = _; exact e1.symm)

theorem done_B (c : Dev nD) {off : Fin S2048x1024.rank → ℕ} {inb : ∀ a, off a + S128x512.size a ≤ S2048x1024.size a} (h : off = ![rowB c + k2 c, 512]) (i : S128x512.Idx) :
    doneB m ρ c i = res m ρ ((Rect.unit (s := S2048x1024) off S128x512.size inb).emb i) := by
  subst h
  have e0 : ((Rect.unit (s := S2048x1024) ![rowB c + k2 c, 512] S128x512.size inb).emb i 0).val = rowB c + k2 c + (i 0).val := by
    show rowB c + k2 c + 1 * (i 0).val = _; rw [Nat.one_mul]
  have e1 : ((Rect.unit (s := S2048x1024) ![rowB c + k2 c, 512] S128x512.size inb).emb i 1).val = 512 + (i 1).val := by
    show 512 + 1 * (i 1).val = _; omega
  have hlt : rowB c + k2 c + (i 0).val < 2048 := e0 ▸ ((Rect.unit (s := S2048x1024) ![rowB c + k2 c, 512] S128x512.size inb).emb i 0).isLt
  have hf := fin_B c (i 0) hlt
  have e2 : finB ((Rect.unit (s := S2048x1024) ![rowB c + k2 c, 512] S128x512.size inb).emb i 0) = c := by
    rw [show (Rect.unit (s := S2048x1024) ![rowB c + k2 c, 512] S128x512.size inb).emb i 0 = (⟨rowB c + k2 c + (i 0).val, hlt⟩ : Fin 2048) from Fin.ext e0]; exact hf.1
  unfold res
  rw [dif_neg (by rw [e1]; omega), e2]
  refine congrArg (doneB m ρ c) ?_
  funext x
  match x with
  | 0 => exact Fin.ext (by show (i 0).val = _ % 128; rw [e0]; exact hf.2.symm)
  | 1 => exact Fin.ext (by show (i 1).val = _ - 512; rw [e1]; omega)

/-! ## The steps -/

/-! The all-gather's transfers, seen from the sender. -/

theorem recv_10 (c : Dev nD) : recvPay m ρ (dst 10 c) 10 = (outP m ρ (dst 10 c) fullShare (rowA c + k2 c) 128 0 : sProp 𝕄) :=
  congrArg (fun d => (outP m ρ (dst 10 c) fullShare (rowA d + k2 d) 128 0 : sProp 𝕄)) (z2_z2 c)
theorem recv_11 (c : Dev nD) : recvPay m ρ (dst 11 c) 11 = (outP m ρ (dst 11 c) fullShare (rowA c + k2 c) 128 0 : sProp 𝕄) :=
  congrArg (fun d => (outP m ρ (dst 11 c) fullShare (rowA d + k2 d) 128 0 : sProp 𝕄)) (z1_z1 c)
theorem recv_12 (c : Dev nD) : recvPay m ρ (dst 12 c) 12 = (outP m ρ (dst 12 c) fullShare (rowB c + k2 c) 128 1 : sProp 𝕄) :=
  congrArg (fun d => (outP m ρ (dst 12 c) fullShare (rowB d + k2 d) 128 1 : sProp 𝕄)) (z2_z2 c)
theorem recv_13 (c : Dev nD) : recvPay m ρ (dst 13 c) 13 = (outP m ρ (dst 13 c) fullShare (rowB c + k2 c) 128 1 : sProp 𝕄) :=
  congrArg (fun d => (outP m ρ (dst 13 c) fullShare (rowB d + k2 d) 128 1 : sProp 𝕄)) (z1_z1 c)
theorem recv_14 (c : Dev nD) : recvPay m ρ (dst 14 c) 14 = (outP m ρ (dst 14 c) fullShare (rowA c + s2 c) 128 0 : sProp 𝕄) :=
  congrArg (fun d => (outP m ρ (dst 14 c) fullShare (rowA d + s2 d) 128 0 : sProp 𝕄)) (z1_z1 c)
theorem recv_15 (c : Dev nD) : recvPay m ρ (dst 15 c) 15 = (outP m ρ (dst 15 c) fullShare (rowB c + s2 c) 128 1 : sProp 𝕄) :=
  congrArg (fun d => (outP m ρ (dst 15 c) fullShare (rowB d + s2 d) 128 1 : sProp 𝕄)) (z1_z1 c)

/-- The credit of a transfer is that of its shape. -/
theorem cred {t : Fin 28} {sp : Space} {s : Shape} {e : EltTy} (M : Memref sig .tc sp s e) (h : cr t = RefSig.tileCredit s e) :
    M.view.dmaCredit = cr t := Eq.trans (b := RefSig.tileCredit s e) rfl h.symm
/-- The transfers of half a chunk. -/
theorem cr_256 (t : Fin 28) (h : t = 6 ∨ t = 7 ∨ 16 ≤ t.val) : cr t = RefSig.tileCredit S256x512 .f32 := by
  fin_cases t <;> first | rfl | (exfalso; revert h; decide)
/-- The transfers of a quarter of a chunk. -/
theorem cr_128 (t : Fin 28) (h : 8 ≤ t.val ∧ t.val < 16) : cr t = RefSig.tileCredit S128x512 .f32 := by
  fin_cases t <;> first | rfl | (exfalso; revert h; decide)

end Cert.KernelIdeal.Moe

end
-- ==== Proof.SegE.lean ====
/-
The run of the two exchanges between planes.
-/
module

public import proofs.«01_k».proof.Proof.Exchange

@[expose] public section

set_option maxRecDepth 20000
set_option maxHeartbeats 4000000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-- The exchanges, and the first transfers of the finished quarters. -/
theorem segE (c : Dev nD) {α : Type} {Q : α → sProp 𝕄} (v32 v35 v54 v1023 v58 v1009 v1012 : BitVec 32)
    (k : BitVec 32 → BitVec 32 → Prog (TpuEff nD τ sig (Elt F) Λ₀ .tc) α) :
    iprop(Env m ρ K ∗ owns (c : Thread nD τ) zwA fullShare (A3 m ρ c) ∗ owns (c : Thread nD τ) zwB fullShare (B3 m ρ c) ∗ outAny c (rowA c + k2 c) 128 0 ∗ outAny c (rowB c + k2 c) 128 1 ∗ todo c 6 ∗ Ow c 6
      ∗ ((T3 c 6 ∗ T3 c 7 ∗ T3 c 8 ∗ T3 c 9 ∗ T1 c 10 ∗ T1 c 11 ∗ T1 c 12 ∗ any c zwA ∗ any c zwB ∗ any c z1A ∗ any c z1B ∗ any c z2A ∗ any c z2B ∗ outP m ρ c fullShare.right (rowB c + k2 c) 128 1 ∗ todo c 13 ∗ Ow c 13)
        -∗ ∀ a b, Run c (k a b) Q))
    ⊢ Run c (
        on (k0_part31 (F := F)) c v32 v35 v54 v1023 >>= fun _ =>
        on (k0_part32 (F := F)) c v32 v35 v54 >>= fun _ =>
        on (k0_part33 (F := F)) c v32 v35 v58 v1009 >>= fun _ =>
        on (k0_part34 (F := F)) c v32 v35 v58 v1012 >>= fun o34 =>
        k o34.1 o34.2) Q := by
  simp only [on, k0_part31_eq_skeleton, k0_part32_eq_skeleton, k0_part33_eq_skeleton, k0_part34_eq_skeleton]
  simp only [k0_part31_skel, k0_part32_skel, k0_part33_skel, k0_part34_skel]
  simp only [Prog.lift, Prog.bind_op, Prog.bind_ret, Prog.pure_eq_ret, semSignalWord, semWaitWord]
  iintro ⟨#HE, HzA, HzB, HoA, HoB, Htodo, HO, Hk⟩
  ihave HzA := (open_A m ρ c) $$ HzA
  icases HzA with ⟨HsA, HKA⟩
  ihave HzB := (open_B m ρ c) $$ HzB
  icases HzB with ⟨HsB, HKB⟩
  iapply (go_owns c _ 6 (dev6 c) rfl rfl (M := zwA.slice (rS1 c) (fun _ => rfl)) (M' := z1A) (X := sentA1 m ρ c) (cred _ (cr_256 6 (by decide))) rfl rfl (recv_6 m ρ c)) $$ [HsA Htodo HO]
  · isplitr; · iexact HE
    isplitl [HsA]; · iexact HsA
    isplitl [Htodo]; · iexact Htodo
    iexact HO
  iintro ⟨HT6, Htodo, HO⟩
  iapply (go_owns c _ 7 (dev7 c) rfl rfl (M := zwB.slice (rS1 c) (fun _ => rfl)) (M' := z1B) (X := sentB1 m ρ c) (cred _ (cr_256 7 (by decide))) rfl rfl (recv_7 m ρ c)) $$ [HsB Htodo HO]
  · isplitr; · iexact HE
    isplitl [HsB]; · iexact HsB
    isplitl [Htodo]; · iexact Htodo
    iexact HO
  iintro ⟨HT7, Htodo, HO⟩
  iapply (waitSR c 6 8 (M₂ := zwA.slice (rS1 c) (fun _ => rfl)) (M₄ := z1A) rfl rfl (by decide) (cred _ (cr_256 6 (by decide))) (cred _ (cr_256 6 (by decide)))
    (PS := any c (zwA.slice (rS1 c) (fun _ => rfl))) (PR := owns (c : Thread nD τ) z1A fullShare (sentA1 m ρ (z1 c))) rfl rfl) $$ [HT6 HO]
  · isplitr; · iexact HE
    isplitl [HT6]; · iexact HT6
    iexact HO
  iintro ⟨HT6, HS6, HR6, HO⟩
  iapply (add_piece c) $$ [HKA HR6]
  · isplitl [HKA] <;> iassumption
  iintro ⟨HKA, HR6⟩
  ihave HKA := (mid_open_A m ρ c) $$ [HKA]; · iexact HKA
  icases HKA with ⟨HMA, HKA⟩
  iapply (go_owns c _ 8 (dev8 c) rfl rfl (M := zwA.slice (rS2 c) (fun _ => rfl)) (M' := z2A) (X := sentA2 m ρ c) (cred _ (cr_128 8 (by decide))) rfl rfl (recv_8 m ρ c)) $$ [HMA Htodo HO]
  · isplitr; · iexact HE
    isplitl [HMA]; · iexact HMA
    isplitl [Htodo]; · iexact Htodo
    iexact HO
  iintro ⟨HT8, Htodo, HO⟩
  iapply (waitSR c 7 9 (M₂ := zwB.slice (rS1 c) (fun _ => rfl)) (M₄ := z1B) rfl rfl (by decide) (cred _ (cr_256 7 (by decide))) (cred _ (cr_256 7 (by decide)))
    (PS := any c (zwB.slice (rS1 c) (fun _ => rfl))) (PR := owns (c : Thread nD τ) z1B fullShare (sentB1 m ρ (z1 c))) rfl rfl) $$ [HT7 HO]
  · isplitr; · iexact HE
    isplitl [HT7]; · iexact HT7
    iexact HO
  iintro ⟨HT7, HS7, HR7, HO⟩
  iapply (add_piece c) $$ [HKB HR7]
  · isplitl [HKB] <;> iassumption
  iintro ⟨HKB, HR7⟩
  ihave HKB := (mid_open_B m ρ c) $$ [HKB]; · iexact HKB
  icases HKB with ⟨HMB, HKB⟩
  iapply (go_owns c _ 9 (dev9 c) rfl rfl (M := zwB.slice (rS2 c) (fun _ => rfl)) (M' := z2B) (X := sentB2 m ρ c) (cred _ (cr_128 9 (by decide))) rfl rfl (recv_9 m ρ c)) $$ [HMB Htodo HO]
  · isplitr; · iexact HE
    isplitl [HMB]; · iexact HMB
    isplitl [Htodo]; · iexact Htodo
    iexact HO
  iintro ⟨HT9, Htodo, HO⟩
  iapply (waitSR c 8 10 (M₂ := zwA.slice (rS2 c) (fun _ => rfl)) (M₄ := z2A) rfl rfl (by decide) (cred _ (cr_128 8 (by decide))) (cred _ (cr_128 8 (by decide)))
    (PS := any c (zwA.slice (rS2 c) (fun _ => rfl))) (PR := owns (c : Thread nD τ) z2A fullShare (sentA2 m ρ (z2 c))) rfl rfl) $$ [HT8 HO]
  · isplitr; · iexact HE
    isplitl [HT8]; · iexact HT8
    iexact HO
  iintro ⟨HT8, HS8, HR8, HO⟩
  iapply (ld_piece c) $$ HKA; iintro HKA
  iapply (ld_owns c) $$ HR8; iintro HR8
  iapply (ld_out c (box_set (off32 c) rfl)) $$ HoA; iintro %vA HoA
  iapply (st_out c (box_set (off32 c) rfl) (done_A m ρ c (off32 c))) $$ HoA; iintro HoA
  ihave HoA := (outP_share c _ _ _).1 $$ HoA
  icases HoA with ⟨HlA, HrA⟩
  iapply (go_out c _ 10 (dev10 c) rfl rfl fullShare.left (rowA c + k2 c) 128 0 (off33 c) rfl (cred _ (cr_128 10 (by decide))) rfl rfl (recv_10 m ρ c)) $$ [HlA Htodo HO]
  · isplitr; · iexact HE
    isplitl [HlA]; · iexact HlA
    isplitl [Htodo]; · iexact Htodo
    iexact HO
  iintro ⟨HT10, Htodo, HO⟩
  iapply (go_out c _ 11 (dev11 c) rfl rfl fullShare.right (rowA c + k2 c) 128 0 (off33 c) rfl (cred _ (cr_128 11 (by decide))) rfl rfl (recv_11 m ρ c)) $$ [HrA Htodo HO]
  · isplitr; · iexact HE
    isplitl [HrA]; · iexact HrA
    isplitl [Htodo]; · iexact Htodo
    iexact HO
  iintro ⟨HT11, Htodo, HO⟩
  iapply (waitSR c 9 12 (M₂ := zwB.slice (rS2 c) (fun _ => rfl)) (M₄ := z2B) rfl rfl (by decide) (cred _ (cr_128 9 (by decide))) (cred _ (cr_128 9 (by decide)))
    (PS := any c (zwB.slice (rS2 c) (fun _ => rfl))) (PR := owns (c : Thread nD τ) z2B fullShare (sentB2 m ρ (z2 c))) rfl rfl) $$ [HT9 HO]
  · isplitr; · iexact HE
    isplitl [HT9]; · iexact HT9
    iexact HO
  iintro ⟨HT9, HS9, HR9, HO⟩
  iapply (ld_piece c) $$ HKB; iintro HKB
  iapply (ld_owns c) $$ HR9; iintro HR9
  iapply (ld_out c (box_set (off34 c) rfl)) $$ HoB; iintro %vB HoB
  iapply (st_out c (box_set (off34 c) rfl) (done_B m ρ c (off34 c))) $$ HoB; iintro HoB
  ihave HoB := (outP_share c _ _ _).1 $$ HoB
  icases HoB with ⟨HlB, HrB⟩
  iapply (go_out c _ 12 (dev12 c) rfl rfl fullShare.left (rowB c + k2 c) 128 1 (off35 c) rfl (cred _ (cr_128 12 (by decide))) rfl rfl (recv_12 m ρ c)) $$ [HlB Htodo HO]
  · isplitr; · iexact HE
    isplitl [HlB]; · iexact HlB
    isplitl [Htodo]; · iexact Htodo
    iexact HO
  iintro ⟨HT12, Htodo, HO⟩
  ihave HKA := (owns_any c) $$ HKA
  ihave HzA := (close_A (F := F) c) $$ [HS8 HS6 HKA]
  · isplitl [HS6]; · iexact HS6
    isplitl [HS8] <;> iassumption
  ihave HKB := (owns_any c) $$ HKB
  ihave HzB := (close_B (F := F) c) $$ [HS9 HS7 HKB]
  · isplitl [HS7]; · iexact HS7
    isplitl [HS9] <;> iassumption
  ihave HR6 := (owns_any c) $$ HR6
  ihave HR7 := (owns_any c) $$ HR7
  ihave HR8 := (owns_any c) $$ HR8
  ihave HR9 := (owns_any c) $$ HR9
  iapply Hk $$ [HT6 HT7 HT8 HT9 HT10 HT11 HT12 HzA HzB HR6 HR7 HR8 HR9 HrB Htodo HO]
  isplitl [HT6]; · iexact HT6
  isplitl [HT7]; · iexact HT7
  isplitl [HT8]; · iexact HT8
  isplitl [HT9]; · iexact HT9
  isplitl [HT10]; · iexact HT10
  isplitl [HT11]; · iexact HT11
  isplitl [HT12]; · iexact HT12
  isplitl [HzA]; · iexact HzA
  isplitl [HzB]; · iexact HzB
  isplitl [HR6]; · iexact HR6
  isplitl [HR7]; · iexact HR7
  isplitl [HR8]; · iexact HR8
  isplitl [HR9]; · iexact HR9
  isplitl [HrB]; · iexact HrB
  isplitl [Htodo]; · iexact Htodo
  iexact HO

end Cert.KernelIdeal.Moe

end
-- ==== Proof.Gather.lean ====
/-
The regions of the result that the all-gather moves.
-/
module

public import proofs.«01_k».proof.Proof.Exchange

@[expose] public section

set_option maxRecDepth 20000
set_option maxHeartbeats 1000000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

theorem off_A00 (c : Dev nD) : k0_off38 c 0#32 0#32 = ![cA c 0, 512 * 0] := off38 c 0 0
theorem off_A01 (c : Dev nD) : k0_off38 c 0#32 256#32 = ![cA c 0 + 256, 512 * 0] := off38 c 0 1
theorem off_A10 (c : Dev nD) : k0_off38 c 1#32 0#32 = ![cA c 1, 512 * 0] := off38 c 1 0
theorem off_A11 (c : Dev nD) : k0_off38 c 1#32 256#32 = ![cA c 1 + 256, 512 * 0] := off38 c 1 1
theorem off_A20 (c : Dev nD) : k0_off38 c 2#32 0#32 = ![cA c 2, 512 * 0] := off38 c 2 0
theorem off_A21 (c : Dev nD) : k0_off38 c 2#32 256#32 = ![cA c 2 + 256, 512 * 0] := off38 c 2 1
theorem off_B00 (c : Dev nD) : k0_off39 c 0#32 0#32 = ![cB c 0, 512 * 1] := off39 c 0 0
theorem off_B01 (c : Dev nD) : k0_off39 c 0#32 256#32 = ![cB c 0 + 256, 512 * 1] := off39 c 0 1
theorem off_B10 (c : Dev nD) : k0_off39 c 1#32 0#32 = ![cB c 1, 512 * 1] := off39 c 1 0
theorem off_B11 (c : Dev nD) : k0_off39 c 1#32 256#32 = ![cB c 1 + 256, 512 * 1] := off39 c 1 1
theorem off_B20 (c : Dev nD) : k0_off39 c 2#32 0#32 = ![cB c 2, 512 * 1] := off39 c 2 0
theorem off_B21 (c : Dev nD) : k0_off39 c 2#32 256#32 = ![cB c 2 + 256, 512 * 1] := off39 c 2 1

/-! What the all-gather's transfers bring, in the receiver's own words. -/

theorem got_10 (c : Dev nD) : recvPay m ρ c 10 = (outP m ρ c fullShare (rowA c + s2 c) 128 0 : sProp 𝕄) := by
  show outP m ρ c fullShare (rowA (z2 c) + k2 (z2 c)) 128 0 = _
  rw [rowA_z2, k2_z2]
theorem got_12 (c : Dev nD) : recvPay m ρ c 12 = (outP m ρ c fullShare (rowB c + s2 c) 128 1 : sProp 𝕄) := by
  show outP m ρ c fullShare (rowB (z2 c) + k2 (z2 c)) 128 1 = _
  rw [rowB_z2, k2_z2]
theorem got_16 (c : Dev nD) : recvPay m ρ c 16 = (outP m ρ c fullShare (cA c 1) 256 0 : sProp 𝕄) :=
  congrArg (fun a : ℕ => (outP m ρ c fullShare a 256 0 : sProp 𝕄)) (cA_lf c).1
theorem got_17 (c : Dev nD) : recvPay m ρ c 17 = (outP m ρ c fullShare (cB c 1) 256 1 : sProp 𝕄) :=
  congrArg (fun a : ℕ => (outP m ρ c fullShare a 256 1 : sProp 𝕄)) (cB_rt c).1
theorem got_18 (c : Dev nD) : recvPay m ρ c 18 = (outP m ρ c fullShare (cA c 1 + 256) 256 0 : sProp 𝕄) :=
  congrArg (fun a : ℕ => (outP m ρ c fullShare (a + 256) 256 0 : sProp 𝕄)) (cA_lf c).1
theorem got_19 (c : Dev nD) : recvPay m ρ c 19 = (outP m ρ c fullShare (cB c 1 + 256) 256 1 : sProp 𝕄) :=
  congrArg (fun a : ℕ => (outP m ρ c fullShare (a + 256) 256 1 : sProp 𝕄)) (cB_rt c).1
theorem got_20 (c : Dev nD) : recvPay m ρ c 20 = (outP m ρ c fullShare (cA c 2) 256 0 : sProp 𝕄) :=
  congrArg (fun a : ℕ => (outP m ρ c fullShare a 256 0 : sProp 𝕄)) (cA_lf c).2
theorem got_21 (c : Dev nD) : recvPay m ρ c 21 = (outP m ρ c fullShare (cB c 2) 256 1 : sProp 𝕄) :=
  congrArg (fun a : ℕ => (outP m ρ c fullShare a 256 1 : sProp 𝕄)) (cB_rt c).2
theorem got_22 (c : Dev nD) : recvPay m ρ c 22 = (outP m ρ c fullShare (cA c 2 + 256) 256 0 : sProp 𝕄) :=
  congrArg (fun a : ℕ => (outP m ρ c fullShare (a + 256) 256 0 : sProp 𝕄)) (cA_lf c).2
theorem got_23 (c : Dev nD) : recvPay m ρ c 23 = (outP m ρ c fullShare (cB c 2 + 256) 256 1 : sProp 𝕄) :=
  congrArg (fun a : ℕ => (outP m ρ c fullShare (a + 256) 256 1 : sProp 𝕄)) (cB_rt c).2

/-! The chunks' transfers, seen from the sender. -/

theorem recv_16 (c : Dev nD) : recvPay m ρ (dst 16 c) 16 = (outP m ρ (dst 16 c) fullShare (cA c 0) 256 0 : sProp 𝕄) :=
  congrArg (fun d => (outP m ρ (dst 16 c) fullShare (cA d 0) 256 0 : sProp 𝕄)) (lf_rt c)
theorem recv_17 (c : Dev nD) : recvPay m ρ (dst 17 c) 17 = (outP m ρ (dst 17 c) fullShare (cB c 0) 256 1 : sProp 𝕄) :=
  congrArg (fun d => (outP m ρ (dst 17 c) fullShare (cB d 0) 256 1 : sProp 𝕄)) (rt_lf c)
theorem recv_18 (c : Dev nD) : recvPay m ρ (dst 18 c) 18 = (outP m ρ (dst 18 c) fullShare (cA c 0 + 256) 256 0 : sProp 𝕄) :=
  congrArg (fun d => (outP m ρ (dst 18 c) fullShare (cA d 0 + 256) 256 0 : sProp 𝕄)) (lf_rt c)
theorem recv_19 (c : Dev nD) : recvPay m ρ (dst 19 c) 19 = (outP m ρ (dst 19 c) fullShare (cB c 0 + 256) 256 1 : sProp 𝕄) :=
  congrArg (fun d => (outP m ρ (dst 19 c) fullShare (cB d 0 + 256) 256 1 : sProp 𝕄)) (rt_lf c)
theorem recv_20 (c : Dev nD) : recvPay m ρ (dst 20 c) 20 = (outP m ρ (dst 20 c) fullShare (cA c 1) 256 0 : sProp 𝕄) :=
  congrArg (fun d => (outP m ρ (dst 20 c) fullShare (cA d 1) 256 0 : sProp 𝕄)) (lf_rt c)
theorem recv_21 (c : Dev nD) : recvPay m ρ (dst 21 c) 21 = (outP m ρ (dst 21 c) fullShare (cB c 1) 256 1 : sProp 𝕄) :=
  congrArg (fun d => (outP m ρ (dst 21 c) fullShare (cB d 1) 256 1 : sProp 𝕄)) (rt_lf c)
theorem recv_22 (c : Dev nD) : recvPay m ρ (dst 22 c) 22 = (outP m ρ (dst 22 c) fullShare (cA c 1 + 256) 256 0 : sProp 𝕄) :=
  congrArg (fun d => (outP m ρ (dst 22 c) fullShare (cA d 1 + 256) 256 0 : sProp 𝕄)) (lf_rt c)
theorem recv_23 (c : Dev nD) : recvPay m ρ (dst 23 c) 23 = (outP m ρ (dst 23 c) fullShare (cB c 1 + 256) 256 1 : sProp 𝕄) :=
  congrArg (fun d => (outP m ρ (dst 23 c) fullShare (cB d 1 + 256) 256 1 : sProp 𝕄)) (rt_lf c)
theorem recv_24 (c : Dev nD) : recvPay m ρ (dst 24 c) 24 = (outP m ρ (dst 24 c) fullShare (cA c 2) 256 0 : sProp 𝕄) :=
  congrArg (fun d => (outP m ρ (dst 24 c) fullShare (cA d 2) 256 0 : sProp 𝕄)) (lf_rt c)
theorem recv_25 (c : Dev nD) : recvPay m ρ (dst 25 c) 25 = (outP m ρ (dst 25 c) fullShare (cB c 2) 256 1 : sProp 𝕄) :=
  congrArg (fun d => (outP m ρ (dst 25 c) fullShare (cB d 2) 256 1 : sProp 𝕄)) (rt_lf c)
theorem recv_26 (c : Dev nD) : recvPay m ρ (dst 26 c) 26 = (outP m ρ (dst 26 c) fullShare (cA c 2 + 256) 256 0 : sProp 𝕄) :=
  congrArg (fun d => (outP m ρ (dst 26 c) fullShare (cA d 2 + 256) 256 0 : sProp 𝕄)) (lf_rt c)
theorem recv_27 (c : Dev nD) : recvPay m ρ (dst 27 c) 27 = (outP m ρ (dst 27 c) fullShare (cB c 2 + 256) 256 1 : sProp 𝕄) :=
  congrArg (fun d => (outP m ρ (dst 27 c) fullShare (cB d 2 + 256) 256 1 : sProp 𝕄)) (rt_lf c)

theorem sent_15 (c : Dev nD) : sendPay m ρ c 15 ⊢ (outP m ρ c fullShare (rowB c + s2 c) 128 1 : sProp 𝕄) := .rfl
theorem got_15 (c : Dev nD) : recvPay m ρ c 15 ⊢ (outP m ρ c fullShare (rowB (z1 c) + s2 (z1 c)) 128 1 : sProp 𝕄) := .rfl

/-! ## Pieces put together -/

/-- A chunk of half A is the four quarters gathered between planes, -/
theorem quarters_A (c : Dev nD) (f : Buf (Elt F) ((c : Thread nD τ).loc cc0_stg4_0)) :
    ((c : Thread nD τ).loc cc0_stg4_0 ↦[box (cA c 0) 512 0]{fullShare} f : sProp 𝕄) = bigSep Finset.univ fun i : Fin 4 => (c : Thread nD τ).loc cc0_stg4_0 ↦[box (![rowA c + k2 c, rowA c + s2 c, rowA (z1 c) + k2 (z1 c), rowA (z1 c) + s2 (z1 c)] i) ((fun _ => 128) i) 0]{fullShare} f :=
  family ![rowA c + k2 c, rowA c + s2 c, rowA (z1 c) + k2 (z1 c), rowA (z1 c) + s2 (z1 c)] (fun _ => 128) (cA c 0) 512 0 (by clear f; revert c; decide +kernel) (by clear f; revert c; decide +kernel) (by clear f; revert c; decide +kernel) (by clear f; revert c; decide +kernel) (by decide) c fullShare f
/-- it is two halves, -/
theorem pair_A (c : Dev nD) (f : Buf (Elt F) ((c : Thread nD τ).loc cc0_stg4_0)) :
    ((c : Thread nD τ).loc cc0_stg4_0 ↦[box (cA c 0) 512 0]{fullShare} f : sProp 𝕄) = bigSep Finset.univ fun i : Fin 2 => (c : Thread nD τ).loc cc0_stg4_0 ↦[box (![cA c 0, cA c 0 + 256] i) ((fun _ => 256) i) 0]{fullShare} f :=
  family ![cA c 0, cA c 0 + 256] (fun _ => 256) (cA c 0) 512 0 (by clear f; revert c; decide +kernel) (by clear f; revert c; decide +kernel) (by clear f; revert c; decide +kernel) (by clear f; revert c; decide +kernel) (by decide) c fullShare f
/-- and half A is the eight halves of its chunks; -/
theorem eight_A (c : Dev nD) (f : Buf (Elt F) ((c : Thread nD τ).loc cc0_stg4_0)) :
    ((c : Thread nD τ).loc cc0_stg4_0 ↦[box 0 2048 0]{fullShare} f : sProp 𝕄) = bigSep Finset.univ fun i : Fin 8 => (c : Thread nD τ).loc cc0_stg4_0 ↦[box (![cA c 0, cA c 0 + 256, cA c 1, cA c 1 + 256, cA c 2, cA c 2 + 256, cA (lf c) 2, cA (lf c) 2 + 256] i) ((fun _ => 256) i) 0]{fullShare} f :=
  family ![cA c 0, cA c 0 + 256, cA c 1, cA c 1 + 256, cA c 2, cA c 2 + 256, cA (lf c) 2, cA (lf c) 2 + 256] (fun _ => 256) 0 2048 0 (by clear f; revert c; decide +kernel) (by clear f; revert c; decide +kernel) (by clear f; revert c; decide +kernel) (by decide) (by decide) c fullShare f
/-- and it is the own quarter and the landing places. -/
theorem ten_A (c : Dev nD) (f : Buf (Elt F) ((c : Thread nD τ).loc cc0_stg4_0)) :
    ((c : Thread nD τ).loc cc0_stg4_0 ↦[box 0 2048 0]{fullShare} f : sProp 𝕄) = bigSep Finset.univ fun i : Fin 10 => (c : Thread nD τ).loc cc0_stg4_0 ↦[box (![rowA c + k2 c, rowA (z2 c) + k2 (z2 c), rowA (z1 c) + k2 (z1 c), rowA (z1 c) + s2 (z1 c), cA (lf c) 0, cA (lf c) 0 + 256, cA (lf c) 1, cA (lf c) 1 + 256, cA (lf c) 2, cA (lf c) 2 + 256] i) (![128, 128, 128, 128, 256, 256, 256, 256, 256, 256] i) 0]{fullShare} f :=
  family ![rowA c + k2 c, rowA (z2 c) + k2 (z2 c), rowA (z1 c) + k2 (z1 c), rowA (z1 c) + s2 (z1 c), cA (lf c) 0, cA (lf c) 0 + 256, cA (lf c) 1, cA (lf c) 1 + 256, cA (lf c) 2, cA (lf c) 2 + 256] ![128, 128, 128, 128, 256, 256, 256, 256, 256, 256] 0 2048 0 (by clear f; revert c; decide +kernel) (by clear f; revert c; decide +kernel) (by clear f; revert c; decide +kernel) (by decide) (by decide) c fullShare f
theorem chunk_A (c : Dev nD) : iprop(outP m ρ c fullShare (rowA c + k2 c) 128 0 ∗ outP m ρ c fullShare (rowA c + s2 c) 128 0 ∗ outP m ρ c fullShare (rowA (z1 c) + k2 (z1 c)) 128 0 ∗ outP m ρ c fullShare (rowA (z1 c) + s2 (z1 c)) 128 0)
    ⊢ (iprop(outP m ρ c fullShare (cA c 0) 256 0 ∗ outP m ρ c fullShare (cA c 0 + 256) 256 0) : sProp 𝕄) := by
  unfold outP
  have h2 := pair_A (F := F) c (res m ρ)
  rw [quarters_A, bigSep_univ_eq_bigSepL [0, 1, 2, 3] (by decide) (by decide), bigSep_univ_eq_bigSepL [0, 1] (by decide) (by decide)] at h2
  exact Entails.of_eq h2
theorem whole_A (c : Dev nD) : iprop(outP m ρ c fullShare (cA c 0) 256 0 ∗ outP m ρ c fullShare (cA c 0 + 256) 256 0 ∗ outP m ρ c fullShare (cA c 1) 256 0 ∗ outP m ρ c fullShare (cA c 1 + 256) 256 0 ∗ outP m ρ c fullShare (cA c 2) 256 0 ∗ outP m ρ c fullShare (cA c 2 + 256) 256 0 ∗ outP m ρ c fullShare (cA (lf c) 2) 256 0 ∗ outP m ρ c fullShare (cA (lf c) 2 + 256) 256 0)
    ⊢ (outP m ρ c fullShare (0) 2048 0 : sProp 𝕄) := by
  unfold outP
  rw [eight_A, bigSep_univ_eq_bigSepL [0, 1, 2, 3, 4, 5, 6, 7] (by decide) (by decide)]
  exact .rfl
/-- A chunk of half B is the four quarters gathered between planes, -/
theorem quarters_B (c : Dev nD) (f : Buf (Elt F) ((c : Thread nD τ).loc cc0_stg4_0)) :
    ((c : Thread nD τ).loc cc0_stg4_0 ↦[box (cB c 0) 512 1]{fullShare} f : sProp 𝕄) = bigSep Finset.univ fun i : Fin 4 => (c : Thread nD τ).loc cc0_stg4_0 ↦[box (![rowB c + k2 c, rowB c + s2 c, rowB (z1 c) + k2 (z1 c), rowB (z1 c) + s2 (z1 c)] i) ((fun _ => 128) i) 1]{fullShare} f :=
  family ![rowB c + k2 c, rowB c + s2 c, rowB (z1 c) + k2 (z1 c), rowB (z1 c) + s2 (z1 c)] (fun _ => 128) (cB c 0) 512 1 (by clear f; revert c; decide +kernel) (by clear f; revert c; decide +kernel) (by clear f; revert c; decide +kernel) (by clear f; revert c; decide +kernel) (by decide) c fullShare f
/-- it is two halves, -/
theorem pair_B (c : Dev nD) (f : Buf (Elt F) ((c : Thread nD τ).loc cc0_stg4_0)) :
    ((c : Thread nD τ).loc cc0_stg4_0 ↦[box (cB c 0) 512 1]{fullShare} f : sProp 𝕄) = bigSep Finset.univ fun i : Fin 2 => (c : Thread nD τ).loc cc0_stg4_0 ↦[box (![cB c 0, cB c 0 + 256] i) ((fun _ => 256) i) 1]{fullShare} f :=
  family ![cB c 0, cB c 0 + 256] (fun _ => 256) (cB c 0) 512 1 (by clear f; revert c; decide +kernel) (by clear f; revert c; decide +kernel) (by clear f; revert c; decide +kernel) (by clear f; revert c; decide +kernel) (by decide) c fullShare f
/-- and half B is the eight halves of its chunks; -/
theorem eight_B (c : Dev nD) (f : Buf (Elt F) ((c : Thread nD τ).loc cc0_stg4_0)) :
    ((c : Thread nD τ).loc cc0_stg4_0 ↦[box 0 2048 1]{fullShare} f : sProp 𝕄) = bigSep Finset.univ fun i : Fin 8 => (c : Thread nD τ).loc cc0_stg4_0 ↦[box (![cB c 0, cB c 0 + 256, cB c 1, cB c 1 + 256, cB c 2, cB c 2 + 256, cB (rt c) 2, cB (rt c) 2 + 256] i) ((fun _ => 256) i) 1]{fullShare} f :=
  family ![cB c 0, cB c 0 + 256, cB c 1, cB c 1 + 256, cB c 2, cB c 2 + 256, cB (rt c) 2, cB (rt c) 2 + 256] (fun _ => 256) 0 2048 1 (by clear f; revert c; decide +kernel) (by clear f; revert c; decide +kernel) (by clear f; revert c; decide +kernel) (by decide) (by decide) c fullShare f
/-- and it is the own quarter and the landing places. -/
theorem ten_B (c : Dev nD) (f : Buf (Elt F) ((c : Thread nD τ).loc cc0_stg4_0)) :
    ((c : Thread nD τ).loc cc0_stg4_0 ↦[box 0 2048 1]{fullShare} f : sProp 𝕄) = bigSep Finset.univ fun i : Fin 10 => (c : Thread nD τ).loc cc0_stg4_0 ↦[box (![rowB c + k2 c, rowB (z2 c) + k2 (z2 c), rowB (z1 c) + k2 (z1 c), rowB (z1 c) + s2 (z1 c), cB (rt c) 0, cB (rt c) 0 + 256, cB (rt c) 1, cB (rt c) 1 + 256, cB (rt c) 2, cB (rt c) 2 + 256] i) (![128, 128, 128, 128, 256, 256, 256, 256, 256, 256] i) 1]{fullShare} f :=
  family ![rowB c + k2 c, rowB (z2 c) + k2 (z2 c), rowB (z1 c) + k2 (z1 c), rowB (z1 c) + s2 (z1 c), cB (rt c) 0, cB (rt c) 0 + 256, cB (rt c) 1, cB (rt c) 1 + 256, cB (rt c) 2, cB (rt c) 2 + 256] ![128, 128, 128, 128, 256, 256, 256, 256, 256, 256] 0 2048 1 (by clear f; revert c; decide +kernel) (by clear f; revert c; decide +kernel) (by clear f; revert c; decide +kernel) (by decide) (by decide) c fullShare f
theorem chunk_B (c : Dev nD) : iprop(outP m ρ c fullShare (rowB c + k2 c) 128 1 ∗ outP m ρ c fullShare (rowB c + s2 c) 128 1 ∗ outP m ρ c fullShare (rowB (z1 c) + k2 (z1 c)) 128 1 ∗ outP m ρ c fullShare (rowB (z1 c) + s2 (z1 c)) 128 1)
    ⊢ (iprop(outP m ρ c fullShare (cB c 0) 256 1 ∗ outP m ρ c fullShare (cB c 0 + 256) 256 1) : sProp 𝕄) := by
  unfold outP
  have h2 := pair_B (F := F) c (res m ρ)
  rw [quarters_B, bigSep_univ_eq_bigSepL [0, 1, 2, 3] (by decide) (by decide), bigSep_univ_eq_bigSepL [0, 1] (by decide) (by decide)] at h2
  exact Entails.of_eq h2
theorem whole_B (c : Dev nD) : iprop(outP m ρ c fullShare (cB c 0) 256 1 ∗ outP m ρ c fullShare (cB c 0 + 256) 256 1 ∗ outP m ρ c fullShare (cB c 1) 256 1 ∗ outP m ρ c fullShare (cB c 1 + 256) 256 1 ∗ outP m ρ c fullShare (cB c 2) 256 1 ∗ outP m ρ c fullShare (cB c 2 + 256) 256 1 ∗ outP m ρ c fullShare (cB (rt c) 2) 256 1 ∗ outP m ρ c fullShare (cB (rt c) 2 + 256) 256 1)
    ⊢ (outP m ρ c fullShare (0) 2048 1 : sProp 𝕄) := by
  unfold outP
  rw [eight_B, bigSep_univ_eq_bigSepL [0, 1, 2, 3, 4, 5, 6, 7] (by decide) (by decide)]
  exact .rfl

end Cert.KernelIdeal.Moe

end
-- ==== Proof.SegF.lean ====
/-
The gathering of the quarters between planes.
-/
module

public import proofs.«01_k».proof.Proof.Gather

@[expose] public section

set_option maxRecDepth 20000
set_option maxHeartbeats 1000000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-- The gathering of the quarters between planes. -/
theorem segF (c : Dev nD) {α : Type} {Q : α → sProp 𝕄} (v32 v35 v61 v1009 v1147 c0_i32_813 v1012 : BitVec 32)
    (k : Prog (TpuEff nD τ sig (Elt F) Λ₀ .tc) α) :
    iprop(Env m ρ K ∗ T1 c 10 ∗ T1 c 11 ∗ T1 c 12 ∗ outP m ρ c fullShare.right (rowB c + k2 c) 128 1 ∗ todo c 13 ∗ Ow c 13
      ∗ ((T3 c 10 ∗ T3 c 11 ∗ T3 c 12 ∗ T3 c 13 ∗ T3 c 14 ∗ T2 c 15 ∗ outP m ρ c fullShare (rowA c + k2 c) 128 0 ∗ outP m ρ c fullShare (rowA c + s2 c) 128 0 ∗ outP m ρ c fullShare (rowA (z1 c) + k2 (z1 c)) 128 0 ∗ outP m ρ c fullShare (rowA (z1 c) + s2 (z1 c)) 128 0 ∗ outP m ρ c fullShare (rowB c + k2 c) 128 1 ∗ outP m ρ c fullShare (rowB c + s2 c) 128 1 ∗ outP m ρ c fullShare (rowB (z1 c) + k2 (z1 c)) 128 1 ∗ todo c 16 ∗ Ow c 16)
        -∗ Run c k Q))
    ⊢ Run c (
        on (k0_part35 (F := F)) c v32 v35 v61 v1009 v1147 c0_i32_813 >>= fun _ =>
        on (k0_part36 (F := F)) c v32 v35 v61 v1012 >>= fun _ =>
        on (k0_part37 (F := F)) c v32 >>= fun _ =>
        k) Q := by
  simp only [on, k0_part35_eq_skeleton, k0_part36_eq_skeleton, k0_part37_eq_skeleton]
  simp only [k0_part35_skel, k0_part36_skel, k0_part37_skel]
  simp only [Prog.lift, Prog.bind_op, Prog.bind_ret, Prog.pure_eq_ret, semSignalWord, semWaitWord]
  iintro ⟨#HE, HT10, HT11, HT12, HrB, Htodo, HO, Hk⟩
  iapply (go_out c _ 13 (dev13 c) rfl rfl fullShare.right (rowB c + k2 c) 128 1 (off35 c) rfl (cred _ (cr_128 13 (by decide))) rfl rfl (recv_13 m ρ c)) $$ [HrB Htodo HO]
  · isplitr; · iexact HE
    isplitl [HrB]; · iexact HrB
    isplitl [Htodo]; · iexact Htodo
    iexact HO
  iintro ⟨HT13, Htodo, HO⟩
  iapply (waitSR c 10 14 rfl rfl (by decide) (cred _ (cr_128 10 (by decide))) (cred _ (cr_128 10 (by decide)))
    (PS := outP m ρ c fullShare.left (rowA c + k2 c) 128 0) (PR := outP m ρ c fullShare (rowA c + s2 c) 128 0) rfl (got_10 m ρ c)) $$ [HT10 HO]
  · isplitr; · iexact HE
    isplitl [HT10]; · iexact HT10
    iexact HO
  iintro ⟨HT10, HS10, HR10, HO⟩
  iapply (go_out c _ 14 (dev14 c) rfl rfl fullShare (rowA c + s2 c) 128 0 (off36 c) rfl (cred _ (cr_128 14 (by decide))) rfl rfl (recv_14 m ρ c)) $$ [HR10 Htodo HO]
  · isplitr; · iexact HE
    isplitl [HR10]; · iexact HR10
    isplitl [Htodo]; · iexact Htodo
    iexact HO
  iintro ⟨HT14, Htodo, HO⟩
  iapply (waitSR c 12 15 rfl rfl (by decide) (cred _ (cr_128 12 (by decide))) (cred _ (cr_128 12 (by decide)))
    (PS := outP m ρ c fullShare.left (rowB c + k2 c) 128 1) (PR := outP m ρ c fullShare (rowB c + s2 c) 128 1) rfl (got_12 m ρ c)) $$ [HT12 HO]
  · isplitr; · iexact HE
    isplitl [HT12]; · iexact HT12
    iexact HO
  iintro ⟨HT12, HS12, HR12, HO⟩
  iapply (go_out c _ 15 (dev15 c) rfl rfl fullShare (rowB c + s2 c) 128 1 (off37 c) rfl (cred _ (cr_128 15 (by decide))) rfl rfl (recv_15 m ρ c)) $$ [HR12 Htodo HO]
  · isplitr; · iexact HE
    isplitl [HR12]; · iexact HR12
    isplitl [Htodo]; · iexact Htodo
    iexact HO
  iintro ⟨HT15, Htodo, HO⟩
  iapply (waitSR c 11 16 rfl rfl (by decide) (cred _ (cr_128 11 (by decide))) (cred _ (cr_128 11 (by decide)))
    (PS := outP m ρ c fullShare.right (rowA c + k2 c) 128 0) (PR := outP m ρ c fullShare (rowA (z1 c) + k2 (z1 c)) 128 0) rfl rfl) $$ [HT11 HO]
  · isplitr; · iexact HE
    isplitl [HT11]; · iexact HT11
    iexact HO
  iintro ⟨HT11, HS11, HR11, HO⟩
  iapply (waitSR c 14 16 rfl rfl (by decide) (cred _ (cr_128 14 (by decide))) (cred _ (cr_128 14 (by decide)))
    (PS := outP m ρ c fullShare (rowA c + s2 c) 128 0) (PR := outP m ρ c fullShare (rowA (z1 c) + s2 (z1 c)) 128 0) rfl rfl) $$ [HT14 HO]
  · isplitr; · iexact HE
    isplitl [HT14]; · iexact HT14
    iexact HO
  iintro ⟨HT14, HS14, HR14, HO⟩
  iapply (waitSR c 13 16 rfl rfl (by decide) (cred _ (cr_128 13 (by decide))) (cred _ (cr_128 13 (by decide)))
    (PS := outP m ρ c fullShare.right (rowB c + k2 c) 128 1) (PR := outP m ρ c fullShare (rowB (z1 c) + k2 (z1 c)) 128 1) rfl rfl) $$ [HT13 HO]
  · isplitr; · iexact HE
    isplitl [HT13]; · iexact HT13
    iexact HO
  iintro ⟨HT13, HS13, HR13, HO⟩
  iapply (waitS c 15 16 rfl (cred _ (cr_128 15 (by decide)))) $$ [HT15 HO]
  · isplitr; · iexact HE
    isplitl [HT15]; · iexact HT15
    iexact HO
  iintro ⟨HT15, HS15, HO⟩
  ihave HS15 := (sent_15 m ρ c) $$ [HS15]; · iexact HS15
  ihave HA := (outP_share c _ _ _).2 $$ [HS10 HS11]
  · isplitl [HS10] <;> iassumption
  ihave HB := (outP_share c _ _ _).2 $$ [HS12 HS13]
  · isplitl [HS12] <;> iassumption
  iapply Hk $$ [HT10 HT11 HT12 HT13 HT14 HT15 HA HS14 HR11 HR14 HB HS15 HR13 Htodo HO]
  isplitl [HT10]; · iexact HT10
  isplitl [HT11]; · iexact HT11
  isplitl [HT12]; · iexact HT12
  isplitl [HT13]; · iexact HT13
  isplitl [HT14]; · iexact HT14
  isplitl [HT15]; · iexact HT15
  isplitl [HA]; · iexact HA
  isplitl [HS14]; · iexact HS14
  isplitl [HR11]; · iexact HR11
  isplitl [HR14]; · iexact HR14
  isplitl [HB]; · iexact HB
  isplitl [HS15]; · iexact HS15
  isplitl [HR13]; · iexact HR13
  isplitl [Htodo]; · iexact Htodo
  iexact HO

end Cert.KernelIdeal.Moe

end
-- ==== Proof.SegG.lean ====
/-
The first half of the gathering along the ring.
-/
module

public import proofs.«01_k».proof.Proof.Gather

@[expose] public section

set_option maxRecDepth 20000
set_option maxHeartbeats 1000000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-- The first half of the gathering along the ring. -/
theorem segG (c : Dev nD) {α : Type} {Q : α → sProp 𝕄} (v20 v24 v29 : BitVec 32)
    (k : BitVec 32 → BitVec 32 → Prog (TpuEff nD τ sig (Elt F) Λ₀ .tc) α) :
    iprop(Env m ρ K ∗ T2 c 15 ∗ outP m ρ c fullShare (rowA c + k2 c) 128 0 ∗ outP m ρ c fullShare (rowA c + s2 c) 128 0 ∗ outP m ρ c fullShare (rowA (z1 c) + k2 (z1 c)) 128 0 ∗ outP m ρ c fullShare (rowA (z1 c) + s2 (z1 c)) 128 0 ∗ outP m ρ c fullShare (rowB c + k2 c) 128 1 ∗ outP m ρ c fullShare (rowB c + s2 c) 128 1 ∗ outP m ρ c fullShare (rowB (z1 c) + k2 (z1 c)) 128 1 ∗ todo c 16 ∗ Ow c 16
      ∗ ((T3 c 15 ∗ T3 c 16 ∗ T3 c 17 ∗ T3 c 18 ∗ T3 c 19 ∗ T1 c 20 ∗ T1 c 21 ∗ T1 c 22 ∗ T1 c 23 ∗ outP m ρ c fullShare (cA c 0) 256 0 ∗ outP m ρ c fullShare (cB c 0) 256 1 ∗ outP m ρ c fullShare (cA c 0 + 256) 256 0 ∗ outP m ρ c fullShare (cB c 0 + 256) 256 1 ∗ todo c 24 ∗ Ow c 24)
        -∗ ∀ a b, Run c (k a b) Q))
    ⊢ Run c (
        on (k0_part38 (F := F)) c v20 v24 v29 >>= fun o38 =>
        on (k0_part39 (F := F)) c v20 v24 v29 o38.1 o38.2 >>= fun o39 =>
        on (k0_part40 (F := F)) c v24 v29 o39.1 o39.2 >>= fun _ =>
        on (k0_part41 (F := F)) c v24 v29 >>= fun _ =>
        on (k0_part42 (F := F)) c v20 v24 v29 o39.1 o39.2 >>= fun o42 =>
        k o42.1 o42.2) Q := by
  simp only [on, k0_part38_eq_skeleton, k0_part39_eq_skeleton, k0_part40_eq_skeleton, k0_part41_eq_skeleton, k0_part42_eq_skeleton]
  simp only [k0_part38_skel, k0_part39_skel, k0_part40_skel, k0_part41_skel, k0_part42_skel]
  simp only [Prog.lift, Prog.bind_op, Prog.bind_ret, Prog.pure_eq_ret, semSignalWord, semWaitWord]
  iintro ⟨#HE, HT15, HA, HS14, HR11, HR14, HB, HS15, HR13, Htodo, HO, Hk⟩
  iapply (waitR c 15 16 rfl (by decide) (cred _ (cr_128 15 (by decide)))) $$ [HT15 HO]
  · isplitr; · iexact HE
    isplitl [HT15]; · iexact HT15
    iexact HO
  iintro ⟨HT15, HR15, HO⟩
  ihave HR15 := (got_15 m ρ c) $$ [HR15]; · iexact HR15
  ihave HA := (chunk_A m ρ c) $$ [HA HS14 HR11 HR14]
  · isplitl [HA]; · iexact HA
    isplitl [HS14]; · iexact HS14
    isplitl [HR11] <;> iassumption
  icases HA with ⟨H16, H18⟩
  ihave HB := (chunk_B m ρ c) $$ [HB HS15 HR13 HR15]
  · isplitl [HB]; · iexact HB
    isplitl [HS15]; · iexact HS15
    isplitl [HR13] <;> iassumption
  icases HB with ⟨H17, H19⟩
  iapply (go_out c _ 16 (dev16 c) rfl rfl fullShare (cA c 0) 256 0 (off_A00 c) rfl (cred _ (cr_256 16 (by decide))) rfl rfl (recv_16 m ρ c)) $$ [H16 Htodo HO]
  · isplitr; · iexact HE
    isplitl [H16]; · iexact H16
    isplitl [Htodo]; · iexact Htodo
    iexact HO
  iintro ⟨HT16, Htodo, HO⟩
  iapply (go_out c _ 17 (dev17 c) rfl rfl fullShare (cB c 0) 256 1 (off_B00 c) rfl (cred _ (cr_256 17 (by decide))) rfl rfl (recv_17 m ρ c)) $$ [H17 Htodo HO]
  · isplitr; · iexact HE
    isplitl [H17]; · iexact H17
    isplitl [Htodo]; · iexact Htodo
    iexact HO
  iintro ⟨HT17, Htodo, HO⟩
  iapply (go_out c _ 18 (dev18 c) rfl rfl fullShare (cA c 0 + 256) 256 0 (off_A01 c) rfl (cred _ (cr_256 18 (by decide))) rfl rfl (recv_18 m ρ c)) $$ [H18 Htodo HO]
  · isplitr; · iexact HE
    isplitl [H18]; · iexact H18
    isplitl [Htodo]; · iexact Htodo
    iexact HO
  iintro ⟨HT18, Htodo, HO⟩
  iapply (go_out c _ 19 (dev19 c) rfl rfl fullShare (cB c 0 + 256) 256 1 (off_B01 c) rfl (cred _ (cr_256 19 (by decide))) rfl rfl (recv_19 m ρ c)) $$ [H19 Htodo HO]
  · isplitr; · iexact HE
    isplitl [H19]; · iexact H19
    isplitl [Htodo]; · iexact Htodo
    iexact HO
  iintro ⟨HT19, Htodo, HO⟩
  iapply (waitSR c 16 20 rfl rfl (by decide) (cred _ (cr_256 16 (by decide))) (cred _ (cr_256 16 (by decide)))
    (PS := outP m ρ c fullShare (cA c 0) 256 0) (PR := outP m ρ c fullShare (cA c 1) 256 0) rfl (got_16 m ρ c)) $$ [HT16 HO]
  · isplitr; · iexact HE
    isplitl [HT16]; · iexact HT16
    iexact HO
  iintro ⟨HT16, HS16, HR16, HO⟩
  iapply (waitSR c 17 20 rfl rfl (by decide) (cred _ (cr_256 17 (by decide))) (cred _ (cr_256 17 (by decide)))
    (PS := outP m ρ c fullShare (cB c 0) 256 1) (PR := outP m ρ c fullShare (cB c 1) 256 1) rfl (got_17 m ρ c)) $$ [HT17 HO]
  · isplitr; · iexact HE
    isplitl [HT17]; · iexact HT17
    iexact HO
  iintro ⟨HT17, HS17, HR17, HO⟩
  iapply (go_out c _ 20 (dev20 c) rfl rfl fullShare (cA c 1) 256 0 (off_A10 c) rfl (cred _ (cr_256 20 (by decide))) rfl rfl (recv_20 m ρ c)) $$ [HR16 Htodo HO]
  · isplitr; · iexact HE
    isplitl [HR16]; · iexact HR16
    isplitl [Htodo]; · iexact Htodo
    iexact HO
  iintro ⟨HT20, Htodo, HO⟩
  iapply (go_out c _ 21 (dev21 c) rfl rfl fullShare (cB c 1) 256 1 (off_B10 c) rfl (cred _ (cr_256 21 (by decide))) rfl rfl (recv_21 m ρ c)) $$ [HR17 Htodo HO]
  · isplitr; · iexact HE
    isplitl [HR17]; · iexact HR17
    isplitl [Htodo]; · iexact Htodo
    iexact HO
  iintro ⟨HT21, Htodo, HO⟩
  iapply (waitSR c 18 22 rfl rfl (by decide) (cred _ (cr_256 18 (by decide))) (cred _ (cr_256 18 (by decide)))
    (PS := outP m ρ c fullShare (cA c 0 + 256) 256 0) (PR := outP m ρ c fullShare (cA c 1 + 256) 256 0) rfl (got_18 m ρ c)) $$ [HT18 HO]
  · isplitr; · iexact HE
    isplitl [HT18]; · iexact HT18
    iexact HO
  iintro ⟨HT18, HS18, HR18, HO⟩
  iapply (waitSR c 19 22 rfl rfl (by decide) (cred _ (cr_256 19 (by decide))) (cred _ (cr_256 19 (by decide)))
    (PS := outP m ρ c fullShare (cB c 0 + 256) 256 1) (PR := outP m ρ c fullShare (cB c 1 + 256) 256 1) rfl (got_19 m ρ c)) $$ [HT19 HO]
  · isplitr; · iexact HE
    isplitl [HT19]; · iexact HT19
    iexact HO
  iintro ⟨HT19, HS19, HR19, HO⟩
  iapply (go_out c _ 22 (dev22 c) rfl rfl fullShare (cA c 1 + 256) 256 0 (off_A11 c) rfl (cred _ (cr_256 22 (by decide))) rfl rfl (recv_22 m ρ c)) $$ [HR18 Htodo HO]
  · isplitr; · iexact HE
    isplitl [HR18]; · iexact HR18
    isplitl [Htodo]; · iexact Htodo
    iexact HO
  iintro ⟨HT22, Htodo, HO⟩
  iapply (go_out c _ 23 (dev23 c) rfl rfl fullShare (cB c 1 + 256) 256 1 (off_B11 c) rfl (cred _ (cr_256 23 (by decide))) rfl rfl (recv_23 m ρ c)) $$ [HR19 Htodo HO]
  · isplitr; · iexact HE
    isplitl [HR19]; · iexact HR19
    isplitl [Htodo]; · iexact Htodo
    iexact HO
  iintro ⟨HT23, Htodo, HO⟩
  iapply Hk $$ [HT15 HT16 HT17 HT18 HT19 HT20 HT21 HT22 HT23 HS16 HS17 HS18 HS19 Htodo HO]
  isplitl [HT15]; · iexact HT15
  isplitl [HT16]; · iexact HT16
  isplitl [HT17]; · iexact HT17
  isplitl [HT18]; · iexact HT18
  isplitl [HT19]; · iexact HT19
  isplitl [HT20]; · iexact HT20
  isplitl [HT21]; · iexact HT21
  isplitl [HT22]; · iexact HT22
  isplitl [HT23]; · iexact HT23
  isplitl [HS16]; · iexact HS16
  isplitl [HS17]; · iexact HS17
  isplitl [HS18]; · iexact HS18
  isplitl [HS19]; · iexact HS19
  isplitl [Htodo]; · iexact Htodo
  iexact HO

end Cert.KernelIdeal.Moe

end
-- ==== Proof.SegH.lean ====
/-
The second half of the gathering along the ring.
-/
module

public import proofs.«01_k».proof.Proof.Gather

@[expose] public section

set_option maxRecDepth 20000
set_option maxHeartbeats 1000000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-- The second half of the gathering along the ring. -/
theorem segH (c : Dev nD) {α : Type} {Q : α → sProp 𝕄} (v24 v29 v1374 v1378 : BitVec 32)
    (k : Prog (TpuEff nD τ sig (Elt F) Λ₀ .tc) α) :
    iprop(Env m ρ K ∗ T1 c 20 ∗ T1 c 21 ∗ T1 c 22 ∗ T1 c 23 ∗ todo c 24 ∗ Ow c 24
      ∗ ((T3 c 20 ∗ T3 c 21 ∗ T3 c 22 ∗ T3 c 23 ∗ T3 c 24 ∗ T3 c 25 ∗ T3 c 26 ∗ T1 c 27 ∗ outP m ρ c fullShare (cA c 1) 256 0 ∗ outP m ρ c fullShare (cB c 1) 256 1 ∗ outP m ρ c fullShare (cA c 1 + 256) 256 0 ∗ outP m ρ c fullShare (cB c 1 + 256) 256 1 ∗ outP m ρ c fullShare (cA c 2) 256 0 ∗ outP m ρ c fullShare (cB c 2) 256 1 ∗ outP m ρ c fullShare (cA c 2 + 256) 256 0 ∗ outP m ρ c fullShare (cA (lf c) 2) 256 0 ∗ outP m ρ c fullShare (cB (rt c) 2) 256 1 ∗ outP m ρ c fullShare (cA (lf c) 2 + 256) 256 0 ∗ todo c 28 ∗ Ow c 28)
        -∗ Run c k Q))
    ⊢ Run c (
        on (k0_part43 (F := F)) c v24 v29 v1374 v1378 >>= fun _ =>
        on (k0_part44 (F := F)) c v24 v29 >>= fun _ =>
        on (k0_part45 (F := F)) c v24 v29 v1374 v1378 >>= fun _ =>
        on (k0_part46 (F := F)) c v24 v29 >>= fun _ =>
        k) Q := by
  simp only [on, k0_part43_eq_skeleton, k0_part44_eq_skeleton, k0_part45_eq_skeleton, k0_part46_eq_skeleton]
  simp only [k0_part43_skel, k0_part44_skel, k0_part45_skel, k0_part46_skel]
  simp only [Prog.lift, Prog.bind_op, Prog.bind_ret, Prog.pure_eq_ret, semSignalWord, semWaitWord]
  iintro ⟨#HE, HT20, HT21, HT22, HT23, Htodo, HO, Hk⟩
  iapply (waitSR c 20 24 rfl rfl (by decide) (cred _ (cr_256 20 (by decide))) (cred _ (cr_256 20 (by decide)))
    (PS := outP m ρ c fullShare (cA c 1) 256 0) (PR := outP m ρ c fullShare (cA c 2) 256 0) rfl (got_20 m ρ c)) $$ [HT20 HO]
  · isplitr; · iexact HE
    isplitl [HT20]; · iexact HT20
    iexact HO
  iintro ⟨HT20, HS20, HR20, HO⟩
  iapply (waitSR c 21 24 rfl rfl (by decide) (cred _ (cr_256 21 (by decide))) (cred _ (cr_256 21 (by decide)))
    (PS := outP m ρ c fullShare (cB c 1) 256 1) (PR := outP m ρ c fullShare (cB c 2) 256 1) rfl (got_21 m ρ c)) $$ [HT21 HO]
  · isplitr; · iexact HE
    isplitl [HT21]; · iexact HT21
    iexact HO
  iintro ⟨HT21, HS21, HR21, HO⟩
  iapply (go_out c _ 24 (dev24 c) rfl rfl fullShare (cA c 2) 256 0 (off_A20 c) rfl (cred _ (cr_256 24 (by decide))) rfl rfl (recv_24 m ρ c)) $$ [HR20 Htodo HO]
  · isplitr; · iexact HE
    isplitl [HR20]; · iexact HR20
    isplitl [Htodo]; · iexact Htodo
    iexact HO
  iintro ⟨HT24, Htodo, HO⟩
  iapply (go_out c _ 25 (dev25 c) rfl rfl fullShare (cB c 2) 256 1 (off_B20 c) rfl (cred _ (cr_256 25 (by decide))) rfl rfl (recv_25 m ρ c)) $$ [HR21 Htodo HO]
  · isplitr; · iexact HE
    isplitl [HR21]; · iexact HR21
    isplitl [Htodo]; · iexact Htodo
    iexact HO
  iintro ⟨HT25, Htodo, HO⟩
  iapply (waitSR c 22 26 rfl rfl (by decide) (cred _ (cr_256 22 (by decide))) (cred _ (cr_256 22 (by decide)))
    (PS := outP m ρ c fullShare (cA c 1 + 256) 256 0) (PR := outP m ρ c fullShare (cA c 2 + 256) 256 0) rfl (got_22 m ρ c)) $$ [HT22 HO]
  · isplitr; · iexact HE
    isplitl [HT22]; · iexact HT22
    iexact HO
  iintro ⟨HT22, HS22, HR22, HO⟩
  iapply (waitSR c 23 26 rfl rfl (by decide) (cred _ (cr_256 23 (by decide))) (cred _ (cr_256 23 (by decide)))
    (PS := outP m ρ c fullShare (cB c 1 + 256) 256 1) (PR := outP m ρ c fullShare (cB c 2 + 256) 256 1) rfl (got_23 m ρ c)) $$ [HT23 HO]
  · isplitr; · iexact HE
    isplitl [HT23]; · iexact HT23
    iexact HO
  iintro ⟨HT23, HS23, HR23, HO⟩
  iapply (go_out c _ 26 (dev26 c) rfl rfl fullShare (cA c 2 + 256) 256 0 (off_A21 c) rfl (cred _ (cr_256 26 (by decide))) rfl rfl (recv_26 m ρ c)) $$ [HR22 Htodo HO]
  · isplitr; · iexact HE
    isplitl [HR22]; · iexact HR22
    isplitl [Htodo]; · iexact Htodo
    iexact HO
  iintro ⟨HT26, Htodo, HO⟩
  iapply (go_out c _ 27 (dev27 c) rfl rfl fullShare (cB c 2 + 256) 256 1 (off_B21 c) rfl (cred _ (cr_256 27 (by decide))) rfl rfl (recv_27 m ρ c)) $$ [HR23 Htodo HO]
  · isplitr; · iexact HE
    isplitl [HR23]; · iexact HR23
    isplitl [Htodo]; · iexact Htodo
    iexact HO
  iintro ⟨HT27, Htodo, HO⟩
  iapply (waitSR c 24 28 rfl rfl (by decide) (cred _ (cr_256 24 (by decide))) (cred _ (cr_256 24 (by decide)))
    (PS := outP m ρ c fullShare (cA c 2) 256 0) (PR := outP m ρ c fullShare (cA (lf c) 2) 256 0) rfl rfl) $$ [HT24 HO]
  · isplitr; · iexact HE
    isplitl [HT24]; · iexact HT24
    iexact HO
  iintro ⟨HT24, HS24, HR24, HO⟩
  iapply (waitSR c 25 28 rfl rfl (by decide) (cred _ (cr_256 25 (by decide))) (cred _ (cr_256 25 (by decide)))
    (PS := outP m ρ c fullShare (cB c 2) 256 1) (PR := outP m ρ c fullShare (cB (rt c) 2) 256 1) rfl rfl) $$ [HT25 HO]
  · isplitr; · iexact HE
    isplitl [HT25]; · iexact HT25
    iexact HO
  iintro ⟨HT25, HS25, HR25, HO⟩
  iapply (waitSR c 26 28 rfl rfl (by decide) (cred _ (cr_256 26 (by decide))) (cred _ (cr_256 26 (by decide)))
    (PS := outP m ρ c fullShare (cA c 2 + 256) 256 0) (PR := outP m ρ c fullShare (cA (lf c) 2 + 256) 256 0) rfl rfl) $$ [HT26 HO]
  · isplitr; · iexact HE
    isplitl [HT26]; · iexact HT26
    iexact HO
  iintro ⟨HT26, HS26, HR26, HO⟩
  iapply Hk $$ [HT20 HT21 HT22 HT23 HT24 HT25 HT26 HT27 HS20 HS21 HS22 HS23 HS24 HS25 HS26 HR24 HR25 HR26 Htodo HO]
  isplitl [HT20]; · iexact HT20
  isplitl [HT21]; · iexact HT21
  isplitl [HT22]; · iexact HT22
  isplitl [HT23]; · iexact HT23
  isplitl [HT24]; · iexact HT24
  isplitl [HT25]; · iexact HT25
  isplitl [HT26]; · iexact HT26
  isplitl [HT27]; · iexact HT27
  isplitl [HS20]; · iexact HS20
  isplitl [HS21]; · iexact HS21
  isplitl [HS22]; · iexact HS22
  isplitl [HS23]; · iexact HS23
  isplitl [HS24]; · iexact HS24
  isplitl [HS25]; · iexact HS25
  isplitl [HS26]; · iexact HS26
  isplitl [HR24]; · iexact HR24
  isplitl [HR25]; · iexact HR25
  isplitl [HR26]; · iexact HR26
  isplitl [Htodo]; · iexact Htodo
  iexact HO

end Cert.KernelIdeal.Moe

end
-- ==== Proof.Compose.lean ====
/-
The kernel's body as the run of its stretches, and its proof.
-/
module

public import proofs.«01_k».proof.Proof.SegE
public import proofs.«01_k».proof.Proof.SegF
public import proofs.«01_k».proof.Proof.SegG
public import proofs.«01_k».proof.Proof.SegH

@[expose] public section

set_option maxRecDepth 20000
set_option maxHeartbeats 1000000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The body in stretches -/

def progT (c : Dev nD) : Prog (TpuEff nD τ sig (Elt F) Λ₀ .tc) (Dev nD) :=
  Prog.lift (.waitDma2 (((SemArray.slice cc0_scratch25 (Rect.unit ![5] S1.size inb_S6_S1_5)).squeeze S_ squeezes_S1_S_).sem)
    (oM.slice (Rect.unit (s := S2048x1024) (k0_off39 c 2#32 256#32) S256x512.size (k0_off39_inb c 2 1)) (fun _ => rfl))
    (oM.slice (Rect.unit (s := S2048x1024) (k0_off39 c 2#32 256#32) S256x512.size (k0_off39_inb c 2 1)) (fun _ => rfl))
    (View.wordExact_bits rfl) (View.wordExact_bits rfl)) >>= fun _ => pure c
def progH (c : Dev nD) (v24 v29 v1374 v1378 : BitVec 32) : Prog (TpuEff nD τ sig (Elt F) Λ₀ .tc) (Dev nD) :=
        on (k0_part43 (F := F)) c v24 v29 v1374 v1378 >>= fun _ =>
        on (k0_part44 (F := F)) c v24 v29 >>= fun _ =>
        on (k0_part45 (F := F)) c v24 v29 v1374 v1378 >>= fun _ =>
        on (k0_part46 (F := F)) c v24 v29 >>= fun _ =>
        progT c
def progG (c : Dev nD) (v20 v24 v29 : BitVec 32) : Prog (TpuEff nD τ sig (Elt F) Λ₀ .tc) (Dev nD) :=
        on (k0_part38 (F := F)) c v20 v24 v29 >>= fun o38 =>
        on (k0_part39 (F := F)) c v20 v24 v29 o38.1 o38.2 >>= fun o39 =>
        on (k0_part40 (F := F)) c v24 v29 o39.1 o39.2 >>= fun _ =>
        on (k0_part41 (F := F)) c v24 v29 >>= fun _ =>
        on (k0_part42 (F := F)) c v20 v24 v29 o39.1 o39.2 >>= fun o42 =>
        progH c v24 v29 o42.1 o42.2
def progF (c : Dev nD) (v32 v35 v61 v1009 v1147 c0_i32_813 v1012 v20 v24 v29 : BitVec 32) : Prog (TpuEff nD τ sig (Elt F) Λ₀ .tc) (Dev nD) :=
        on (k0_part35 (F := F)) c v32 v35 v61 v1009 v1147 c0_i32_813 >>= fun _ =>
        on (k0_part36 (F := F)) c v32 v35 v61 v1012 >>= fun _ =>
        on (k0_part37 (F := F)) c v32 >>= fun _ =>
        progG c v20 v24 v29
def progE (c : Dev nD) (v32 v35 v54 v1023 v58 v1009 v1012 v61 v20 v24 v29 : BitVec 32) : Prog (TpuEff nD τ sig (Elt F) Λ₀ .tc) (Dev nD) :=
        on (k0_part31 (F := F)) c v32 v35 v54 v1023 >>= fun _ =>
        on (k0_part32 (F := F)) c v32 v35 v54 >>= fun _ =>
        on (k0_part33 (F := F)) c v32 v35 v58 v1009 >>= fun _ =>
        on (k0_part34 (F := F)) c v32 v35 v58 v1012 >>= fun o34 =>
        progF c v32 v35 v61 v1009 o34.1 o34.2 v1012 v20 v24 v29
def progD (c : Dev nD) (v20 v29 v24 v32 v35 v54 v58 v61 : BitVec 32) : Prog (TpuEff nD τ sig (Elt F) Λ₀ .tc) (Dev nD) :=
        on (k0_part24 (F := F)) c v20 v29 >>= fun o24 =>
        on (k0_part25 (F := F)) c o24.1 o24.2.1 o24.2.2.1 o24.2.2.2.1 o24.2.2.2.2 >>= fun o25 =>
        on (k0_part26 (F := F)) c v20 o24.1 o24.2.1 o25.1 o25.2.1 o25.2.2 >>= fun o26 =>
        on (k0_part27 (F := F)) c o26.2.1 o26.2.2.1 o26.2.2.2.1 o26.2.2.2.2.1 o26.2.2.2.2.2 >>= fun o27 =>
        on (k0_part28 (F := F)) c o26.2.1 o26.2.2.1 o27.1 o27.2.1 o27.2.2 >>= fun o28 =>
        on (k0_part29 (F := F)) v24 v29 o26.1 >>= fun _ =>
        on (k0_part30 (F := F)) v20 v32 o28 >>= fun o30 =>
        progE c v32 v35 v54 o30.2.2 v58 o30.1 o30.2.1 v61 v20 v24 v29
def progC (c : Dev nD) (v20 v29 v24 v32 v35 v54 v58 v61 : BitVec 32) : Prog (TpuEff nD τ sig (Elt F) Λ₀ .tc) (Dev nD) :=
        on (k0_part17 (F := F)) c v20 v29 >>= fun o17 =>
        on (k0_part18 (F := F)) c o17.1 o17.2.1 o17.2.2.1 o17.2.2.2 >>= fun o18 =>
        on (k0_part19 (F := F)) c v20 o17.1 o17.2.1 o18.1 o18.2 >>= fun o19 =>
        on (k0_part20 (F := F)) c o19.2.1 o19.2.2.1 o19.2.2.2 >>= fun o20 =>
        on (k0_part21 (F := F)) c o19.2.1 o19.2.2.1 o20 >>= fun o21 =>
        on (k0_part22 (F := F)) v24 o19.1 >>= fun _ =>
        on (k0_part23 (F := F)) c v24 v29 o21 >>= fun _ =>
        progD c v20 v29 v24 v32 v35 v54 v58 v61
def progB (c : Dev nD) (v20 v24 v29 v32 v35 v54 v58 v61 : BitVec 32) : Prog (TpuEff nD τ sig (Elt F) Λ₀ .tc) (Dev nD) :=
        on (k0_part11 (F := F)) c v20 >>= fun o11 =>
        on (k0_part12 (F := F)) c o11.1 o11.2.1 o11.2.2.1 o11.2.2.2.1 o11.2.2.2.2 >>= fun o12 =>
        on (k0_part13 (F := F)) c v20 o11.1 o11.2.1 o12.1 o12.2.1 o12.2.2 >>= fun o13 =>
        on (k0_part14 (F := F)) c o13.2.1 o13.2.2.1 o13.2.2.2.1 o13.2.2.2.2.1 o13.2.2.2.2.2.1 o13.2.2.2.2.2.2 >>= fun o14 =>
        on (k0_part15 (F := F)) c v24 o13.2.1 o13.2.2.1 o14.1 o14.2.1 o14.2.2.1 o14.2.2.2 >>= fun o15 =>
        on (k0_part16 (F := F)) v24 v29 o13.1 o15 >>= fun _ =>
        progC c v20 v29 v24 v32 v35 v54 v58 v61
def progA (c : Dev nD) (v19 v36 v20 v24 v29 v32 v35 : BitVec 32) : Prog (TpuEff nD τ sig (Elt F) Λ₀ .tc) (Dev nD) :=
        on (k0_part2 (F := F)) v19 v36 >>= fun o2 =>
        on (k0_part3 (F := F)) (wd c) o2.2.2.2 >>= fun o3 =>
        on (k0_part4 (F := F)) (wd c) o3.1 o3.2.1 o3.2.2.1 o3.2.2.2.1 o3.2.2.2.2.2.2.1 o3.2.2.2.2.2.2.2 >>= fun o4 =>
        on (k0_part5 (F := F)) c (wd c) v20 o3.1 o3.2.1 o3.2.2.1 o3.2.2.2.1 o3.2.2.2.2.1 o3.2.2.2.2.2.1 o4.1 o4.2.1 o4.2.2.1 o4.2.2.2.1 o4.2.2.2.2.1 o4.2.2.2.2.2 >>= fun o5 =>
        on (k0_part6 (F := F)) c v20 o5.1 o5.2 >>= fun o6 =>
        on (k0_part7 (F := F)) c v20 v24 v29 o5.1 o6 >>= fun o7 =>
        on (k0_part8 (F := F)) c v20 v24 v32 v35 o7 >>= fun o8 =>
        on (k0_part9 (F := F)) c v20 o8.1 o8.2.1 o8.2.2 >>= fun o9 =>
        on (k0_part10 (F := F)) c v20 v29 o8.1 o9.1 o9.2 >>= fun _ =>
        progB c v20 v24 v29 v32 v35 o2.1 o2.2.1 o2.2.2.1

set_option maxRecDepth 100000 in
/-- The body up to its last wait is the run of the stretches. -/
theorem part47_run {P0 : sProp 𝕄} (c : Dev nD) (Q : Dev nD → sProp 𝕄) (h : ∀ v19 v36 v20 v24 v29 v32 v35, P0 ⊢ Run c (progA (F := F) c v19 v36 v20 v24 v29 v32 v35) Q) :
    P0 ⊢ Run c (on (k0_part47 (F := F))) Q := by
  simp only [on, k0_part47_eq_skeleton]
  unfold k0_part47_skel
  rw [k0_part1_eq_skeleton]
  simp only [k0_part1_skel, Prog.lift, Prog.bind_op, Prog.bind_ret, Prog.pure_eq_ret, wp_deviceId]
  exact h _ _ _ _ _ _ _

end Cert.KernelIdeal.Moe

end
-- ==== Proof.Body.lean ====
/-
The run of the whole body on one device.
-/
module

public import proofs.«01_k».proof.Proof.Compose

@[expose] public section

set_option maxRecDepth 20000
set_option maxHeartbeats 1000000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

section Body
variable {m ρ K}

/-- What a device holds once the body has run. -/
def Done (m : (ℓ : Loc nD τ sig) → Buf (Elt F) ℓ) (ρ : Dev nD → PrngReg) (c : Dev nD) : sProp 𝕄 :=
  iprop(In m ρ c ∗ (rM.view.loc (c : Thread nD τ) ↦{fullShare} (rin m ρ c)) ∗ (iM.view.loc (c : Thread nD τ) ↦{fullShare} (iin m ρ c))
    ∗ (bigSep Finset.univ fun t : Fin 28 => T3 (F := F) c t) ∗ any c ownA ∗ any c ownB
    ∗ any c (slot0 comA) ∗ any c (slot1 comA) ∗ any c (slot2 comA) ∗ any c (slot0 comB) ∗ any c (slot1 comB) ∗ any c (slot2 comB)
    ∗ any c zwA ∗ any c zwB ∗ any c z1A ∗ any c z1B ∗ any c z2A ∗ any c z2B ∗ Ow c 28 ∗ semVal (barCell c) 0
    ∗ outP m ρ c fullShare 0 2048 0 ∗ outP m ρ c fullShare 0 2048 1)

theorem got_27 (c : Dev nD) : recvPay m ρ c 27 ⊢ (outP m ρ c fullShare (cB (rt c) 2 + 256) 256 1 : sProp 𝕄) := .rfl
theorem sent_27 (c : Dev nD) : sendPay m ρ c 27 ⊢ (outP m ρ c fullShare (cB c 2 + 256) 256 1 : sProp 𝕄) := .rfl

omit [FloatOps F] in
/-- All transfers done. -/
theorem T3_all (c : Dev nD) : iprop(T3 (F := F) c 0 ∗ T3 (F := F) c 1 ∗ T3 (F := F) c 2 ∗ T3 (F := F) c 3 ∗ T3 (F := F) c 4 ∗ T3 (F := F) c 5 ∗ T3 (F := F) c 6 ∗ T3 (F := F) c 7 ∗ T3 (F := F) c 8 ∗ T3 (F := F) c 9 ∗ T3 (F := F) c 10 ∗ T3 (F := F) c 11 ∗ T3 (F := F) c 12 ∗ T3 (F := F) c 13 ∗ T3 (F := F) c 14 ∗ T3 (F := F) c 15 ∗ T3 (F := F) c 16 ∗ T3 (F := F) c 17 ∗ T3 (F := F) c 18 ∗ T3 (F := F) c 19 ∗ T3 (F := F) c 20 ∗ T3 (F := F) c 21 ∗ T3 (F := F) c 22 ∗ T3 (F := F) c 23 ∗ T3 (F := F) c 24 ∗ T3 (F := F) c 25 ∗ T3 (F := F) c 26 ∗ T3 (F := F) c 27) ⊢ bigSep Finset.univ fun t : Fin 28 => T3 (F := F) c t := by
  rw [bigSep_univ_eq_bigSepL [0, 1, 2, 3, 4, 5, 6, 7, 8, 9, 10, 11, 12, 13, 14, 15, 16, 17, 18, 19, 20, 21, 22, 23, 24, 25, 26, 27] (by decide) (by decide)]
  exact .rfl

set_option maxHeartbeats 4000000 in
/-- The whole body, from what a device has at launch to what it has at the end. -/
theorem body_run (c : Dev nD) (W : Waits sig Unit) (Q : PUnit → sProp 𝕄) :
    iprop(Env m ρ K ∗ In0 m ρ c ∗ any c gM ∗ any c ownA ∗ any c ownB ∗ owes (c : Thread nD τ) (O0 c) W ∗ Bar c
        ∗ (bigSep Finset.univ fun t : Fin 28 => T0 (F := F) c t) ∗ any c zwA ∗ any c zwB
        ∗ outAny c (rowA c + k2 c) 128 0 ∗ outAny c (rowB c + k2 c) 128 1 ∗ (Done m ρ c -∗ Q ⟨⟩))
      ⊢ Run c (on (cc0_body (F := F))) Q := by
  simp only [on, cc0_body_eq_skeleton]
  unfold cc0_body_skel
  unfold Run; rw [wp_bind]
  refine part47_run c _ fun v19 v36 v20 v24 v29 v32 v35 => ?_
  iintro ⟨#HE, HI, Hg, HoA, HoB, HO, HB, HT, HzA, HzB, HqA, HqB, Hk⟩
  unfold progA
  iapply (segA (m := m) (ρ := ρ) (K := K) c W v19 v36 v20 v24 v29 v32 v35 (fun a b d => progB c v20 v24 v29 v32 v35 a b d))
  isplitr; · iexact HE
  isplitl [HI]; · iexact HI
  isplitl [Hg]; · iexact Hg
  isplitl [HoA]; · iexact HoA
  isplitl [HoB]; · iexact HoB
  isplitl [HO]; · iexact HO
  isplitl [HB]; · iexact HB
  isplitl [HT]; · iexact HT
  iintro ⟨HI, Hr, Hi, HT0, HoB, Hbar, Htodo, HO⟩ %v54 %v58 %v61
  unfold progB
  iapply (segB (m := m) (ρ := ρ) (K := K) c v20 v24 v29 (progC c v20 v29 v24 v32 v35 v54 v58 v61))
  isplitr; · iexact HE
  isplitl [HI]; · iexact HI
  isplitl [HT0]; · iexact HT0
  isplitl [HoB]; · iexact HoB
  isplitl [Htodo]; · iexact Htodo
  isplitl [HO]; · iexact HO
  iintro ⟨HI, HT0, HT1, HoA, HoB, HA0, HB0, Htodo, HO⟩
  unfold progC
  iapply (segC (m := m) (ρ := ρ) (K := K) c v20 v24 v29 (progD c v20 v29 v24 v32 v35 v54 v58 v61))
  isplitr; · iexact HE
  isplitl [HI]; · iexact HI
  isplitl [HA0]; · iexact HA0
  isplitl [HB0]; · iexact HB0
  isplitl [Htodo]; · iexact Htodo
  isplitl [HO]; · iexact HO
  iintro ⟨HI, HT2, HT3, HA0, HB0, HT4, HB1, Htodo, HO⟩
  unfold progD
  iapply (segD (m := m) (ρ := ρ) (K := K) c v20 v24 v29 v32 (fun a b d => progE c v32 v35 v54 d v58 a b v61 v20 v24 v29))
  isplitr; · iexact HE
  isplitl [HI]; · iexact HI
  isplitl [HT4]; · iexact HT4
  isplitl [HB1]; · iexact HB1
  isplitl [HzA]; · iexact HzA
  isplitl [HzB]; · iexact HzB
  isplitl [Htodo]; · iexact Htodo
  isplitl [HO]; · iexact HO
  iintro ⟨HI, HT4, HT5, HA1, HB1, HA2, HB2, HzA, HzB, Htodo, HO⟩ %a %b %d
  unfold progE
  iapply (segE (m := m) (ρ := ρ) (K := K) c v32 v35 v54 d v58 a b (fun x y => progF c v32 v35 v61 a x y b v20 v24 v29))
  isplitr; · iexact HE
  isplitl [HzA]; · iexact HzA
  isplitl [HzB]; · iexact HzB
  isplitl [HqA]; · iexact HqA
  isplitl [HqB]; · iexact HqB
  isplitl [Htodo]; · iexact Htodo
  isplitl [HO]; · iexact HO
  iintro ⟨HT6, HT7, HT8, HT9, HT10, HT11, HT12, HzA, HzB, H1A, H1B, H2A, H2B, HqB, Htodo, HO⟩ %a34 %b34
  unfold progF
  iapply (segF (m := m) (ρ := ρ) (K := K) c v32 v35 v61 a a34 b34 b (progG c v20 v24 v29))
  isplitr; · iexact HE
  isplitl [HT10]; · iexact HT10
  isplitl [HT11]; · iexact HT11
  isplitl [HT12]; · iexact HT12
  isplitl [HqB]; · iexact HqB
  isplitl [Htodo]; · iexact Htodo
  isplitl [HO]; · iexact HO
  iintro ⟨HT10, HT11, HT12, HT13, HT14, HT15, HP0, HP1, HP2, HP3, HP4, HP5, HP6, Htodo, HO⟩
  unfold progG
  iapply (segG (m := m) (ρ := ρ) (K := K) c v20 v24 v29 (fun x y => progH c v24 v29 x y))
  isplitr; · iexact HE
  isplitl [HT15]; · iexact HT15
  isplitl [HP0]; · iexact HP0
  isplitl [HP1]; · iexact HP1
  isplitl [HP2]; · iexact HP2
  isplitl [HP3]; · iexact HP3
  isplitl [HP4]; · iexact HP4
  isplitl [HP5]; · iexact HP5
  isplitl [HP6]; · iexact HP6
  isplitl [Htodo]; · iexact Htodo
  isplitl [HO]; · iexact HO
  iintro ⟨HT15, HT16, HT17, HT18, HT19, HT20, HT21, HT22, HT23, HS16, HS17, HS18, HS19, Htodo, HO⟩ %a42 %b42
  unfold progH
  iapply (segH (m := m) (ρ := ρ) (K := K) c v24 v29 a42 b42 (progT c))
  isplitr; · iexact HE
  isplitl [HT20]; · iexact HT20
  isplitl [HT21]; · iexact HT21
  isplitl [HT22]; · iexact HT22
  isplitl [HT23]; · iexact HT23
  isplitl [Htodo]; · iexact Htodo
  isplitl [HO]; · iexact HO
  iintro ⟨HT20, HT21, HT22, HT23, HT24, HT25, HT26, HT27, HS20, HS21, HS22, HS23, HS24, HS25, HS26, HR24, HR25, HR26, Htodo, HO⟩
  unfold progT
  simp only [Prog.lift, Prog.bind_op, Prog.bind_ret, Prog.pure_eq_ret]
  iapply (waitS (m := m) (ρ := ρ) (K := K) c 27 28 rfl (cred _ (cr_256 27 (by decide)))) $$ [HT27 HO]
  · isplitr; · iexact HE
    isplitl [HT27]; · iexact HT27
    iexact HO
  iintro ⟨HT27, HS27, HO⟩
  ihave HS27 := (sent_27 (m := m) (ρ := ρ) c) $$ HS27
  unfold Run; rw [wp_ret]; imodintro
  iapply (waitR (m := m) (ρ := ρ) (K := K) c 27 28 rfl (by decide) (cred _ (cr_256 27 (by decide)))) $$ [HT27 HO]
  · isplitr; · iexact HE
    isplitl [HT27]; · iexact HT27
    iexact HO
  iintro ⟨HT27, HR27, HO⟩
  ihave HR27 := (got_27 (m := m) (ρ := ρ) c) $$ HR27
  unfold Run; rw [wp_ret]; imodintro
  ihave HwA := (whole_A (m := m) (ρ := ρ) c) $$ [HS16 HS18 HS20 HS22 HS24 HS26 HR24 HR26]
  · isplitl [HS16]; · iexact HS16
    isplitl [HS18]; · iexact HS18
    isplitl [HS20]; · iexact HS20
    isplitl [HS22]; · iexact HS22
    isplitl [HS24]; · iexact HS24
    isplitl [HS26]; · iexact HS26
    isplitl [HR24]; · iexact HR24
    iexact HR26
  ihave HwB := (whole_B (m := m) (ρ := ρ) c) $$ [HS17 HS19 HS21 HS23 HS25 HS27 HR25 HR27]
  · isplitl [HS17]; · iexact HS17
    isplitl [HS19]; · iexact HS19
    isplitl [HS21]; · iexact HS21
    isplitl [HS23]; · iexact HS23
    isplitl [HS25]; · iexact HS25
    isplitl [HS27]; · iexact HS27
    isplitl [HR25]; · iexact HR25
    iexact HR27
  iapply Hk
  unfold Done
  isplitl [HI]; · iexact HI
  isplitl [Hr]; · iexact Hr
  isplitl [Hi]; · iexact Hi
  isplitl [HT0 HT1 HT2 HT3 HT4 HT5 HT6 HT7 HT8 HT9 HT10 HT11 HT12 HT13 HT14 HT15 HT16 HT17 HT18 HT19 HT20 HT21 HT22 HT23 HT24 HT25 HT26 HT27]
  · iapply (T3_all (F := F) c)
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    isplitl [HT7]; · iexact HT7
    isplitl [HT8]; · iexact HT8
    isplitl [HT9]; · iexact HT9
    isplitl [HT10]; · iexact HT10
    isplitl [HT11]; · iexact HT11
    isplitl [HT12]; · iexact HT12
    isplitl [HT13]; · iexact HT13
    isplitl [HT14]; · iexact HT14
    isplitl [HT15]; · iexact HT15
    isplitl [HT16]; · iexact HT16
    isplitl [HT17]; · iexact HT17
    isplitl [HT18]; · iexact HT18
    isplitl [HT19]; · iexact HT19
    isplitl [HT20]; · iexact HT20
    isplitl [HT21]; · iexact HT21
    isplitl [HT22]; · iexact HT22
    isplitl [HT23]; · iexact HT23
    isplitl [HT24]; · iexact HT24
    isplitl [HT25]; · iexact HT25
    isplitl [HT26]; · iexact HT26
    iexact HT27
  isplitl [HoA]; · iexact HoA
  isplitl [HoB]; · iexact HoB
  isplitl [HA0]; · iexact HA0
  isplitl [HA1]; · iexact HA1
  isplitl [HA2]; · iexact HA2
  isplitl [HB0]; · iexact HB0
  isplitl [HB1]; · iexact HB1
  isplitl [HB2]; · iexact HB2
  isplitl [HzA]; · iexact HzA
  isplitl [HzB]; · iexact HzB
  isplitl [H1A]; · iexact H1A
  isplitl [H1B]; · iexact H1B
  isplitl [H2A]; · iexact H2A
  isplitl [H2B]; · iexact H2B
  isplitl [HO]; · iexact HO
  isplitl [Hbar]; · iexact Hbar
  isplitl [HwA]; · iexact HwA
  iexact HwB

end Body

end Cert.KernelIdeal.Moe

end
-- ==== Proof.Deal.lean ====
/-
What each device has at launch, dealt out to the devices whose transfers land in it.
-/
module

public import proofs.«01_k».proof.Proof.Body

@[expose] public section

set_option maxRecDepth 20000
set_option maxHeartbeats 1000000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

section Slots

/-- The slots of a landing buffer, as parts of it. -/
abbrev rSlot (k : ℕ) (h : ∀ a, (![k, 0, 0] : Fin 3 → ℕ) a + S1x512x512.size a ≤ S3x512x512.size a) : Rect S3x512x512 :=
  Rect.unit (s := S3x512x512) ![k, 0, 0] S1x512x512.size h

theorem rSlot_mem {k : ℕ} {h} {i : S3x512x512.Idx} : Iff (i ∈ (rSlot k h).set) ((i 0).val = k) := by
  rw [Rect.mem_set_unit]
  have h1 : (i 1).val < 512 := (i 1).isLt
  have h2 : (i 2).val < 512 := (i 2).isLt
  constructor
  · intro H
    have a : k ≤ (i 0).val := (H 0).1
    have b : (i 0).val < k + 1 := (H 0).2
    omega
  · intro e a
    match a with
    | 0 => exact ⟨le_of_eq e.symm, show (i 0).val < k + 1 by omega⟩
    | 1 => exact ⟨Nat.zero_le _, show (i 1).val < 0 + 512 by omega⟩
    | 2 => exact ⟨Nat.zero_le _, show (i 2).val < 0 + 512 by omega⟩

theorem rSlot_cover {h0 h1 h2} : (Finset.univ : Finset S3x512x512.Idx) = (rSlot 0 h0).set ∪ ((rSlot 1 h1).set ∪ (rSlot 2 h2).set) := by
  ext i
  have h3 : (i 0).val < 3 := (i 0).isLt
  simp only [Finset.mem_union, rSlot_mem, Finset.mem_univ, _root_.true_iff]
  omega
theorem rSlot_disjoint {j k : ℕ} {h h'} (hjk : j ≠ k) : Disjoint (rSlot j h).set (rSlot k h').set :=
  Finset.disjoint_left.mpr fun i hi hi' => hjk ((rSlot_mem.mp hi).symm.trans (rSlot_mem.mp hi'))

variable (Z : Memref sig .tc .vmem S3x512x512 .f32)

theorem slot0_set : (slot0 Z).view.set = Z.view.setOn (rSlot 0 inb_S3x512x512_S1x512x512_0_0_0).set := (View.set_reshape _ _).trans (View.set_slice _ _)
theorem slot1_set : (slot1 Z).view.set = Z.view.setOn (rSlot 1 inb_S3x512x512_S1x512x512_1_0_0).set := (View.set_reshape _ _).trans (View.set_slice _ _)
theorem slot2_set : (slot2 Z).view.set = Z.view.setOn (rSlot 2 inb_S3x512x512_S1x512x512_2_0_0).set := (View.set_reshape _ _).trans (View.set_slice _ _)

theorem slots_set : Z.view.set = (slot0 Z).view.set ∪ ((slot1 Z).view.set ∪ (slot2 Z).view.set) := by
  rw [slot0_set, slot1_set, slot2_set, ← View.setOn_univ, rSlot_cover (h0 := inb_S3x512x512_S1x512x512_0_0_0) (h1 := inb_S3x512x512_S1x512x512_1_0_0) (h2 := inb_S3x512x512_S1x512x512_2_0_0)]
  exact (Finset.map_union _ _).trans (congrArg _ (Finset.map_union _ _))
theorem slots_disjoint12 : Disjoint (slot1 Z).view.set (slot2 Z).view.set := by
  rw [slot1_set, slot2_set]; exact (Finset.disjoint_map _).mpr (rSlot_disjoint (by decide))
theorem slots_disjoint0 : Disjoint (slot0 Z).view.set ((slot1 Z).view.set ∪ (slot2 Z).view.set) := by
  rw [slot0_set, slot1_set, slot2_set]
  exact Finset.disjoint_union_right.mpr ⟨(Finset.disjoint_map _).mpr (rSlot_disjoint (by decide)), (Finset.disjoint_map _).mpr (rSlot_disjoint (by decide))⟩

omit [FloatOps F] in
/-- A landing buffer is its three slots. -/
theorem slots_split (c : Dev nD) : any (F := F) c Z ⊢ (iprop(any c (slot0 Z) ∗ any c (slot1 Z) ∗ any c (slot2 Z)) : sProp 𝕄) := by
  conv_lhs => unfold any
  iintro ⟨%f, H⟩
  rw [slots_set]
  ihave H := (pointsTo_union (slots_disjoint0 Z)).1 $$ H
  icases H with ⟨H0, H⟩
  ihave H := (pointsTo_union (slots_disjoint12 Z)).1 $$ H
  icases H with ⟨H1, H2⟩
  unfold any
  isplitl [H0]; · iexists f; iexact H0
  isplitl [H1]; · iexists f; iexact H1
  iexists f; iexact H2

omit [FloatOps F] in
theorem slots_join (c : Dev nD) : (iprop(any c (slot0 Z) ∗ any c (slot1 Z) ∗ any c (slot2 Z)) : sProp 𝕄) ⊢ any (F := F) c Z := by
  conv_rhs => unfold any
  rw [slots_set]
  unfold any
  iintro ⟨⟨%f0, H0⟩, ⟨%f1, H1⟩, ⟨%f2, H2⟩⟩
  iexists _
  iapply (pointsTo_join (slots_disjoint0 Z))
  isplitl [H0]; · iexact H0
  iapply (pointsTo_join (slots_disjoint12 Z))
  isplitl [H1] <;> iassumption

omit [FloatOps F] in
/-- A whole buffer at any contents. -/
theorem any_whole (c : Dev nD) (b : Ref sig .tc) :
    (any c (Memref.whole b) : sProp 𝕄) = iprop(∃ f : Buf (Elt F) ((c : Thread nD τ).loc b), (c : Thread nD τ).loc b ↦{fullShare} f) := by
  unfold any; rw [View.set_whole]

end Slots

section Deal

theorem dst_back (t : Fin 28) (c : Dev nD) : dst t (back (dir t) c) = c := by revert t c; decide +kernel

omit [FloatOps F] in
theorem land_0 (c : Dev nD) : (any c (slot0 comA) : sProp 𝕄) ⊢ land (F := F) (back 0 c) 0 :=
  Entails.of_eq (congrArg (fun d : Dev nD => (any d (slot0 comA) : sProp 𝕄)) (dst_back 0 c).symm)
omit [FloatOps F] in
theorem land_1 (c : Dev nD) : (any c (slot0 comB) : sProp 𝕄) ⊢ land (F := F) (back 1 c) 1 :=
  Entails.of_eq (congrArg (fun d : Dev nD => (any d (slot0 comB) : sProp 𝕄)) (dst_back 1 c).symm)
omit [FloatOps F] in
theorem land_2 (c : Dev nD) : (any c (slot1 comA) : sProp 𝕄) ⊢ land (F := F) (back 0 c) 2 :=
  Entails.of_eq (congrArg (fun d : Dev nD => (any d (slot1 comA) : sProp 𝕄)) (dst_back 2 c).symm)
omit [FloatOps F] in
theorem land_3 (c : Dev nD) : (any c (slot1 comB) : sProp 𝕄) ⊢ land (F := F) (back 1 c) 3 :=
  Entails.of_eq (congrArg (fun d : Dev nD => (any d (slot1 comB) : sProp 𝕄)) (dst_back 3 c).symm)
omit [FloatOps F] in
theorem land_4 (c : Dev nD) : (any c (slot2 comA) : sProp 𝕄) ⊢ land (F := F) (back 0 c) 4 :=
  Entails.of_eq (congrArg (fun d : Dev nD => (any d (slot2 comA) : sProp 𝕄)) (dst_back 4 c).symm)
omit [FloatOps F] in
theorem land_5 (c : Dev nD) : (any c (slot2 comB) : sProp 𝕄) ⊢ land (F := F) (back 1 c) 5 :=
  Entails.of_eq (congrArg (fun d : Dev nD => (any d (slot2 comB) : sProp 𝕄)) (dst_back 5 c).symm)
omit [FloatOps F] in
theorem land_6 (c : Dev nD) : (any c z1A : sProp 𝕄) ⊢ land (F := F) (back 2 c) 6 :=
  Entails.of_eq (congrArg (fun d : Dev nD => (any d z1A : sProp 𝕄)) (dst_back 6 c).symm)
omit [FloatOps F] in
theorem land_7 (c : Dev nD) : (any c z1B : sProp 𝕄) ⊢ land (F := F) (back 2 c) 7 :=
  Entails.of_eq (congrArg (fun d : Dev nD => (any d z1B : sProp 𝕄)) (dst_back 7 c).symm)
omit [FloatOps F] in
theorem land_8 (c : Dev nD) : (any c z2A : sProp 𝕄) ⊢ land (F := F) (back 3 c) 8 :=
  Entails.of_eq (congrArg (fun d : Dev nD => (any d z2A : sProp 𝕄)) (dst_back 8 c).symm)
omit [FloatOps F] in
theorem land_9 (c : Dev nD) : (any c z2B : sProp 𝕄) ⊢ land (F := F) (back 3 c) 9 :=
  Entails.of_eq (congrArg (fun d : Dev nD => (any d z2B : sProp 𝕄)) (dst_back 9 c).symm)
omit [FloatOps F] in
theorem land_10 (c : Dev nD) : (outAny c (rowA (z2 c) + k2 (z2 c)) 128 0 : sProp 𝕄) ⊢ land (F := F) (back 3 c) 10 :=
  Entails.of_eq (congrArg (fun d : Dev nD => (outAny d (rowA (z2 c) + k2 (z2 c)) 128 0 : sProp 𝕄)) (dst_back 10 c).symm)
omit [FloatOps F] in
theorem land_11 (c : Dev nD) : (outAny c (rowA (z1 c) + k2 (z1 c)) 128 0 : sProp 𝕄) ⊢ land (F := F) (back 2 c) 11 :=
  Entails.of_eq (congrArg (fun d : Dev nD => (outAny d (rowA (z1 c) + k2 (z1 c)) 128 0 : sProp 𝕄)) (dst_back 11 c).symm)
omit [FloatOps F] in
theorem land_12 (c : Dev nD) : (outAny c (rowB (z2 c) + k2 (z2 c)) 128 1 : sProp 𝕄) ⊢ land (F := F) (back 3 c) 12 :=
  Entails.of_eq (congrArg (fun d : Dev nD => (outAny d (rowB (z2 c) + k2 (z2 c)) 128 1 : sProp 𝕄)) (dst_back 12 c).symm)
omit [FloatOps F] in
theorem land_13 (c : Dev nD) : (outAny c (rowB (z1 c) + k2 (z1 c)) 128 1 : sProp 𝕄) ⊢ land (F := F) (back 2 c) 13 :=
  Entails.of_eq (congrArg (fun d : Dev nD => (outAny d (rowB (z1 c) + k2 (z1 c)) 128 1 : sProp 𝕄)) (dst_back 13 c).symm)
omit [FloatOps F] in
theorem land_14 (c : Dev nD) : (outAny c (rowA (z1 c) + s2 (z1 c)) 128 0 : sProp 𝕄) ⊢ land (F := F) (back 2 c) 14 :=
  Entails.of_eq (congrArg (fun d : Dev nD => (outAny d (rowA (z1 c) + s2 (z1 c)) 128 0 : sProp 𝕄)) (dst_back 14 c).symm)
omit [FloatOps F] in
theorem land_15 (c : Dev nD) : (outAny c (rowB (z1 c) + s2 (z1 c)) 128 1 : sProp 𝕄) ⊢ land (F := F) (back 2 c) 15 :=
  Entails.of_eq (congrArg (fun d : Dev nD => (outAny d (rowB (z1 c) + s2 (z1 c)) 128 1 : sProp 𝕄)) (dst_back 15 c).symm)
omit [FloatOps F] in
theorem land_16 (c : Dev nD) : (outAny c (cA (lf c) 0) 256 0 : sProp 𝕄) ⊢ land (F := F) (back 0 c) 16 :=
  Entails.of_eq (congrArg (fun d : Dev nD => (outAny d (cA (lf c) 0) 256 0 : sProp 𝕄)) (dst_back 16 c).symm)
omit [FloatOps F] in
theorem land_17 (c : Dev nD) : (outAny c (cB (rt c) 0) 256 1 : sProp 𝕄) ⊢ land (F := F) (back 1 c) 17 :=
  Entails.of_eq (congrArg (fun d : Dev nD => (outAny d (cB (rt c) 0) 256 1 : sProp 𝕄)) (dst_back 17 c).symm)
omit [FloatOps F] in
theorem land_18 (c : Dev nD) : (outAny c (cA (lf c) 0 + 256) 256 0 : sProp 𝕄) ⊢ land (F := F) (back 0 c) 18 :=
  Entails.of_eq (congrArg (fun d : Dev nD => (outAny d (cA (lf c) 0 + 256) 256 0 : sProp 𝕄)) (dst_back 18 c).symm)
omit [FloatOps F] in
theorem land_19 (c : Dev nD) : (outAny c (cB (rt c) 0 + 256) 256 1 : sProp 𝕄) ⊢ land (F := F) (back 1 c) 19 :=
  Entails.of_eq (congrArg (fun d : Dev nD => (outAny d (cB (rt c) 0 + 256) 256 1 : sProp 𝕄)) (dst_back 19 c).symm)
omit [FloatOps F] in
theorem land_20 (c : Dev nD) : (outAny c (cA (lf c) 1) 256 0 : sProp 𝕄) ⊢ land (F := F) (back 0 c) 20 :=
  Entails.of_eq (congrArg (fun d : Dev nD => (outAny d (cA (lf c) 1) 256 0 : sProp 𝕄)) (dst_back 20 c).symm)
omit [FloatOps F] in
theorem land_21 (c : Dev nD) : (outAny c (cB (rt c) 1) 256 1 : sProp 𝕄) ⊢ land (F := F) (back 1 c) 21 :=
  Entails.of_eq (congrArg (fun d : Dev nD => (outAny d (cB (rt c) 1) 256 1 : sProp 𝕄)) (dst_back 21 c).symm)
omit [FloatOps F] in
theorem land_22 (c : Dev nD) : (outAny c (cA (lf c) 1 + 256) 256 0 : sProp 𝕄) ⊢ land (F := F) (back 0 c) 22 :=
  Entails.of_eq (congrArg (fun d : Dev nD => (outAny d (cA (lf c) 1 + 256) 256 0 : sProp 𝕄)) (dst_back 22 c).symm)
omit [FloatOps F] in
theorem land_23 (c : Dev nD) : (outAny c (cB (rt c) 1 + 256) 256 1 : sProp 𝕄) ⊢ land (F := F) (back 1 c) 23 :=
  Entails.of_eq (congrArg (fun d : Dev nD => (outAny d (cB (rt c) 1 + 256) 256 1 : sProp 𝕄)) (dst_back 23 c).symm)
omit [FloatOps F] in
theorem land_24 (c : Dev nD) : (outAny c (cA (lf c) 2) 256 0 : sProp 𝕄) ⊢ land (F := F) (back 0 c) 24 :=
  Entails.of_eq (congrArg (fun d : Dev nD => (outAny d (cA (lf c) 2) 256 0 : sProp 𝕄)) (dst_back 24 c).symm)
omit [FloatOps F] in
theorem land_25 (c : Dev nD) : (outAny c (cB (rt c) 2) 256 1 : sProp 𝕄) ⊢ land (F := F) (back 1 c) 25 :=
  Entails.of_eq (congrArg (fun d : Dev nD => (outAny d (cB (rt c) 2) 256 1 : sProp 𝕄)) (dst_back 25 c).symm)
omit [FloatOps F] in
theorem land_26 (c : Dev nD) : (outAny c (cA (lf c) 2 + 256) 256 0 : sProp 𝕄) ⊢ land (F := F) (back 0 c) 26 :=
  Entails.of_eq (congrArg (fun d : Dev nD => (outAny d (cA (lf c) 2 + 256) 256 0 : sProp 𝕄)) (dst_back 26 c).symm)
omit [FloatOps F] in
theorem land_27 (c : Dev nD) : (outAny c (cB (rt c) 2 + 256) 256 1 : sProp 𝕄) ⊢ land (F := F) (back 1 c) 27 :=
  Entails.of_eq (congrArg (fun d : Dev nD => (outAny d (cB (rt c) 2 + 256) 256 1 : sProp 𝕄)) (dst_back 27 c).symm)
/-- Half A of the result, dealt out. -/
theorem deal_A (c : Dev nD) (f : Buf (Elt F) ((c : Thread nD τ).loc cc0_stg4_0)) :
    ((c : Thread nD τ).loc cc0_stg4_0 ↦[box 0 2048 0]{fullShare} f : sProp 𝕄)
      ⊢ iprop(outAny c (rowA c + k2 c) 128 0 ∗ outAny c (rowA (z2 c) + k2 (z2 c)) 128 0 ∗ outAny c (rowA (z1 c) + k2 (z1 c)) 128 0 ∗ outAny c (rowA (z1 c) + s2 (z1 c)) 128 0 ∗ outAny c (cA (lf c) 0) 256 0 ∗ outAny c (cA (lf c) 0 + 256) 256 0 ∗ outAny c (cA (lf c) 1) 256 0 ∗ outAny c (cA (lf c) 1 + 256) 256 0 ∗ outAny c (cA (lf c) 2) 256 0 ∗ outAny c (cA (lf c) 2 + 256) 256 0) := by
  rw [ten_A, bigSep_univ_eq_bigSepL [0, 1, 2, 3, 4, 5, 6, 7, 8, 9] (by decide) (by decide)]
  show iprop(((c : Thread nD τ).loc cc0_stg4_0 ↦[box (rowA c + k2 c) 128 0]{fullShare} f) ∗ ((c : Thread nD τ).loc cc0_stg4_0 ↦[box (rowA (z2 c) + k2 (z2 c)) 128 0]{fullShare} f) ∗ ((c : Thread nD τ).loc cc0_stg4_0 ↦[box (rowA (z1 c) + k2 (z1 c)) 128 0]{fullShare} f) ∗ ((c : Thread nD τ).loc cc0_stg4_0 ↦[box (rowA (z1 c) + s2 (z1 c)) 128 0]{fullShare} f) ∗ ((c : Thread nD τ).loc cc0_stg4_0 ↦[box (cA (lf c) 0) 256 0]{fullShare} f) ∗ ((c : Thread nD τ).loc cc0_stg4_0 ↦[box (cA (lf c) 0 + 256) 256 0]{fullShare} f) ∗ ((c : Thread nD τ).loc cc0_stg4_0 ↦[box (cA (lf c) 1) 256 0]{fullShare} f) ∗ ((c : Thread nD τ).loc cc0_stg4_0 ↦[box (cA (lf c) 1 + 256) 256 0]{fullShare} f) ∗ ((c : Thread nD τ).loc cc0_stg4_0 ↦[box (cA (lf c) 2) 256 0]{fullShare} f) ∗ ((c : Thread nD τ).loc cc0_stg4_0 ↦[box (cA (lf c) 2 + 256) 256 0]{fullShare} f)) ⊢ _
  unfold outAny
  iintro ⟨H0, H1, H2, H3, H4, H5, H6, H7, H8, H9⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  isplitl [H7]; · iexists f; iexact H7
  isplitl [H8]; · iexists f; iexact H8
  iexists f; iexact H9

/-- Half B of the result, dealt out. -/
theorem deal_B (c : Dev nD) (f : Buf (Elt F) ((c : Thread nD τ).loc cc0_stg4_0)) :
    ((c : Thread nD τ).loc cc0_stg4_0 ↦[box 0 2048 1]{fullShare} f : sProp 𝕄)
      ⊢ iprop(outAny c (rowB c + k2 c) 128 1 ∗ outAny c (rowB (z2 c) + k2 (z2 c)) 128 1 ∗ outAny c (rowB (z1 c) + k2 (z1 c)) 128 1 ∗ outAny c (rowB (z1 c) + s2 (z1 c)) 128 1 ∗ outAny c (cB (rt c) 0) 256 1 ∗ outAny c (cB (rt c) 0 + 256) 256 1 ∗ outAny c (cB (rt c) 1) 256 1 ∗ outAny c (cB (rt c) 1 + 256) 256 1 ∗ outAny c (cB (rt c) 2) 256 1 ∗ outAny c (cB (rt c) 2 + 256) 256 1) := by
  rw [ten_B, bigSep_univ_eq_bigSepL [0, 1, 2, 3, 4, 5, 6, 7, 8, 9] (by decide) (by decide)]
  show iprop(((c : Thread nD τ).loc cc0_stg4_0 ↦[box (rowB c + k2 c) 128 1]{fullShare} f) ∗ ((c : Thread nD τ).loc cc0_stg4_0 ↦[box (rowB (z2 c) + k2 (z2 c)) 128 1]{fullShare} f) ∗ ((c : Thread nD τ).loc cc0_stg4_0 ↦[box (rowB (z1 c) + k2 (z1 c)) 128 1]{fullShare} f) ∗ ((c : Thread nD τ).loc cc0_stg4_0 ↦[box (rowB (z1 c) + s2 (z1 c)) 128 1]{fullShare} f) ∗ ((c : Thread nD τ).loc cc0_stg4_0 ↦[box (cB (rt c) 0) 256 1]{fullShare} f) ∗ ((c : Thread nD τ).loc cc0_stg4_0 ↦[box (cB (rt c) 0 + 256) 256 1]{fullShare} f) ∗ ((c : Thread nD τ).loc cc0_stg4_0 ↦[box (cB (rt c) 1) 256 1]{fullShare} f) ∗ ((c : Thread nD τ).loc cc0_stg4_0 ↦[box (cB (rt c) 1 + 256) 256 1]{fullShare} f) ∗ ((c : Thread nD τ).loc cc0_stg4_0 ↦[box (cB (rt c) 2) 256 1]{fullShare} f) ∗ ((c : Thread nD τ).loc cc0_stg4_0 ↦[box (cB (rt c) 2 + 256) 256 1]{fullShare} f)) ⊢ _
  unfold outAny
  iintro ⟨H0, H1, H2, H3, H4, H5, H6, H7, H8, H9⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  isplitl [H7]; · iexists f; iexact H7
  isplitl [H8]; · iexists f; iexact H8
  iexists f; iexact H9

/-- A device's result, landing and exchange buffers make up its own quarters of the result and what its neighbours are owed. -/
theorem deal (c : Dev nD) : iprop((∃ f : Buf (Elt F) ((c : Thread nD τ).loc cc0_stg4_0), (c : Thread nD τ).loc cc0_stg4_0 ↦{fullShare} f)
      ∗ any c comA ∗ any c comB ∗ any c z1A ∗ any c z1B ∗ any c z2A ∗ any c z2B)
    ⊢ (iprop(outAny c (rowA c + k2 c) 128 0 ∗ outAny c (rowB c + k2 c) 128 1
      ∗ barPay (back 0 c) 0 ∗ barPay (back 1 c) 1 ∗ barPay (back 2 c) 2 ∗ barPay (back 3 c) 3) : sProp 𝕄) := by
  rw [barPay_0, barPay_1, barPay_2, barPay_3]
  iintro ⟨⟨%f, Ho⟩, HA, HB, H6, H7, H8, H9⟩
  ihave Ho := (halves c f).1 $$ Ho
  icases Ho with ⟨HoA, HoB⟩
  ihave HoA := (deal_A c f) $$ HoA
  ihave HoB := (deal_B c f) $$ HoB
  icases HoA with ⟨HqA, H10, H11, H14, H16, H18, H20, H22, H24, H26⟩
  icases HoB with ⟨HqB, H12, H13, H15, H17, H19, H21, H23, H25, H27⟩
  ihave HA := (slots_split comA c) $$ HA
  ihave HB := (slots_split comB c) $$ HB
  icases HA with ⟨H0, H2, H4⟩
  icases HB with ⟨H1, H3, H5⟩
  isplitl [HqA]; · iexact HqA
  isplitl [HqB]; · iexact HqB
  isplitl [H0 H2 H4 H16 H18 H20 H22 H24 H26]
  · isplitl [H0]; · iapply (land_0 c); iexact H0
    isplitl [H2]; · iapply (land_2 c); iexact H2
    isplitl [H4]; · iapply (land_4 c); iexact H4
    isplitl [H16]; · iapply (land_16 c); iexact H16
    isplitl [H18]; · iapply (land_18 c); iexact H18
    isplitl [H20]; · iapply (land_20 c); iexact H20
    isplitl [H22]; · iapply (land_22 c); iexact H22
    isplitl [H24]; · iapply (land_24 c); iexact H24
    iapply (land_26 c); iexact H26
  isplitl [H1 H3 H5 H17 H19 H21 H23 H25 H27]
  · isplitl [H1]; · iapply (land_1 c); iexact H1
    isplitl [H3]; · iapply (land_3 c); iexact H3
    isplitl [H5]; · iapply (land_5 c); iexact H5
    isplitl [H17]; · iapply (land_17 c); iexact H17
    isplitl [H19]; · iapply (land_19 c); iexact H19
    isplitl [H21]; · iapply (land_21 c); iexact H21
    isplitl [H23]; · iapply (land_23 c); iexact H23
    isplitl [H25]; · iapply (land_25 c); iexact H25
    iapply (land_27 c); iexact H27
  isplitl [H6 H7 H11 H13 H14 H15]
  · isplitl [H6]; · iapply (land_6 c); iexact H6
    isplitl [H7]; · iapply (land_7 c); iexact H7
    isplitl [H11]; · iapply (land_11 c); iexact H11
    isplitl [H13]; · iapply (land_13 c); iexact H13
    isplitl [H14]; · iapply (land_14 c); iexact H14
    iapply (land_15 c); iexact H15
  isplitl [H8]; · iapply (land_8 c); iexact H8
  isplitl [H9]; · iapply (land_9 c); iexact H9
  isplitl [H10]; · iapply (land_10 c); iexact H10
  iapply (land_12 c); iexact H12

end Deal

end Cert.KernelIdeal.Moe

end
-- ==== Proof.Ghost.lean ====
/-
The ghost state of the launch: the cells of all devices, their tokens dealt to the devices that pay them, the credits.
-/
module

public import proofs.«01_k».proof.Proof.Deal
public import Idealize.ShloMosaic.Lib.Pipeline.Launch
public import Idealize.ShloMosaic.Lib.Pipeline.Kit

@[expose] public section

set_option maxRecDepth 20000
set_option maxHeartbeats 1000000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The transfers' semaphores, the send ones and the receive ones. -/
def osem (x : Bool × Fin 28) : SemLoc sig := csem (some x)

/-! ## Separating conjunctions over the cells of a device -/

section Sums
variable {M : Type} [URA M]

theorem sep_pairs (Φ : Bool × Fin 28 → sProp M) :
    bigSep Finset.univ Φ = iprop((bigSep Finset.univ fun t => Φ (false, t)) ∗ bigSep Finset.univ fun t => Φ (true, t)) := by
  rw [BI.bigSep_univ_prod, bigSep_univ_eq_bigSepL [false, true] (by decide) (by decide)]; rfl

theorem sep_cells (Φ : CI → sProp M) : bigSep Finset.univ Φ = iprop(Φ none ∗ bigSep Finset.univ fun x => Φ (some x)) := by
  have e : (Finset.univ : Finset CI) = insert none (Finset.univ.map Function.Embedding.some) := by
    ext x; cases x <;> simp
  rw [e, bigSep_insert (by simp), bigSep_map]; rfl

/-- What is indexed by devices and a second index, moved for each value of the second along a permutation of the devices. -/
theorem sep_move {A : Type} [Fintype A] (Φ : Dev nD → A → sProp M) (e : A → Dev nD ≃ Dev nD) :
    (bigSep Finset.univ fun c => bigSep Finset.univ fun a => Φ c a) = bigSep Finset.univ fun c => bigSep Finset.univ fun a => Φ (e a c) a := by
  rw [BI.bigSep_univ_comm, BI.bigSep_univ_comm (fun c a => Φ (e a c) a)]
  exact bigSep_congr fun a _ => BI.bigSep_univ_equiv (e a) (fun c => Φ c a)

theorem sep_fours (Φ : Fin 4 → sProp M) : bigSep Finset.univ Φ = iprop(Φ 0 ∗ Φ 1 ∗ Φ 2 ∗ Φ 3) :=
  bigSep_univ_eq_bigSepL [0, 1, 2, 3] (by decide) (by decide) Φ

end Sums

/-! ## The cells and tokens minted -/

def theCells : Finset (GSem nD τ sig) := Finset.univ.map ⟨fun p : Dev nD × CI => kcell p.1 p.2, kcell_injective⟩

/-- The token of a cell of device `p.1`: the barrier's of one signal, or a transfer semaphore's. -/
def tokOf (p : Dev nD × (Fin 4 ⊕ (Bool × Fin 28))) : GSem nD τ sig × ℕ × Fin 4 := match p.2 with
  | .inl d => (barCell p.1, 0, d)
  | .inr x => (kcell p.1 (some x), 0, 0)

theorem tokOf_injective : Function.Injective tokOf := by
  rintro ⟨c, a⟩ ⟨c', b⟩ h
  have h1 := congrArg Prod.fst h
  have h2 := congrArg (fun x => x.2.2) h
  rcases a with d | x <;> rcases b with d' | x' <;> dsimp only [tokOf] at h1 h2
  · have h3 := kcell_injective (a₁ := (c, none)) (a₂ := (c', none)) h1
    rw [(Prod.mk.inj h3).1, h2]
  · have h3 := kcell_injective (a₁ := (c, none)) (a₂ := (c', some x')) h1
    exact absurd (Prod.mk.inj h3).2 (by simp)
  · have h3 := kcell_injective (a₁ := (c, some x)) (a₂ := (c', none)) h1
    exact absurd (Prod.mk.inj h3).2 (by simp)
  · have h3 := kcell_injective (a₁ := (c, some x)) (a₂ := (c', some x')) h1
    rw [(Prod.mk.inj h3).1, Option.some.inj (Prod.mk.inj h3).2]

def theToks : Finset (GSem nD τ sig × ℕ × Fin 4) := Finset.univ.map ⟨tokOf, tokOf_injective⟩

def u₀ : UU := (initOf (Pipeline.cells cfgs cellOf_inj) (Pipeline.launchToks cfgs cellOf_inj), initOf theCells theToks)

/-- The tokens of a device's own cells. -/
def toks (c : Dev nD) : sProp 𝕄 :=
  iprop((bigSep Finset.univ fun d : Fin 4 => dutyTok ER (barCell c) 0 d)
    ∗ (bigSep Finset.univ fun t : Fin 28 => dutyTok ER (sendCell c t) 0 0) ∗ bigSep Finset.univ fun t : Fin 28 => dutyTok ER (recvCell c t) 0 0)
/-- The tokens a device pays with. -/
def payToks (c : Dev nD) : sProp 𝕄 :=
  iprop((bigSep Finset.univ fun d : Fin 4 => dutyTok ER (barCell (back d c)) 0 d)
    ∗ (bigSep Finset.univ fun t : Fin 28 => dutyTok ER (sendCell c t) 0 0) ∗ bigSep Finset.univ fun t : Fin 28 => dutyTok ER (recvCell (dst t c) t) 0 0)

/-- What the launch deals a device first; -/
def G (c : Dev nD) : sProp 𝕄 :=
  iprop((bigSep Finset.univ fun k : CI => roundState ER (rd m ρ) (kcell c k) 0)
    ∗ (bigSep Finset.univ fun k : CI => iprop(atPos ER (kcell c k) 0 ∅ 0 ∗ reached ER (kcell c k) 0)) ∗ toks c)

/-- what holds of every cell, once its invariant is in place; -/
def records (K : Dev nD × CI → ℕ) : sProp 𝕄 :=
  iprop((bigSep Finset.univ fun p : Dev nD × CI => cellInv ER (rd m ρ) (K p) (kcell p.1 p.2))
    ∗ bigSep Finset.univ fun p : Dev nD × CI => reached ER (kcell p.1 p.2) 0)

instance records_persistent (K : Dev nD × CI → ℕ) : BI.Persistent (records m ρ K) := by unfold records; infer_instance

/-- its positions and the tokens it pays with. -/
def mine (c : Dev nD) : sProp 𝕄 := iprop((bigSep Finset.univ fun k : CI => atPos ER (kcell c k) 0 ∅ 0) ∗ payToks c)

/-- What a device starts from. -/
def G' (c : Dev nD) : sProp 𝕄 := iprop(∃ K, records m ρ K ∗ mine c)

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep',
    sep_move (fun (c : Dev nD) (d : Fin 4) => (dutyTok ER (barCell c) 0 d : sProp 𝕄)) (fun d => (turn d).symm),
    sep_move (fun (c : Dev nD) (t : Fin 28) => (dutyTok ER (recvCell c t) 0 0 : sProp 𝕄)) (fun t => turn (dir t))]
  rfl

theorem fund_all : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : CI => Φ (kcell c k) := by
    unfold theCells; rw [bigSep_map, BI.bigSep_univ_prod]; rfl
  have hT : bigSep theToks (fun x => (dutyTok ER x.1 x.2.1 x.2.2 : sProp 𝕄)) = bigSep Finset.univ fun c : Dev nD => toks c := by
    unfold theToks; rw [bigSep_map, BI.bigSep_univ_prod]
    refine bigSep_congr fun c _ => ?_
    rw [BI.bigSep_univ_sum, sep_pairs]; rfl
  iintro HX
  imod (Rounds.fund ER (rd m ρ) theCells theToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The semaphores -/

theorem ownSemFacts : Pipeline.OwnSemFacts cfg0.spec osem := by decide +kernel

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun x : Bool × Fin 28 => semVal (kcell c (some x)) 0 := rfl

omit [FloatOps F] in
/-- A device's transfer semaphores at zero. -/
theorem ownSems0_T3 (c : Dev nD) : (Pipeline.ownSems0 (Ix := Unit) (Name := ℕ) (U := UU) (Lvl := ℕ) (Val := Elt F) (τ := τ) osem c : sProp 𝕄)
    = bigSep Finset.univ fun t : Fin 28 => T3 (F := F) c t := by
  unfold T3; rw [ownSems0_eq, sep_pairs, bigSep_sep']

omit [FloatOps F] in
/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell c k) 0 : sProp 𝕄) := by
  rw [ownSems0_eq, unscopedSems0_eq, sep_cells]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (rd m ρ) κ (kcell c k)))
          ∗ (bigSep Finset.univ fun k : CI => iprop(atPos ER (kcell c k) 0 ∅ 0 ∗ reached ER (kcell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell c k) 0) ∗ bigSep Finset.univ fun k : CI => roundState ER (rd m ρ) (kcell c k) 0)
      ⊢ (|={Set.univ}=> bigSep Finset.univ fun k : CI => iprop(∃ κ : ℕ, cellInv ER (rd m ρ) κ (kcell c k)) : sProp 𝕄) from by
        rw [← bigSep_sep']
        exact (bigSep_mono fun k _ => (Rounds.body_intro ER (rd m ρ) (kcell c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem sep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) : iprop(records m ρ K ∗ mine c) ⊢ G' m ρ c := by
  unfold G'; iintro H; iexists K; iexact H

theorem regroup :
    (bigSep Finset.univ fun c : Dev nD => iprop((bigSep Finset.univ fun k : CI => iprop(∃ κ : ℕ, cellInv ER (rd m ρ) κ (kcell c k)))
          ∗ (bigSep Finset.univ fun k : CI => iprop(atPos ER (kcell c k) 0 ∅ 0 ∗ reached ER (kcell c k) 0)) ∗ toks c) : sProp 𝕄)
      ⊢ bigSep Finset.univ (G' m ρ) := by
  rw [bigSep_sep', bigSep_sep', ← BI.bigSep_univ_prod (fun p : Dev nD × CI => iprop(∃ κ : ℕ, cellInv ER (rd m ρ) κ (kcell p.1 p.2))),
    bigSep_congr (s := Finset.univ) (fun (c : Dev nD) _ => bigSep_sep' Finset.univ (fun k : CI => (atPos ER (kcell c k) 0 ∅ 0 : sProp 𝕄)) (fun k => reached ER (kcell c k) 0)),
    bigSep_sep', ← BI.bigSep_univ_prod (fun p : Dev nD × CI => (reached ER (kcell p.1 p.2) 0 : sProp 𝕄)), toks_around]
  iintro ⟨HI, ⟨Hat, #HR⟩, Htok⟩
  ihave HK := (BI.bigSep_exists_pi Finset.univ (fun (p : Dev nD × CI) (κ : ℕ) => (cellInv ER (rd m ρ) κ (kcell p.1 p.2) : sProp 𝕄))) $$ HI
  icases HK with ⟨%K, #HI⟩
  iapply (sep_with (R := records m ρ K) fun c _ => ghost_intro m ρ K c)
  isplitr
  · unfold records; isplitl; · iexact HI
    iexact HR
  · iapply (Entails.of_eq (bigSep_sep' Finset.univ (fun c : Dev nD => bigSep Finset.univ fun k : CI => (atPos ER (kcell c k) 0 ∅ 0 : sProp 𝕄)) payToks).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

omit [FloatOps F] in
theorem cred_4 (g : GSem nD τ sig) :
    iprop(Idealize.ShloMosaic.cred (tallyAt g () 1) ∗ Idealize.ShloMosaic.cred (tallyAt g () 1) ∗ Idealize.ShloMosaic.cred (tallyAt g () 1) ∗ Idealize.ShloMosaic.cred (tallyAt g () 1)) ⊢ (Idealize.ShloMosaic.cred (tallyAt g () 4) : sProp 𝕄) := by
  rw [show (tallyAt g () 4 : CellTallies nD τ sig Unit) = tallyAt g () 1 + (tallyAt g () 1 + (tallyAt g () 1 + tallyAt g () 1)) from by
    rw [tallyAt_add, tallyAt_add, tallyAt_add]]
  exact (sep_mono_right ((sep_mono_right (cred_add _ _).2).trans (cred_add _ _).2)).trans (cred_add _ _).2

omit [FloatOps F] in
theorem cred_recv (c : Dev nD) :
    (Pipeline.launchCred (fun d => O d 0) c : sProp 𝕄) ⊢ bigSep Finset.univ fun t : Fin 28 => Idealize.ShloMosaic.cred (tallyAt (recvCell c t) () (cr t)) := by
  rw [show (fun d : Dev nD => O d 0) = fun d => ∑ t ∈ (Finset.univ : Finset (Fin 28)), tallyAt (recvCell (dst t d) t) () (cr t) from funext fun d => by
    unfold O; exact Finset.sum_congr (by ext t; simp) fun _ _ => rfl,
    Pipeline.launchCred_sum Finset.univ (fun (t : Fin 28) (d : Dev nD) => tallyAt (recvCell (dst t d) t) () (cr t))]
  exact bigSep_mono fun t _ => Pipeline.launchCred_tallyAt (SemLoc.dma (recvS t)) (dst t) (back (dir t)) (go_back (dir t)) (back_go (dir t)) () (cr t) c

omit [FloatOps F] in
theorem cred_bar (i : Fin 4) (c : Dev nD) :
    (Pipeline.launchCred (fun d => tallyAt (barCell (back i d)) () 1) c : sProp 𝕄) ⊢ Idealize.ShloMosaic.cred (tallyAt (barCell c) () 1) :=
  Pipeline.launchCred_tallyAt (SemLoc.reg barS) (back i) (go i) (back_go i) (go_back i) () 1 c

omit [FloatOps F] in
theorem creds (c : Dev nD) :
    (Pipeline.launchCred O0 c : sProp 𝕄)
      ⊢ iprop(Idealize.ShloMosaic.cred (tallyAt (barCell c) () 4) ∗ bigSep Finset.univ fun t : Fin 28 => Idealize.ShloMosaic.cred (tallyAt (recvCell c t) () (cr t))) := by
  rw [show (O0 : Dev nD → CellTallies nD τ sig Unit) = fun d => (((O d 0 + tallyAt (barCell (back 3 d)) () 1) + tallyAt (barCell (back 2 d)) () 1)
      + tallyAt (barCell (back 1 d)) () 1) + tallyAt (barCell (back 0 d)) () 1 from rfl,
    Pipeline.launchCred_add (fun d => ((O d 0 + tallyAt (barCell (back 3 d)) () 1) + tallyAt (barCell (back 2 d)) () 1) + tallyAt (barCell (back 1 d)) () 1),
    Pipeline.launchCred_add (fun d => (O d 0 + tallyAt (barCell (back 3 d)) () 1) + tallyAt (barCell (back 2 d)) () 1),
    Pipeline.launchCred_add (fun d => O d 0 + tallyAt (barCell (back 3 d)) () 1), Pipeline.launchCred_add (fun d => O d 0)]
  iintro ⟨⟨⟨⟨HO, H3⟩, H2⟩, H1⟩, H0⟩
  isplitl [H3 H2 H1 H0]
  · iapply (cred_4 (F := F) (barCell c))
    isplitl [H3]; · iapply (cred_bar (F := F) 3 c); iexact H3
    isplitl [H2]; · iapply (cred_bar (F := F) 2 c); iexact H2
    isplitl [H1]; · iapply (cred_bar (F := F) 1 c); iexact H1
    iapply (cred_bar (F := F) 0 c); iexact H0
  iapply (cred_recv (F := F) c); iexact HO

end Cert.KernelIdeal.Moe

end
-- ==== Proof.Launch.lean ====
/-
The kernel launched on all devices, and what every buffer holds when it has ended.
-/
module

public import proofs.«01_k».proof.Proof.Ghost
public import Idealize.ShloMosaic.Lib.Pipeline.CollectiveSegs
public import Idealize.ShloMosaic.Lib.Pipeline.Launch
public import Idealize.ShloMosaic.Lib.Pipeline.Kit

@[expose] public section

set_option maxRecDepth 20000
set_option maxHeartbeats 1000000

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def pt0 : Fin cfg0.N := ⟨0, by rw [cfg0_N]; decide⟩
theorem fin_N (t : Fin cfg0.N) : t = pt0 := by
  obtain ⟨t, ht⟩ := t; have := cfg0_N; exact Fin.ext (by simp only [pt0]; omega)

/-- What a device's body starts from. -/
def start0 (c : Dev nD) : sProp 𝕄 :=
  iprop((∃ K, Env m ρ K) ∗ mine c ∗ Idealize.ShloMosaic.cred (tallyAt (barCell c) () 4)
    ∗ bigSep Finset.univ fun t : Fin 28 => Idealize.ShloMosaic.cred (tallyAt (recvCell c t) () (cr t)))

/-- A device's scratch buffers, whole, at any contents. -/
def scratch (c : Dev nD) : sProp 𝕄 :=
  iprop(any (F := F) c gM ∗ any c ownA ∗ any c ownB ∗ any c comA ∗ any c comB ∗ any c zwA ∗ any c zwB ∗ any c z1A ∗ any c z1B ∗ any c z2A ∗ any c z2B)

def Φ₀ (c : Dev nD) : sProp 𝕄 := iprop(start0 m ρ c ∗ scratch c)
def Φ₁ (c : Dev nD) : sProp 𝕄 := iprop(scratch (F := F) c ∗ (bigSep Finset.univ fun t : Fin 28 => T3 (F := F) c t) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => rin m ρ c
    | ⟨2, _⟩ => iin m ρ c
    | ⟨3, _⟩ => win m ρ c
    | ⟨4, _⟩ => res m ρ
  Φ t := match t with
    | ⟨0, _⟩ => Φ₀ m ρ c
    | ⟨_ + 1, _⟩ => Φ₁ c
  q _ := fullShare
  owed t := match t with
    | ⟨0, _⟩ => O0 c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- The tokens, positions and credits of a device, sorted by the transfer and the signal they serve. -/
theorem sorted (c : Dev nD) :
    iprop(mine c ∗ Idealize.ShloMosaic.cred (tallyAt (barCell c) () 4)
        ∗ bigSep Finset.univ fun t : Fin 28 => Idealize.ShloMosaic.cred (tallyAt (recvCell c t) () (cr t)))
      ⊢ (iprop((dutyTok ER (barCell (back 0 c)) 0 0 ∗ dutyTok ER (barCell (back 1 c)) 0 1 ∗ dutyTok ER (barCell (back 2 c)) 0 2 ∗ dutyTok ER (barCell (back 3 c)) 0 3)
        ∗ (atPos ER (barCell c) 0 ∅ 0 ∗ Idealize.ShloMosaic.cred (tallyAt (barCell c) () 4))
        ∗ bigSep Finset.univ fun t : Fin 28 => T0 (F := F) c t) : sProp 𝕄) := by
  unfold mine payToks T0
  rw [sep_cells, sep_pairs, sep_fours, bigSep_sep', bigSep_sep', bigSep_sep', bigSep_sep']
  iintro ⟨⟨⟨HaB, HaS, HaR⟩, Htb, HtS, HtR⟩, HcB, HcR⟩
  isplitl [Htb]; · iexact Htb
  isplitl [HaB HcB]
  · isplitl [HaB]; · iexact HaB
    iexact HcB
  isplitl [HtS HtR]
  · isplitl [HtS]; · iexact HtS
    iexact HtR
  isplitl [HaS]; · iexact HaS
  isplitl [HaR]; · iexact HaR
  iexact HcR

theorem scratch_back (c : Dev nD) :
    iprop(any (F := F) c gM ∗ any c ownA ∗ any c ownB ∗ (any c (slot0 comA) ∗ any c (slot1 comA) ∗ any c (slot2 comA))
        ∗ (any c (slot0 comB) ∗ any c (slot1 comB) ∗ any c (slot2 comB)) ∗ any c zwA ∗ any c zwB ∗ any c z1A ∗ any c z1B ∗ any c z2A ∗ any c z2B)
      ⊢ (scratch c : sProp 𝕄) := by
  unfold scratch
  exact sep_mono_right (sep_mono_right (sep_mono_right ((sep_mono_left (slots_join _ c)).trans (sep_mono_right (sep_mono_left (slots_join _ c))))))

/-- What the body is given and what it gives back, the staging buffers at their contents. -/
theorem sound_body (c : Dev nD) (W : Waits sig Unit) (Q : PUnit → sProp 𝕄) :
    iprop(Φ₀ m ρ c ∗ owes (c : Thread nD τ) (O0 c) W ∗ In0 m ρ c ∗ (∃ f : Buf (Elt F) ((c : Thread nD τ).loc cc0_stg4_0), (c : Thread nD τ).loc cc0_stg4_0 ↦{fullShare} f)
        ∗ ((Φ₁ c ∗ (∃ W, owes (c : Thread nD τ) 0 W) ∗ In0 m ρ c ∗ ((c : Thread nD τ).loc cc0_stg4_0 ↦{fullShare} res m ρ)) -∗ Q ⟨⟩))
      ⊢ Run c (on (cc0_body (F := F))) Q := by
  unfold Φ₀ start0
  conv_lhs => unfold scratch
  iintro ⟨⟨⟨⟨%K, #HE⟩, Hmine⟩, Hg, HoA, HoB, HcA, HcB, HzwA, HzwB, Hz1A, Hz1B, Hz2A, Hz2B⟩, HO, HI, Hout, Hk⟩
  ihave Hs := (sorted (F := F) c) $$ Hmine
  icases Hs with ⟨⟨Ht0, Ht1, Ht2, Ht3⟩, ⟨HaB, HcB4⟩, HT⟩
  ihave Hd := (deal (F := F) c) $$ [Hout HcA HcB Hz1A Hz1B Hz2A Hz2B]
  · isplitl [Hout]; · iexact Hout
    isplitl [HcA]; · iexact HcA
    isplitl [HcB]; · iexact HcB
    isplitl [Hz1A]; · iexact Hz1A
    isplitl [Hz1B]; · iexact Hz1B
    isplitl [Hz2A]; · iexact Hz2A
    iexact Hz2B
  icases Hd with ⟨HqA, HqB, Hp0, Hp1, Hp2, Hp3⟩
  iapply (body_run (m := m) (ρ := ρ) (K := K) c W Q)
  isplitr; · iexact HE
  isplitl [HI]; · iexact HI
  isplitl [Hg]; · iexact Hg
  isplitl [HoA]; · iexact HoA
  isplitl [HoB]; · iexact HoB
  isplitl [HO]; · iexact HO
  isplitl [Ht0 Ht1 Ht2 Ht3 Hp0 Hp1 Hp2 Hp3 HaB HcB4]
  · unfold Bar
    isplitl [Ht0 Hp0]
    · isplitl [Ht0]; · iexact Ht0
      iexact Hp0
    isplitl [Ht1 Hp1]
    · isplitl [Ht1]; · iexact Ht1
      iexact Hp1
    isplitl [Ht2 Hp2]
    · isplitl [Ht2]; · iexact Ht2
      iexact Hp2
    isplitl [Ht3 Hp3]
    · isplitl [Ht3]; · iexact Ht3
      iexact Hp3
    isplitl [HaB]; · iexact HaB
    iexact HcB4
  isplitl [HT]; · iexact HT
  isplitl [HzwA]; · iexact HzwA
  isplitl [HzwB]; · iexact HzwB
  isplitl [HqA]; · iexact HqA
  isplitl [HqB]; · iexact HqB
  unfold Done In outP Ow
  iintro ⟨⟨Hx, Hw, Hg⟩, Hr, Hi, HT, HoA, HoB, A0, A1, A2, B0, B1, B2, HzwA, HzwB, Hz1A, Hz1B, Hz2A, Hz2B, HO, Hbar, HrA, HrB⟩
  rw [O_end]
  iapply Hk
  isplitl [Hg HoA HoB A0 A1 A2 B0 B1 B2 HzwA HzwB Hz1A Hz1B Hz2A Hz2B HT Hbar]
  · unfold Φ₁
    isplitl [Hg HoA HoB A0 A1 A2 B0 B1 B2 HzwA HzwB Hz1A Hz1B Hz2A Hz2B]
    · iapply (scratch_back (F := F) c)
      isplitl [Hg]; · rw [any_whole]; iexists _; iexact Hg
      isplitl [HoA]; · iexact HoA
      isplitl [HoB]; · iexact HoB
      isplitl [A0 A1 A2]
      · isplitl [A0]; · iexact A0
        isplitl [A1]; · iexact A1
        iexact A2
      isplitl [B0 B1 B2]
      · isplitl [B0]; · iexact B0
        isplitl [B1]; · iexact B1
        iexact B2
      isplitl [HzwA]; · iexact HzwA
      isplitl [HzwB]; · iexact HzwB
      isplitl [Hz1A]; · iexact Hz1A
      isplitl [Hz1B]; · iexact Hz1B
      isplitl [Hz2A]; · iexact Hz2A
      iexact Hz2B
    isplitl [HT]; · iexact HT
    iexact Hbar
  isplitl [HO]; · iexact HO
  isplitl [Hx Hr Hi Hw]
  · unfold In0
    isplitl [Hx]; · iexact Hx
    isplitl [Hr]; · iexact Hr
    isplitl [Hi]; · iexact Hi
    iexact Hw
  iapply (halves c (res m ρ)).2
  isplitl [HrA]; · iexact HrA
  iexact HrB

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () pt0.castSucc
    ∗ (∃ d, stg c cc0_stg0_0 ((dats m ρ 0 c).before (0 : Fin 5) pt0 d))
    ∗ (∃ d, stg c cc0_stg1_0 ((dats m ρ 0 c).before (1 : Fin 5) pt0 d))
    ∗ (∃ d, stg c cc0_stg2_0 ((dats m ρ 0 c).before (2 : Fin 5) pt0 d))
    ∗ (∃ d, stg c cc0_stg3_0 ((dats m ρ 0 c).before (3 : Fin 5) pt0 d))
    ∗ (∃ d, stg c cc0_stg4_0 ((dats m ρ 0 c).before (4 : Fin 5) pt0 d)))
def bodyPost (c : Dev nD) : sProp 𝕄 :=
  iprop(Φ₁ c ∗ (dats m ρ 0 c).owesAt () pt0.succ ∗ stg c cc0_stg0_0 (xin m ρ c) ∗ stg c cc0_stg1_0 (rin m ρ c)
    ∗ stg c cc0_stg2_0 (iin m ρ c) ∗ stg c cc0_stg3_0 (win m ρ c) ∗ stg c cc0_stg4_0 (res m ρ))

theorem fetch_in (w : Fin 5) (h : w ≠ 4) : (cfg0.win w).fetch pt0 = true := by
  revert h; revert w; decide

theorem stg_whole (c : Dev nD) (b : Ref sig .tc) (X : b.ty.Contents (Elt F)) :
    (((c : Thread nD τ).loc b) ↦{fullShare} X) ⊢ (stg c b X : sProp 𝕄) := by
  iintro H; iexists X; isplitr
  · ipureintro; rfl
  iexact H

theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ Run c (on (cc0_body (F := F))) (fun _ => bodyPost m ρ c)
  unfold bodyPre
  iintro ⟨HΦ, Ho, ⟨%d0, %g0, %h0, Hx⟩, ⟨%d1, %g1, %h1, Hr⟩, ⟨%d2, %g2, %h2, Hi⟩, ⟨%d3, %g3, %h3, Hw⟩, ⟨%d4, %g4, %h4, Hout⟩⟩
  have e0 : g0 = xin m ρ c := by rw [h0]; unfold Dat.before; rw [if_pos (fetch_in 0 (by decide))]; rfl
  have e1 : g1 = rin m ρ c := by rw [h1]; unfold Dat.before; rw [if_pos (fetch_in 1 (by decide))]; rfl
  have e2 : g2 = iin m ρ c := by rw [h2]; unfold Dat.before; rw [if_pos (fetch_in 2 (by decide))]; rfl
  have e3 : g3 = win m ρ c := by rw [h3]; unfold Dat.before; rw [if_pos (fetch_in 3 (by decide))]; rfl
  subst e0 e1 e2 e3
  unfold Dat.owesAt Pipeline.owesWithin
  icases Ho with ⟨%W, %hW, HO⟩
  rw [show (dats m ρ 0 c).owed pt0.castSucc = O0 c from rfl]
  iapply (sound_body m ρ c W fun _ => bodyPost m ρ c)
  isplitl [HΦ]; · iexact HΦ
  isplitl [HO]; · iexact HO
  isplitl [Hx Hr Hi Hw]
  · unfold In0
    isplitl [Hx]; · iexact Hx
    isplitl [Hr]; · iexact Hr
    isplitl [Hi]; · iexact Hi
    iexact Hw
  isplitl [Hout]; · iexists _; iexact Hout
  unfold In0
  iintro ⟨HΦ, ⟨%W', HO⟩, ⟨Hx, Hr, Hi, Hw⟩, Hout⟩
  unfold bodyPost Dat.owesAt Pipeline.owesWithin
  rw [show (dats m ρ 0 c).owed pt0.succ = 0 from rfl]
  isplitl [HΦ]; · iexact HΦ
  isplitl [HO]
  · iexists W'
    isplitr; · ipureintro; exact fun _ _ => Or.inl trivial
    iexact HO
  isplitl [Hx]; · iapply (stg_whole c cc0_stg0_0); iexact Hx
  isplitl [Hr]; · iapply (stg_whole c cc0_stg1_0); iexact Hr
  isplitl [Hi]; · iapply (stg_whole c cc0_stg2_0); iexact Hi
  isplitl [Hw]; · iapply (stg_whole c cc0_stg3_0); iexact Hw
  iapply (stg_whole c cc0_stg4_0); iexact Hout

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' m ρ c)
      ⊢ |={Set.univ}=> iprop(start0 m ρ c ∗ emp) := by
  unfold G' start0 records
  iintro ⟨-, #Hlev, Hcr, -, ⟨%K, ⟨#HI, #HR⟩, Hm⟩⟩
  ihave Hc := (creds (F := F) c) $$ Hcr
  icases Hc with ⟨H4, HN⟩
  imodintro
  isplitl
  · isplitr
    · iexists K; unfold Env
      isplitr; · iexact HI
      isplitr; · iexact HR
      iexact Hlev
    isplitl [Hm]; · iexact Hm
    isplitl [H4]; · iexact H4
    iexact HN
  · iempintro

theorem scratch_eq (c : Dev nD) : (Pipeline.scopedRest cfg0.spec c : sProp 𝕄) = scratch c := by
  rw [scopedRest0_eq]; unfold scratch; simp only [any_whole]

theorem phi0_intro (c : Dev nD) :
    iprop(start0 m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, ownSems0_T3, unscopedSems0_eq]
  unfold Φ₁
  iintro ⟨Hr, HT, HB⟩
  isplitl [HB]; · iexact HB
  isplitl [HT]; · iexact HT
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-- What window `w`'s array holds on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every fair run of the sixteen devices ends, with every array at its final contents and
    every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start0 m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array is as it was. -/
theorem finalA_in (c : Dev nD) (w : Fin 5) (h : (cfg0.win w).isOut = false) :
    finalA m ρ c w = (s₀ m ρ).mem ((cfg0.win w).arr.view.loc (c : Thread nD τ)) :=
  (dats (F := F) m ρ 0 c).arrAt_in w h _

end Cert.KernelIdeal.Moe

end
-- ==== Proof.Frame.lean ====
/-
The frame of the kernel, and what the result array holds.
-/
module
public import proofs.«01_k».proof.Proof.Launch

@[expose] public section

noncomputable section

namespace Cert.KernelIdeal.Moe
open Cert.KernelIdeal Cert.KernelIdeal.Gen
open Idealize.ShloMosaic Idealize.ShloMosaic.TcCoe Idealize.SL.Sem
variable {F : FTy → Type} [FloatOps F]
variable (m : (ℓ : Loc nD τ sig) → Buf (Elt F) ℓ) (ρ : Dev nD → PrngReg)
/-- Every run ends with the arguments as they were and every counter at zero. -/
theorem frame_main : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c 0).trans (finalA_in m ρ c 0 rfl), (h.1 c 1).trans (finalA_in m ρ c 1 rfl),
    (h.1 c 2).trans (finalA_in m ρ c 2 rfl), (h.1 c 3).trans (finalA_in m ρ c 3 rfl)⟩, h.2⟩) (run_main m ρ)
/-- The result array ends, on every device, as `res`. -/
theorem finalA_out (c : Dev nD) : finalA m ρ c 4 = res m ρ := by
  have h : (win0_4.blk (0 : Fin 1)).view.read (Elt F) (finalA m ρ c (4 : Fin 5)) = res m ρ := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  refine Eq.trans ?_ h
  funext i
  rw [View.read_apply]
  refine congrArg _ ?_
  refine Eq.symm (funext fun a => Fin.ext ?_)
  show 0 * _ + 1 * (i a).val = (i a).val
  omega

/-- Every run ends with the result array of every device as `res` and the arguments as they were. -/
theorem value_main : θ_run defs (onTc (τ := τ) (main (F := F))) ⟨m, fun _ => 0, ρ⟩ (fun r => ∀ c : Dev nD,
    r.2.mem ((c.tc : Thread nD τ).loc main_v1) = res m ρ
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c 4).trans (finalA_out m ρ c), (h.1 c 0).trans (finalA_in m ρ c 0 rfl), (h.1 c 1).trans (finalA_in m ρ c 1 rfl),
    (h.1 c 2).trans (finalA_in m ρ c 2 rfl), (h.1 c 3).trans (finalA_in m ρ c 3 rfl)⟩) (run_main m ρ)

end Cert.KernelIdeal.Moe

end
-- ==== Proof.ValueHalf.lean ====
/-
What a device's partial sums hold, element by element, over the extended reals.
-/
module

public import proofs.«01_k».proof.Proof.Contents
public import Idealize.ShloMosaic.Lib.Pointwise
public import Idealize.ShloMosaic.PureOps.Ideal

@[expose] public section

noncomputable section

namespace Cert.KernelIdeal.Moe

open Cert.KernelIdeal Cert.KernelIdeal.Gen
open Idealize.ShloMosaic
open Idealize.ShloMosaic.TcCoe

/-- One expert's contribution at an element. -/
theorem stepV_apply (x : FVec Ideal S512x512 .f32) (g : Vec Ideal S512x1 .f32) (w : Vec Ideal S1x512x512 .f32)
    (acc : FVec Ideal S512x512 .f32) (i j : Fin 512) :
    stepV x g w acc (ix2 i j) = acc (ix2 i j) + ∑ d : Fin 512, (x (ix2 i d) * g (ix2 i (0 : Fin 1))) * w (ix3 (0 : Fin 1) d j) := by
  pointwise [stepV]

/-- Eight of them on nothing. -/
theorem halfV_apply (x : Vec Ideal S512x512 .f32) (g0 g1 g2 g3 g4 g5 g6 g7 : Vec Ideal S512x1 .f32)
    (w : Fin 8 → Vec Ideal S1x512x512 .f32) (i j : Fin 512) :
    halfV x g0 g1 g2 g3 g4 g5 g6 g7 w (ix2 i j)
      = ∑ e : Fin 8, ∑ d : Fin 512, (x (ix2 i d) * (![g0, g1, g2, g3, g4, g5, g6, g7] e) (ix2 i (0 : Fin 1))) * w e (ix3 (0 : Fin 1) d j) := by
  unfold halfV
  simp only [stepV_apply, Fin.sum_univ_eight]
  pointwise []

variable (m : (ℓ : Loc nD τ sig) → Buf (Elt Ideal) ℓ) (ρ : Dev nD → PrngReg)

/-! ## The reads -/

theorem xat_apply (c : Dev nD) (n : Nat) (h) (hn : n + 512 ≤ 2048) (i d : Fin 512) :
    xat m ρ c ![n, 0] h (ix2 i d) = xin m ρ c (ix2 (⟨n + i.val, by omega⟩ : Fin 2048) d) := by
  unfold xat
  rw [View.readAt_apply]
  refine congrArg _ (funext fun a => Fin.ext ?_)
  match a with
  | ⟨0, _⟩ => show n + 1 * i.val = n + i.val; omega
  | ⟨1, _⟩ => show 0 + 1 * d.val = d.val; omega

theorem gat_apply (c : Dev nD) (n e : Nat) (h) (hn : n + 512 ≤ 2048) (he : e < 8) (i : Fin 512) :
    gat m ρ c ![n, e] h (ix2 i (0 : Fin 1)) = gates m ρ c (ix2 (⟨n + i.val, by omega⟩ : Fin 2048) (⟨e, he⟩ : Fin 8)) := by
  unfold gat
  rw [View.readAt_apply]
  refine congrArg _ (funext fun a => Fin.ext ?_)
  match a with
  | ⟨0, _⟩ => show n + 1 * i.val = n + i.val; omega
  | ⟨1, _⟩ => show e + 1 * 0 = e; omega

theorem wat_apply (c : Dev nD) (e q : Nat) (h) (he : e < 8) (hq : q + 512 ≤ 1024) (d j : Fin 512) :
    wat m ρ c ![e, 0, q] h (ix3 (0 : Fin 1) d j) = win m ρ c (ix3 (⟨e, he⟩ : Fin 8) d (⟨q + j.val, by omega⟩ : Fin 1024)) := by
  unfold wat
  rw [View.readAt_apply]
  refine congrArg _ (funext fun a => Fin.ext ?_)
  match a with
  | ⟨0, _⟩ => show e + 1 * 0 = e; omega
  | ⟨1, _⟩ => show 0 + 1 * d.val = d.val; omega
  | ⟨2, _⟩ => show q + 1 * j.val = q + j.val; omega

theorem wL_apply (c : Dev nD) (e : Fin 8) (d j : Fin 512) :
    wL m ρ c e (ix3 (0 : Fin 1) d j) = win m ρ c (ix3 e d (⟨0 + j.val, by omega⟩ : Fin 1024)) := by
  fin_cases e <;> exact wat_apply m ρ c _ 0 _ (by decide) (by decide) d j

theorem wR_apply (c : Dev nD) (e : Fin 8) (d j : Fin 512) :
    wR m ρ c e (ix3 (0 : Fin 1) d j) = win m ρ c (ix3 e d (⟨512 + j.val, by omega⟩ : Fin 1024)) := by
  fin_cases e <;> exact wat_apply m ρ c _ 512 _ (by decide) (by decide) d j

/-! ## A device's part of a result element -/

/-- What device `c`'s eight experts give result element `(t, o)`. -/
def part (c : Dev nD) (t : Fin 2048) (o : Fin 1024) : EReal :=
  ∑ e : Fin 8, ∑ d : Fin 512, ((xin m ρ c (ix2 t d) : EReal) * (gates m ρ c (ix2 t e) : EReal)) * (win m ρ c (ix3 e d o) : EReal)

/-- The sum over eight experts read at rows `n` of the tokens and the gates is the device's part there. -/
theorem half_part (c : Dev nD) (n q : Nat) (hn : n + 512 ≤ 2048) (hq : q + 512 ≤ 1024) (w : Fin 8 → Vec Ideal S1x512x512 .f32)
    (hw : ∀ e d j, w e (ix3 (0 : Fin 1) d j) = win m ρ c (ix3 e d (⟨q + j.val, by omega⟩ : Fin 1024)))
    {o o0 o1 o2 o3 o4 o5 o6 o7 : Fin 2 → Nat} (ho : o = ![n, 0]) (ho0 : o0 = ![n, 0]) (ho1 : o1 = ![n, 1]) (ho2 : o2 = ![n, 2])
    (ho3 : o3 = ![n, 3]) (ho4 : o4 = ![n, 4]) (ho5 : o5 = ![n, 5]) (ho6 : o6 = ![n, 6]) (ho7 : o7 = ![n, 7])
    (h h0 h1 h2 h3 h4 h5 h6 h7) (i j : Fin 512) :
    halfV (xat m ρ c o h) (gat m ρ c o0 h0) (gat m ρ c o1 h1) (gat m ρ c o2 h2) (gat m ρ c o3 h3) (gat m ρ c o4 h4)
      (gat m ρ c o5 h5) (gat m ρ c o6 h6) (gat m ρ c o7 h7) w (ix2 i j)
      = part m ρ c ⟨n + i.val, by omega⟩ ⟨q + j.val, by omega⟩ := by
  subst ho ho0 ho1 ho2 ho3 ho4 ho5 ho6 ho7
  rw [halfV_apply]
  refine Finset.sum_congr rfl fun e _ => Finset.sum_congr rfl fun d _ => ?_
  rw [xat_apply m ρ c n _ hn, hw]
  congr 2
  fin_cases e <;> exact gat_apply m ρ c n _ _ hn (by decide) i

/-- The rows of a chunk, by its number modulo 4. -/
def chunkRow (k : Nat) (i : Fin 512) : Fin 2048 := ⟨512 * (k % 4) + i.val, by omega⟩

theorem own_L (c : Dev nD) (i j : Fin 512) :
    own m ρ c (wL m ρ c) (ix2 i j) = part m ρ c (chunkRow c.val i) ⟨0 + j.val, by omega⟩ :=
  half_part m ρ c (512 * (c.val % 4)) 0 (by omega) (by decide) _ (wL_apply m ρ c)
    (by revert c; decide +kernel) (by revert c; decide +kernel) (by revert c; decide +kernel) (by revert c; decide +kernel)
    (by revert c; decide +kernel) (by revert c; decide +kernel) (by revert c; decide +kernel) (by revert c; decide +kernel)
    (by revert c; decide +kernel) _ _ _ _ _ _ _ _ _ i j

theorem own_R (c : Dev nD) (i j : Fin 512) :
    own m ρ c (wR m ρ c) (ix2 i j) = part m ρ c (chunkRow c.val i) ⟨512 + j.val, by omega⟩ :=
  half_part m ρ c (512 * (c.val % 4)) 512 (by omega) (by decide) _ (wR_apply m ρ c)
    (by revert c; decide +kernel) (by revert c; decide +kernel) (by revert c; decide +kernel) (by revert c; decide +kernel)
    (by revert c; decide +kernel) (by revert c; decide +kernel) (by revert c; decide +kernel) (by revert c; decide +kernel)
    (by revert c; decide +kernel) _ _ _ _ _ _ _ _ _ i j

theorem addA_apply (s : Fin 3) (c : Dev nD) (i j : Fin 512) :
    addA m ρ s c (ix2 i j) = part m ρ c (chunkRow (c.val % 4 + 3 - s.val) i) ⟨0 + j.val, by omega⟩ :=
  half_part m ρ c (512 * ((c.val % 4 + 3 - s.val) % 4)) 0 (by omega) (by decide) _ (wL_apply m ρ c)
    (by revert c s; decide +kernel) (by revert c s; decide +kernel) (by revert c s; decide +kernel) (by revert c s; decide +kernel)
    (by revert c s; decide +kernel) (by revert c s; decide +kernel) (by revert c s; decide +kernel) (by revert c s; decide +kernel)
    (by revert c s; decide +kernel) _ _ _ _ _ _ _ _ _ i j

theorem addB_apply (s : Fin 3) (c : Dev nD) (i j : Fin 512) :
    addB m ρ s c (ix2 i j) = part m ρ c (chunkRow (c.val % 4 + s.val + 1) i) ⟨512 + j.val, by omega⟩ :=
  half_part m ρ c (512 * ((c.val % 4 + s.val + 1) % 4)) 512 (by omega) (by decide) _ (wR_apply m ρ c)
    (by revert c s; decide +kernel) (by revert c s; decide +kernel) (by revert c s; decide +kernel) (by revert c s; decide +kernel)
    (by revert c s; decide +kernel) (by revert c s; decide +kernel) (by revert c s; decide +kernel) (by revert c s; decide +kernel)
    (by revert c s; decide +kernel) _ _ _ _ _ _ _ _ _ i j

/-! ## The ring sums -/

/-- The four devices of a plane, on a function of the device. -/
def ringL (f : Dev nD → EReal) (c : Dev nD) : EReal := f (lf (lf (lf c))) + f (lf (lf c)) + f (lf c) + f c
def ringR (f : Dev nD → EReal) (c : Dev nD) : EReal := f (rt (rt (rt c))) + f (rt (rt c)) + f (rt c) + f c

theorem A3_apply (c : Dev nD) (i j : Fin 512) :
    A3 m ρ c (ix2 i j) = ringL (fun d => part m ρ d (chunkRow (c.val + 1) i) ⟨0 + j.val, by omega⟩) c := by
  show ((own m ρ (lf (lf (lf c))) (wL m ρ (lf (lf (lf c)))) (ix2 i j) + addA m ρ 0 (lf (lf c)) (ix2 i j)) + addA m ρ 1 (lf c) (ix2 i j)) + addA m ρ 2 c (ix2 i j) = _
  rw [own_L, addA_apply, addA_apply, addA_apply]
  have e0 : chunkRow (lf (lf (lf c))).val i = chunkRow (c.val + 1) i := by
    refine Fin.ext ?_; simp only [chunkRow, lf]; omega
  have e1 : chunkRow ((lf (lf c)).val % 4 + 3 - (0 : Fin 3).val) i = chunkRow (c.val + 1) i := by
    refine Fin.ext ?_; simp only [chunkRow, lf, Fin.val_zero]; omega
  have e2 : chunkRow ((lf c).val % 4 + 3 - (1 : Fin 3).val) i = chunkRow (c.val + 1) i := by
    refine Fin.ext ?_; simp only [chunkRow, lf, Fin.val_one]; omega
  have e3 : chunkRow (c.val % 4 + 3 - (2 : Fin 3).val) i = chunkRow (c.val + 1) i := by
    refine Fin.ext ?_; simp only [chunkRow, Fin.val_two]; omega
  rw [e0, e1, e2, e3]
  rfl

theorem B3_apply (c : Dev nD) (i j : Fin 512) :
    B3 m ρ c (ix2 i j) = ringR (fun d => part m ρ d (chunkRow (c.val + 3) i) ⟨512 + j.val, by omega⟩) c := by
  show ((own m ρ (rt (rt (rt c))) (wR m ρ (rt (rt (rt c)))) (ix2 i j) + addB m ρ 0 (rt (rt c)) (ix2 i j)) + addB m ρ 1 (rt c) (ix2 i j)) + addB m ρ 2 c (ix2 i j) = _
  rw [own_R, addB_apply, addB_apply, addB_apply]
  have e0 : chunkRow (rt (rt (rt c))).val i = chunkRow (c.val + 3) i := by
    refine Fin.ext ?_; simp only [chunkRow, rt]; omega
  have e1 : chunkRow ((rt (rt c)).val % 4 + (0 : Fin 3).val + 1) i = chunkRow (c.val + 3) i := by
    refine Fin.ext ?_; simp only [chunkRow, rt, Fin.val_zero]; omega
  have e2 : chunkRow ((rt c).val % 4 + (1 : Fin 3).val + 1) i = chunkRow (c.val + 3) i := by
    refine Fin.ext ?_; simp only [chunkRow, rt, Fin.val_one]; omega
  have e3 : chunkRow (c.val % 4 + (2 : Fin 3).val + 1) i = chunkRow (c.val + 3) i := by
    refine Fin.ext ?_; simp only [chunkRow, Fin.val_two]; omega
  rw [e0, e1, e2, e3]
  rfl

end Cert.KernelIdeal.Moe

end
-- ==== Proof.ValueSum.lean ====
/-
The result's elements as sums over the sixteen devices, over the extended reals.
-/
module

public import proofs.«01_k».proof.Proof.ValueHalf

@[expose] public section

noncomputable section

namespace Cert.KernelIdeal.Moe

open Cert.KernelIdeal Cert.KernelIdeal.Gen
open Idealize.ShloMosaic
open Idealize.ShloMosaic.TcCoe

variable (m : (ℓ : Loc nD τ sig) → Buf (Elt Ideal) ℓ) (ρ : Dev nD → PrngReg)

/-! ## The sum over the mesh -/

/-- The devices in the order one finishing device adds them, going left around its plane; -/
def ordL (c : Dev nD) : List (Dev nD) := [lf (lf (lf c)), lf (lf c), lf c, c]
/-- and going right. -/
def ordR (c : Dev nD) : List (Dev nD) := [rt (rt (rt c)), rt (rt c), rt c, c]

theorem perm_L (c : Dev nD) : (ordL c ++ (ordL (z1 c) ++ (ordL (z2 c) ++ ordL (z1 (z2 c))))).Perm (List.finRange 16) := by
  revert c; decide +kernel
theorem perm_R (c : Dev nD) : (ordR c ++ (ordR (z1 c) ++ (ordR (z2 c) ++ ordR (z1 (z2 c))))).Perm (List.finRange 16) := by
  revert c; decide +kernel

theorem ringL_eq (f : Dev nD → EReal) (c : Dev nD) : ringL f c = ((ordL c).map f).sum := by
  simp only [ringL, ordL, List.map_cons, List.map_nil, List.sum_cons, List.sum_nil, add_zero, add_assoc]
theorem ringR_eq (f : Dev nD → EReal) (c : Dev nD) : ringR f c = ((ordR c).map f).sum := by
  simp only [ringR, ordR, List.map_cons, List.map_nil, List.sum_cons, List.sum_nil, add_zero, add_assoc]

/-- The four planes' rings are all the devices. -/
theorem meshL (f : Dev nD → EReal) (c : Dev nD) :
    (ringL f c + ringL f (z1 c)) + (ringL f (z2 c) + ringL f (z1 (z2 c))) = ∑ d : Fin 16, f d := by
  rw [ringL_eq, ringL_eq, ringL_eq, ringL_eq, add_assoc, ← List.sum_append, ← List.map_append, ← List.sum_append, ← List.map_append,
    ← List.sum_append, ← List.map_append, ((perm_L c).map f).sum_eq]
  exact (Fin.sum_univ_def f).symm
theorem meshR (f : Dev nD → EReal) (c : Dev nD) :
    (ringR f c + ringR f (z1 c)) + (ringR f (z2 c) + ringR f (z1 (z2 c))) = ∑ d : Fin 16, f d := by
  rw [ringR_eq, ringR_eq, ringR_eq, ringR_eq, add_assoc, ← List.sum_append, ← List.map_append, ← List.sum_append, ← List.map_append,
    ← List.sum_append, ← List.map_append, ((perm_R c).map f).sum_eq]
  exact (Fin.sum_univ_def f).symm

/-! ## The exchanges between planes -/

theorem k1_le (c : Dev nD) : k1 c ≤ 256 := by unfold k1; omega
theorem k2_eq (c : Dev nD) : k2 c = k1 c + 128 * (c.val / 8) := rfl
theorem k1_z2 (c : Dev nD) : k1 (z2 c) = k1 c := by revert c; decide +kernel
theorem mod4_1 (c : Dev nD) : (z1 c).val % 4 = c.val % 4 := by revert c; decide +kernel
theorem mod4_2 (c : Dev nD) : (z2 c).val % 4 = c.val % 4 := by revert c; decide +kernel
theorem mod4_3 (c : Dev nD) : (z1 (z2 c)).val % 4 = c.val % 4 := by revert c; decide +kernel
theorem div8_le (c : Dev nD) : c.val / 8 ≤ 1 := by have := c.isLt; simp only [nD] at this; omega

/-- A read of the rows from `n` on of a working buffer. -/
theorem zread (X : Vec Ideal S512x512 .f32) (n k : Nat) {o : Fin 2 → Nat} (ho : o = ![n, 0])
    (R : (⟨2, ![k, 512]⟩ : Shape).Idx → Elt Ideal .f32) (h : n + k ≤ 512)
    (hR : ∀ x, ∃ y, R x = X y ∧ ∀ a, (y a).val = o a + (x a).val) (i : Fin k) (j : Fin 512) :
    R (ix2 i j) = X (ix2 (⟨n + i.val, by omega⟩ : Fin 512) j) := by
  subst ho
  obtain ⟨y, e, hy⟩ := hR (ix2 i j)
  rw [e]
  refine congrArg X (funext fun a => Fin.ext ?_)
  rw [hy a]
  match a with
  | ⟨0, _⟩ => rfl
  | ⟨1, _⟩ => exact Nat.zero_add _

theorem zAK1 (X : Vec Ideal S512x512 .f32) (c : Dev nD) (i : Fin 256) (j : Fin 512) (h : k1 c + i.val < 512) :
    zwA.view.readAt (Elt Ideal) (rK1 c).toLoadRect X (ix2 i j) = X (ix2 (⟨k1 c + i.val, h⟩ : Fin 512) j) := by
  rw [View.readAt_apply]
  refine congrArg X (funext fun a => Fin.ext ?_)
  show k0_off29 c a + 1 * ((ix2 i j : S256x512.Idx) a).val = _
  rw [off29]
  match a with
  | ⟨0, _⟩ => show k1 c + 1 * i.val = k1 c + i.val; omega
  | ⟨1, _⟩ => show 0 + 1 * j.val = j.val; omega

theorem zAK2 (X : Vec Ideal S512x512 .f32) (c : Dev nD) (i : Fin 128) (j : Fin 512) (h : k2 c + i.val < 512) :
    zwA.view.readAt (Elt Ideal) (rK2 c).toLoadRect X (ix2 i j) = X (ix2 (⟨k2 c + i.val, h⟩ : Fin 512) j) := by
  rw [View.readAt_apply]
  refine congrArg X (funext fun a => Fin.ext ?_)
  show k0_off31 c a + 1 * ((ix2 i j : S128x512.Idx) a).val = _
  rw [off31]
  match a with
  | ⟨0, _⟩ => show k2 c + 1 * i.val = k2 c + i.val; omega
  | ⟨1, _⟩ => show 0 + 1 * j.val = j.val; omega

theorem zBK1 (X : Vec Ideal S512x512 .f32) (c : Dev nD) (i : Fin 256) (j : Fin 512) (h : k1 c + i.val < 512) :
    zwB.view.readAt (Elt Ideal) (rK1 c).toLoadRect X (ix2 i j) = X (ix2 (⟨k1 c + i.val, h⟩ : Fin 512) j) := by
  rw [View.readAt_apply]
  refine congrArg X (funext fun a => Fin.ext ?_)
  show k0_off29 c a + 1 * ((ix2 i j : S256x512.Idx) a).val = _
  rw [off29]
  match a with
  | ⟨0, _⟩ => show k1 c + 1 * i.val = k1 c + i.val; omega
  | ⟨1, _⟩ => show 0 + 1 * j.val = j.val; omega

theorem zBK2 (X : Vec Ideal S512x512 .f32) (c : Dev nD) (i : Fin 128) (j : Fin 512) (h : k2 c + i.val < 512) :
    zwB.view.readAt (Elt Ideal) (rK2 c).toLoadRect X (ix2 i j) = X (ix2 (⟨k2 c + i.val, h⟩ : Fin 512) j) := by
  rw [View.readAt_apply]
  refine congrArg X (funext fun a => Fin.ext ?_)
  show k0_off31 c a + 1 * ((ix2 i j : S128x512.Idx) a).val = _
  rw [off31]
  match a with
  | ⟨0, _⟩ => show k2 c + 1 * i.val = k2 c + i.val; omega
  | ⟨1, _⟩ => show 0 + 1 * j.val = j.val; omega

/-! The left columns. -/

theorem sentA1_apply (c : Dev nD) (i : Fin 256) (j : Fin 512) :
    sentA1 m ρ c (ix2 i j) = A3 m ρ c (ix2 (⟨s1 c + i.val, by unfold s1; omega⟩ : Fin 512) j) := by
  refine zread _ (s1 c) 256 (off28 c) _ (by unfold s1; omega) (fun x => ⟨_, View.read_apply .., fun a => ?_⟩) i j
  show k0_off28 c a + 1 * (x a).val = _
  omega

/-- After the first exchange, the half kept holds two planes' sums. -/
theorem midA_apply (c : Dev nD) (i : Fin 256) (j : Fin 512) (h : k1 c + i.val < 512) :
    midA m ρ c (ix2 (⟨k1 c + i.val, h⟩ : Fin 512) j)
      = (A3 m ρ c (ix2 (⟨k1 c + i.val, h⟩ : Fin 512) j) : EReal) + (A3 m ρ (z1 c) (ix2 (⟨k1 c + i.val, h⟩ : Fin 512) j) : EReal) := by
  have hx : (ix2 (⟨k1 c + i.val, h⟩ : Fin 512) j : S512x512.Idx) = (zwA.access (rK1 c)).emb (ix2 i j) := by
    refine funext fun a => Fin.ext ?_
    have e : ((zwA.access (rK1 c)).emb (ix2 i j) a).val = k0_off29 c a + 1 * ((ix2 i j : S256x512.Idx) a).val := rfl
    rw [e, off29]
    match a with
    | ⟨0, _⟩ => show k1 c + i.val = k1 c + 1 * i.val; omega
    | ⟨1, _⟩ => show j.val = 0 + 1 * j.val; omega
  have hr : zwA.view.readAt (Elt Ideal) (rK1 c).toLoadRect (A3 m ρ c) (ix2 i j) = A3 m ρ c (ix2 (⟨k1 c + i.val, h⟩ : Fin 512) j) := by
    exact zAK1 (A3 m ρ c) c i j _
  have hs : sentA1 m ρ (z1 c) (ix2 i j) = A3 m ρ (z1 c) (ix2 (⟨k1 c + i.val, h⟩ : Fin 512) j) := by
    rw [sentA1_apply]
    refine congrArg (A3 m ρ (z1 c)) (congrArg (fun r : Fin 512 => (ix2 r j : S512x512.Idx)) (Fin.ext ?_))
    show s1 (z1 c) + i.val = k1 c + i.val
    rw [s1_z1]
  have hw : k0_pay72 (zwA.view.readAt (Elt Ideal) (rK1 c).toLoadRect (A3 m ρ c)) (sentA1 m ρ (z1 c)) (ix2 i j)
      = (zwA.view.readAt (Elt Ideal) (rK1 c).toLoadRect (A3 m ρ c) (ix2 i j) : EReal) + (sentA1 m ρ (z1 c) (ix2 i j) : EReal) := by
    generalize zwA.view.readAt (Elt Ideal) (rK1 c).toLoadRect (A3 m ρ c) = u
    generalize sentA1 m ρ (z1 c) = v
    pointwise [k0_pay72]
  rw [← hr, ← hs, ← hw]
  unfold midA
  rw [hx]
  exact (View.write_emb_of_mem (v := zwA.access (rK1 c)) (Val := Elt Ideal) _ _ (Finset.mem_univ (ix2 i j))).trans (cast_eq _ _)

theorem sentA2_apply (c : Dev nD) (i : Fin 128) (j : Fin 512) :
    sentA2 m ρ c (ix2 i j) = midA m ρ c (ix2 (⟨s2 c + i.val, by have := div8_le c; unfold s2; omega⟩ : Fin 512) j) := by
  unfold sentA2
  refine zread (midA m ρ c) (s2 c) 128 (off30 c) _ (by have := div8_le c; unfold s2; omega) (fun x => ⟨_, View.read_apply .., fun a => ?_⟩) i j
  show k0_off30 c a + 1 * (x a).val = _
  omega

/-- What a device finishes: the four planes' sums at its quarter. -/
theorem doneA_apply (c : Dev nD) (i : Fin 128) (j : Fin 512) :
    doneA m ρ c (ix2 i j) = ∑ d : Fin 16, part m ρ d (chunkRow (c.val + 1) ⟨k2 c + i.val, by have := div8_le c; unfold k2; omega⟩) ⟨0 + j.val, by omega⟩ := by
  have h8 := div8_le c
  have hk := k1_le c
  have e2 := k2_eq c
  have hlt : k2 c + i.val < 512 := by omega
  have hle : k2 c + 128 ≤ 512 := by omega
  have mk : ∀ (b : Dev nD) (hb : k1 b = k1 c) (h : k2 c + i.val < 512), midA m ρ b (ix2 (⟨k2 c + i.val, h⟩ : Fin 512) j)
      = (A3 m ρ b (ix2 (⟨k2 c + i.val, h⟩ : Fin 512) j) : EReal) + (A3 m ρ (z1 b) (ix2 (⟨k2 c + i.val, h⟩ : Fin 512) j) : EReal) := fun b hb h => by
    have ei : (⟨k2 c + i.val, h⟩ : Fin 512) = ⟨k1 b + (⟨128 * (c.val / 8) + i.val, by omega⟩ : Fin 256).val, by show k1 b + (128 * (c.val / 8) + i.val) < 512; omega⟩ :=
      Fin.ext (by show k2 c + i.val = k1 b + (128 * (c.val / 8) + i.val); omega)
    rw [ei]
    exact midA_apply m ρ b ⟨128 * (c.val / 8) + i.val, by omega⟩ j _
  have hr : zwA.view.readAt (Elt Ideal) (rK2 c).toLoadRect (midA m ρ c) (ix2 i j) = midA m ρ c (ix2 (⟨k2 c + i.val, hlt⟩ : Fin 512) j) := by
    exact zAK2 (midA m ρ c) c i j _
  have hs : sentA2 m ρ (z2 c) (ix2 i j) = midA m ρ (z2 c) (ix2 (⟨k2 c + i.val, hlt⟩ : Fin 512) j) := by
    refine (sentA2_apply m ρ (z2 c) i j).trans ?_
    refine congrArg (midA m ρ (z2 c)) (congrArg (fun r : Fin 512 => (ix2 r j : S512x512.Idx)) (Fin.ext ?_))
    show s2 (z2 c) + i.val = k2 c + i.val
    rw [s2_z2]
  have hw : doneA m ρ c (ix2 i j)
      = (zwA.view.readAt (Elt Ideal) (rK2 c).toLoadRect (midA m ρ c) (ix2 i j) : EReal) + (sentA2 m ρ (z2 c) (ix2 i j) : EReal) := by
    unfold doneA
    generalize zwA.view.readAt (Elt Ideal) (rK2 c).toLoadRect (midA m ρ c) = u
    generalize sentA2 m ρ (z2 c) = v
    pointwise [k0_pay74]
  rw [hw, hr, hs, mk c rfl, mk (z2 c) (k1_z2 c), A3_apply, A3_apply, A3_apply, A3_apply]
  have c1 : ∀ b : Dev nD, b.val % 4 = c.val % 4 → ∀ r, chunkRow (b.val + 1) r = chunkRow (c.val + 1) r := fun b hb r =>
    Fin.ext (by simp only [chunkRow]; omega)
  have q1 := mod4_1 c
  have q2 := mod4_2 c
  have q3 := mod4_3 c
  simp only [c1 _ q1, c1 _ q2, c1 _ q3]
  exact meshL _ c

/-! The right columns. -/

theorem sentB1_apply (c : Dev nD) (i : Fin 256) (j : Fin 512) :
    sentB1 m ρ c (ix2 i j) = B3 m ρ c (ix2 (⟨s1 c + i.val, by unfold s1; omega⟩ : Fin 512) j) := by
  refine zread _ (s1 c) 256 (off28 c) _ (by unfold s1; omega) (fun x => ⟨_, View.read_apply .., fun a => ?_⟩) i j
  show k0_off28 c a + 1 * (x a).val = _
  omega

/-- The right columns after the first exchange, the half kept holds two planes' sums. -/
theorem midB_apply (c : Dev nD) (i : Fin 256) (j : Fin 512) (h : k1 c + i.val < 512) :
    midB m ρ c (ix2 (⟨k1 c + i.val, h⟩ : Fin 512) j)
      = (B3 m ρ c (ix2 (⟨k1 c + i.val, h⟩ : Fin 512) j) : EReal) + (B3 m ρ (z1 c) (ix2 (⟨k1 c + i.val, h⟩ : Fin 512) j) : EReal) := by
  have hx : (ix2 (⟨k1 c + i.val, h⟩ : Fin 512) j : S512x512.Idx) = (zwB.access (rK1 c)).emb (ix2 i j) := by
    refine funext fun a => Fin.ext ?_
    have e : ((zwB.access (rK1 c)).emb (ix2 i j) a).val = k0_off29 c a + 1 * ((ix2 i j : S256x512.Idx) a).val := rfl
    rw [e, off29]
    match a with
    | ⟨0, _⟩ => show k1 c + i.val = k1 c + 1 * i.val; omega
    | ⟨1, _⟩ => show j.val = 0 + 1 * j.val; omega
  have hr : zwB.view.readAt (Elt Ideal) (rK1 c).toLoadRect (B3 m ρ c) (ix2 i j) = B3 m ρ c (ix2 (⟨k1 c + i.val, h⟩ : Fin 512) j) := by
    exact zBK1 (B3 m ρ c) c i j _
  have hs : sentB1 m ρ (z1 c) (ix2 i j) = B3 m ρ (z1 c) (ix2 (⟨k1 c + i.val, h⟩ : Fin 512) j) := by
    rw [sentB1_apply]
    refine congrArg (B3 m ρ (z1 c)) (congrArg (fun r : Fin 512 => (ix2 r j : S512x512.Idx)) (Fin.ext ?_))
    show s1 (z1 c) + i.val = k1 c + i.val
    rw [s1_z1]
  have hw : k0_pay73 (zwB.view.readAt (Elt Ideal) (rK1 c).toLoadRect (B3 m ρ c)) (sentB1 m ρ (z1 c)) (ix2 i j)
      = (zwB.view.readAt (Elt Ideal) (rK1 c).toLoadRect (B3 m ρ c) (ix2 i j) : EReal) + (sentB1 m ρ (z1 c) (ix2 i j) : EReal) := by
    generalize zwB.view.readAt (Elt Ideal) (rK1 c).toLoadRect (B3 m ρ c) = u
    generalize sentB1 m ρ (z1 c) = v
    pointwise [k0_pay73]
  rw [← hr, ← hs, ← hw]
  unfold midB
  rw [hx]
  exact (View.write_emb_of_mem (v := zwB.access (rK1 c)) (Val := Elt Ideal) _ _ (Finset.mem_univ (ix2 i j))).trans (cast_eq _ _)

theorem sentB2_apply (c : Dev nD) (i : Fin 128) (j : Fin 512) :
    sentB2 m ρ c (ix2 i j) = midB m ρ c (ix2 (⟨s2 c + i.val, by have := div8_le c; unfold s2; omega⟩ : Fin 512) j) := by
  unfold sentB2
  refine zread (midB m ρ c) (s2 c) 128 (off30 c) _ (by have := div8_le c; unfold s2; omega) (fun x => ⟨_, View.read_apply .., fun a => ?_⟩) i j
  show k0_off30 c a + 1 * (x a).val = _
  omega

/-- In the right columns, what a device finishes: the four planes' sums at its quarter. -/
theorem doneB_apply (c : Dev nD) (i : Fin 128) (j : Fin 512) :
    doneB m ρ c (ix2 i j) = ∑ d : Fin 16, part m ρ d (chunkRow (c.val + 3) ⟨k2 c + i.val, by have := div8_le c; unfold k2; omega⟩) ⟨512 + j.val, by omega⟩ := by
  have h8 := div8_le c
  have hk := k1_le c
  have e2 := k2_eq c
  have hlt : k2 c + i.val < 512 := by omega
  have hle : k2 c + 128 ≤ 512 := by omega
  have mk : ∀ (b : Dev nD) (hb : k1 b = k1 c) (h : k2 c + i.val < 512), midB m ρ b (ix2 (⟨k2 c + i.val, h⟩ : Fin 512) j)
      = (B3 m ρ b (ix2 (⟨k2 c + i.val, h⟩ : Fin 512) j) : EReal) + (B3 m ρ (z1 b) (ix2 (⟨k2 c + i.val, h⟩ : Fin 512) j) : EReal) := fun b hb h => by
    have ei : (⟨k2 c + i.val, h⟩ : Fin 512) = ⟨k1 b + (⟨128 * (c.val / 8) + i.val, by omega⟩ : Fin 256).val, by show k1 b + (128 * (c.val / 8) + i.val) < 512; omega⟩ :=
      Fin.ext (by show k2 c + i.val = k1 b + (128 * (c.val / 8) + i.val); omega)
    rw [ei]
    exact midB_apply m ρ b ⟨128 * (c.val / 8) + i.val, by omega⟩ j _
  have hr : zwB.view.readAt (Elt Ideal) (rK2 c).toLoadRect (midB m ρ c) (ix2 i j) = midB m ρ c (ix2 (⟨k2 c + i.val, hlt⟩ : Fin 512) j) := by
    exact zBK2 (midB m ρ c) c i j _
  have hs : sentB2 m ρ (z2 c) (ix2 i j) = midB m ρ (z2 c) (ix2 (⟨k2 c + i.val, hlt⟩ : Fin 512) j) := by
    refine (sentB2_apply m ρ (z2 c) i j).trans ?_
    refine congrArg (midB m ρ (z2 c)) (congrArg (fun r : Fin 512 => (ix2 r j : S512x512.Idx)) (Fin.ext ?_))
    show s2 (z2 c) + i.val = k2 c + i.val
    rw [s2_z2]
  have hw : doneB m ρ c (ix2 i j)
      = (zwB.view.readAt (Elt Ideal) (rK2 c).toLoadRect (midB m ρ c) (ix2 i j) : EReal) + (sentB2 m ρ (z2 c) (ix2 i j) : EReal) := by
    unfold doneB
    generalize zwB.view.readAt (Elt Ideal) (rK2 c).toLoadRect (midB m ρ c) = u
    generalize sentB2 m ρ (z2 c) = v
    pointwise [k0_pay75]
  rw [hw, hr, hs, mk c rfl, mk (z2 c) (k1_z2 c), B3_apply, B3_apply, B3_apply, B3_apply]
  have c1 : ∀ b : Dev nD, b.val % 4 = c.val % 4 → ∀ r, chunkRow (b.val + 3) r = chunkRow (c.val + 3) r := fun b hb r =>
    Fin.ext (by simp only [chunkRow]; omega)
  have q1 := mod4_1 c
  have q2 := mod4_2 c
  have q3 := mod4_3 c
  simp only [c1 _ q1, c1 _ q2, c1 _ q3]
  exact meshR _ c

/-! ## The result -/

theorem place (b1 b2 q : Nat) (h1 : b1 < 2) (h2 : b2 < 2) (hq : q < 4) :
    (4 * (2 * b2 + b1) + q) / 4 % 2 = b1 ∧ (4 * (2 * b2 + b1) + q) / 8 = b2 ∧ (4 * (2 * b2 + b1) + q) % 4 = q := by omega

/-- A result element is the sum of the sixteen devices' parts of it. -/
theorem res_apply (t : Fin 2048) (o : Fin 1024) : res m ρ (ix2 t o) = ∑ d : Fin 16, part m ρ d t o := by
  unfold res
  by_cases h : o.val < 512
  · rw [dif_pos (show ((ix2 t o : S2048x1024.Idx) 1).val < 512 from h)]
    refine (doneA_apply m ρ (finA t) ⟨t.val % 128, Nat.mod_lt _ (by decide)⟩ ⟨o.val, h⟩).trans ?_
    refine Finset.sum_congr rfl fun d _ => congrArg₂ (part m ρ d) (Fin.ext ?_) (Fin.ext ?_)
    · show 512 * (((finA t).val + 1) % 4) + (k2 (finA t) + t.val % 128) = t.val
      obtain ⟨h1, h2, h3⟩ := place (t.val % 512 / 256) (t.val % 256 / 128) _ (by omega) (by omega) (Nat.mod_lt (t.val / 512 + 3) (by decide : 0 < 4))
      simp only [finA, k2, h1, h2]; have := t.isLt; omega
    · show 0 + o.val = o.val; omega
  · rw [dif_neg (show ¬ ((ix2 t o : S2048x1024.Idx) 1).val < 512 from h)]
    refine (doneB_apply m ρ (finB t) ⟨t.val % 128, Nat.mod_lt _ (by decide)⟩ ⟨o.val - 512, by omega⟩).trans ?_
    refine Finset.sum_congr rfl fun d _ => congrArg₂ (part m ρ d) (Fin.ext ?_) (Fin.ext ?_)
    · show 512 * (((finB t).val + 3) % 4) + (k2 (finB t) + t.val % 128) = t.val
      obtain ⟨h1, h2, h3⟩ := place (t.val % 512 / 256) (t.val % 256 / 128) _ (by omega) (by omega) (Nat.mod_lt (t.val / 512 + 1) (by decide : 0 < 4))
      simp only [finB, k2, h1, h2]; have := t.isLt; omega
    · show 512 + (o.val - 512) = o.val; omega

end Cert.KernelIdeal.Moe

end
-- ==== Proof.ValueRouter.lean ====
/-
The routed layer over the extended reals: the router's probabilities, the two chosen experts' gates, and the sum over all
128 experts that the two gates leave of it.
-/
module

public import proofs.«01_k».proof.Proof.ValueSum

@[expose] public section

noncomputable section

namespace Cert.Router

open Idealize.ShloMosaic

variable (X : FVec Ideal ⟨2, ![2048, 512]⟩ .f32) (R : FVec Ideal ⟨2, ![512, 128]⟩ .f32) (I : IVec ⟨2, ![2048, 2]⟩ 32)
  (W : FVec Ideal ⟨3, ![128, 512, 1024]⟩ .f32)

/-! ## The layer, written plainly -/

def score (t : Fin 2048) (e : Fin 128) : EReal := ∑ k : Fin 512, (X (ix2 t k) : EReal) * (R (ix2 k e) : EReal)
def top (t : Fin 2048) : EReal := Finset.fold max (Ideal.ofBits .f32 4286578688#32) (fun e => score X R t e) Finset.univ
def weight (t : Fin 2048) (e : Fin 128) : EReal := Ideal.exp (score X R t e - top X R t)
def prob (t : Fin 2048) (e : Fin 128) : EReal := Ideal.div (weight X R t e) (∑ e', weight X R t e')
/-- The expert a token's `k`-th choice names. -/
def pick (t : Fin 2048) (k : Fin 2) : Fin 128 := ⟨(I (ix2 t k)).toNat % 128, Nat.mod_lt _ (by decide)⟩
def gate (t : Fin 2048) (k : Fin 2) : EReal := Ideal.div (prob X R t (pick I t k)) (prob X R t (pick I t 0) + prob X R t (pick I t 1))
/-- One expert's answer for a token. -/
def answer (t : Fin 2048) (o : Fin 1024) (e : Fin 128) : EReal := ∑ d : Fin 512, (X (ix2 t d) : EReal) * (W (ix3 e d o) : EReal)

/-! ## Finite scores -/

/-- A finite value is a real number. -/
theorem real_of_finite {x : EReal} (h : x ≠ ⊥ ∧ x ≠ ⊤) : ∃ r : ℝ, x = (r : EReal) := ⟨x.toReal, (EReal.coe_toReal h.2 h.1).symm⟩

theorem coe_sum {ι : Type} (s : Finset ι) (g : ι → ℝ) : ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

theorem real_sum {ι : Type} (s : Finset ι) (f : ι → EReal) (h : ∀ i, ∃ r : ℝ, f i = (r : EReal)) : ∃ r : ℝ, ∑ i ∈ s, f i = (r : EReal) := by
  choose g hg using h
  refine ⟨∑ i ∈ s, g i, ?_⟩
  rw [coe_sum]
  exact Finset.sum_congr rfl fun i _ => hg i

theorem real_sum_pos {ι : Type} [Fintype ι] [Nonempty ι] (f : ι → EReal) (h : ∀ i, ∃ r : ℝ, 0 < r ∧ f i = (r : EReal)) :
    ∃ r : ℝ, 0 < r ∧ ∑ i, f i = (r : EReal) := by
  choose g hg using h
  refine ⟨∑ i, g i, Finset.sum_pos (fun i _ => (hg i).1) Finset.univ_nonempty, ?_⟩
  rw [coe_sum]
  exact Finset.sum_congr rfl fun i _ => (hg i).2

theorem div_pos {x y : EReal} (hx : ∃ r : ℝ, 0 < r ∧ x = (r : EReal)) (hy : ∃ r : ℝ, 0 < r ∧ y = (r : EReal)) :
    ∃ r : ℝ, 0 < r ∧ Ideal.div x y = (r : EReal) := by
  obtain ⟨a, ha, rfl⟩ := hx
  obtain ⟨b, hb, rfl⟩ := hy
  refine ⟨a * b⁻¹, mul_pos ha (inv_pos.2 hb), ?_⟩
  unfold Ideal.div
  rw [if_neg (by exact_mod_cast hb.ne'), ← EReal.coe_inv, ← EReal.coe_mul]

theorem ninf : (Ideal.ofBits .f32 4286578688#32 : EReal) = ⊥ := by
  simp [Ideal.ofBits, Ideal.ieee]

section Finite
variable {X R} (hX : ∀ i, (X i : EReal) ≠ ⊥ ∧ (X i : EReal) ≠ ⊤) (hR : ∀ i, (R i : EReal) ≠ ⊥ ∧ (R i : EReal) ≠ ⊤)
include hX hR

theorem score_real (t : Fin 2048) (e : Fin 128) : ∃ r : ℝ, score X R t e = (r : EReal) :=
  real_sum _ _ fun k => by
    obtain ⟨a, ha⟩ := real_of_finite (hX (ix2 t k))
    obtain ⟨b, hb⟩ := real_of_finite (hR (ix2 k e))
    exact ⟨a * b, by rw [ha, hb, EReal.coe_mul]⟩

theorem top_real (t : Fin 2048) : ∃ r : ℝ, top X R t = (r : EReal) := by
  refine real_of_finite ⟨?_, ?_⟩
  · obtain ⟨r, hr⟩ := score_real hX hR t 0
    have h : score X R t 0 ≤ top X R t := Finset.le_fold_max _ |>.2 (.inr ⟨0, Finset.mem_univ _, le_rfl⟩)
    intro e
    rw [e, hr] at h
    exact absurd (le_bot_iff.1 h) (EReal.coe_ne_bot r)
  · refine ne_of_lt ((Finset.fold_max_lt _).2 ⟨by rw [ninf]; exact bot_lt_top, fun e _ => ?_⟩)
    obtain ⟨r, hr⟩ := score_real hX hR t e
    rw [hr]
    exact EReal.coe_lt_top r

theorem weight_pos (t : Fin 2048) (e : Fin 128) : ∃ r : ℝ, 0 < r ∧ weight X R t e = (r : EReal) := by
  obtain ⟨a, ha⟩ := score_real hX hR t e
  obtain ⟨b, hb⟩ := top_real hX hR t
  refine ⟨Real.exp (a - b), Real.exp_pos _, ?_⟩
  unfold weight
  rw [ha, hb, ← EReal.coe_sub]
  rfl

theorem prob_pos (t : Fin 2048) (e : Fin 128) : ∃ r : ℝ, 0 < r ∧ prob X R t e = (r : EReal) :=
  div_pos (weight_pos hX hR t e) (real_sum_pos _ fun e' => weight_pos hX hR t e')

theorem gate_pos (t : Fin 2048) (k : Fin 2) : ∃ r : ℝ, 0 < r ∧ gate X R I t k = (r : EReal) := by
  refine div_pos (prob_pos hX hR t _) ?_
  obtain ⟨a, ha, ea⟩ := prob_pos hX hR t (pick I t 0)
  obtain ⟨b, hb, eb⟩ := prob_pos hX hR t (pick I t 1)
  exact ⟨a + b, add_pos ha hb, by rw [ea, eb, EReal.coe_add]⟩

end Finite

/-! ## The sum over the experts -/

/-- A non-negative finite factor goes through a sum. -/
theorem mul_sum_nonneg {ι : Type} (s : Finset ι) (a : ℝ) (ha : 0 ≤ a) (f : ι → EReal) :
    ∑ i ∈ s, (a : EReal) * f i = (a : EReal) * ∑ i ∈ s, f i := by
  classical
  induction s using Finset.induction_on with
  | empty => simp
  | insert i s hi ih => rw [Finset.sum_insert hi, Finset.sum_insert hi, ih, EReal.left_distrib_of_nonneg_of_ne_top (by exact_mod_cast ha) (EReal.coe_ne_top a)]

/-- The gate of expert `e` on its token: what each of the two choices that names it gives. -/
def share (t : Fin 2048) (e : Fin 128) : EReal :=
  (if pick I t 0 = e then gate X R I t 0 else 0) + (if pick I t 1 = e then gate X R I t 1 else 0)

/-- One choice's part of the sum. -/
theorem one_choice (G : ℝ) (hG : 0 ≤ G) (t : Fin 2048) (o : Fin 1024) (k : Fin 128) :
    ∑ e : Fin 128, (if k = e then (G : EReal) else 0) * answer X W t o e = (G : EReal) * answer X W t o k := by
  rw [Finset.sum_eq_single k (fun e _ he => by rw [if_neg fun h => he h.symm, zero_mul]) (fun h => absurd (Finset.mem_univ _) h), if_pos rfl]

/-- Every expert's answer weighted by its gate, the gate taken inside the product with the token, is the two chosen experts'
    answers weighted by theirs. -/
theorem layer (hX : ∀ i, (X i : EReal) ≠ ⊥ ∧ (X i : EReal) ≠ ⊤) (hR : ∀ i, (R i : EReal) ≠ ⊥ ∧ (R i : EReal) ≠ ⊤)
    (t : Fin 2048) (o : Fin 1024) :
    ∑ e : Fin 128, ∑ d : Fin 512, ((X (ix2 t d) : EReal) * share X R I t e) * (W (ix3 e d o) : EReal)
      = gate X R I t 0 * answer X W t o (pick I t 0) + gate X R I t 1 * answer X W t o (pick I t 1) := by
  obtain ⟨G0, h0, e0⟩ := gate_pos I hX hR t 0
  obtain ⟨G1, h1, e1⟩ := gate_pos I hX hR t 1
  rw [e0, e1, ← one_choice X W G0 h0.le, ← one_choice X W G1 h1.le, ← Finset.sum_add_distrib]
  refine Finset.sum_congr rfl fun e _ => ?_
  unfold share answer
  rw [e0, e1]
  have n0 : ∃ r : ℝ, 0 ≤ r ∧ (if pick I t 0 = e then (G0 : EReal) else 0) = (r : EReal) := by
    split
    · exact ⟨G0, h0.le, rfl⟩
    · exact ⟨0, le_rfl, rfl⟩
  have n1 : ∃ r : ℝ, 0 ≤ r ∧ (if pick I t 1 = e then (G1 : EReal) else 0) = (r : EReal) := by
    split
    · exact ⟨G1, h1.le, rfl⟩
    · exact ⟨0, le_rfl, rfl⟩
  obtain ⟨a, ha, ea⟩ := n0
  obtain ⟨b, hb, eb⟩ := n1
  rw [ea, eb, ← mul_sum_nonneg _ a ha, ← mul_sum_nonneg _ b hb, ← Finset.sum_add_distrib]
  refine Finset.sum_congr rfl fun d _ => ?_
  rw [mul_comm (X (ix2 t d) : EReal), mul_assoc, EReal.right_distrib_of_nonneg (by exact_mod_cast ha) (by exact_mod_cast hb)]

end Cert.Router

end
-- ==== Proof.ValueKernel.lean ====
/-
The kernel's gates and its result, over the extended reals, from the arrays at launch.
-/
module

public import proofs.«01_k».proof.Proof.ValueRouter

@[expose] public section

noncomputable section

namespace Cert.KernelIdeal.Moe

open Cert.KernelIdeal Cert.KernelIdeal.Gen
open Idealize.ShloMosaic
open Idealize.ShloMosaic.TcCoe
open Cert.Router

variable (m : (ℓ : Loc nD τ sig) → Buf (Elt Ideal) ℓ) (ρ : Dev nD → PrngReg)

/-! ## The inputs are the arrays at launch -/

theorem xin_eq (c : Dev nD) : xin m ρ c = m ((c : Thread nD τ).loc main_arg0) := by
  funext i
  unfold xin
  rw [View.read_apply]
  refine congrArg (m _) ?_
  refine (funext fun a => Fin.ext ?_)
  show 0 * _ + 1 * (i a).val = (i a).val
  omega
theorem rin_eq (c : Dev nD) : rin m ρ c = m ((c : Thread nD τ).loc main_arg1) := by
  funext i
  unfold rin
  rw [View.read_apply]
  refine congrArg (m _) ?_
  refine (funext fun a => Fin.ext ?_)
  show 0 * _ + 1 * (i a).val = (i a).val
  omega
theorem iin_eq (c : Dev nD) : iin m ρ c = m ((c : Thread nD τ).loc main_arg2) := by
  funext i
  unfold iin
  rw [View.read_apply]
  refine congrArg (m _) ?_
  refine (funext fun a => Fin.ext ?_)
  show 0 * _ + 1 * (i a).val = (i a).val
  omega
theorem win_eq (c : Dev nD) : win m ρ c = m ((c : Thread nD τ).loc main_arg3) := by
  funext i
  unfold win
  rw [View.read_apply]
  refine congrArg (m _) ?_
  refine (funext fun a => Fin.ext ?_)
  show 0 * _ + 1 * (i a).val = (i a).val
  omega

/-! ## The gates -/

/-- A choice between two values on whether two words are equal. -/
theorem sel_eq {α : Type} (a b : BitVec 32) (x y : α) : Scalar.select (IntOp.cmpi .eq a b) x y = if a = b then x else y := by
  unfold Scalar.select IntOp.cmpi
  by_cases h : a = b
  · rw [if_pos h, if_pos (by simp [h])]
  · have e : (a == b) = false := by simpa using h
    rw [if_neg h, if_neg (by simp [e])]

theorem pay1_apply (X : Vec Ideal S2048x512 .f32) (R : Vec Ideal S512x128 .f32) (t : Fin 2048) (e : Fin 128) :
    k0_pay1 X R (ix2 t e) = prob X R t e := by
  pointwise [k0_pay1]
  rfl

/-- The sum over the experts that keeps only the chosen one. -/
theorem pick_sum (p : Fin 128 → EReal) (w : BitVec 32) (hw : w.toNat < 128) :
    ∑ x : Fin 128, Scalar.select (IntOp.cmpi .eq (BitVec.ofNat 32 x.val) w) (p x) 0 = p ⟨w.toNat % 128, Nat.mod_lt _ (by decide)⟩ := by
  simp only [sel_eq]
  rw [Finset.sum_eq_single (⟨w.toNat % 128, Nat.mod_lt _ (by decide)⟩ : Fin 128)]
  · rw [if_pos]
    apply BitVec.eq_of_toNat_eq
    rw [BitVec.toNat_ofNat]
    show w.toNat % 128 % 2 ^ 32 = w.toNat
    omega
  · intro x _ hx
    rw [if_neg]
    rintro rfl
    refine hx (Fin.ext ?_)
    have := x.isLt
    show x.val = (BitVec.ofNat 32 x.val).toNat % 128
    rw [BitVec.toNat_ofNat]
    omega
  · exact fun h => absurd (Finset.mem_univ _) h

theorem pay7_apply (p : FVec Ideal S2048x128 .f32) (i0 i1 : Vec Ideal S2048x1 .i32) (t : Fin 2048)
    (h0 : (i0 (ix2 t (0 : Fin 1)) : BitVec 32).toNat < 128) (h1 : (i1 (ix2 t (0 : Fin 1)) : BitVec 32).toNat < 128) :
    k0_pay7 p i0 i1 (ix2 t (0 : Fin 1))
      = Ideal.div (p (ix2 t (⟨(i0 (ix2 t (0 : Fin 1)) : BitVec 32).toNat % 128, Nat.mod_lt _ (by decide)⟩ : Fin 128)))
        ((p (ix2 t (⟨(i0 (ix2 t (0 : Fin 1)) : BitVec 32).toNat % 128, Nat.mod_lt _ (by decide)⟩ : Fin 128)) : EReal)
          + (p (ix2 t (⟨(i1 (ix2 t (0 : Fin 1)) : BitVec 32).toNat % 128, Nat.mod_lt _ (by decide)⟩ : Fin 128)) : EReal)) := by
  pointwise [k0_pay7, k0_pay4, k0_pay5, k0_pay2, k0_pay3, k0_pay6]
  rw [pick_sum (fun x => p (ix2 t x)) _ h0, pick_sum (fun x => p (ix2 t x)) _ h1]

theorem pay8_apply (p : FVec Ideal S2048x128 .f32) (i0 i1 : Vec Ideal S2048x1 .i32) (t : Fin 2048)
    (h0 : (i0 (ix2 t (0 : Fin 1)) : BitVec 32).toNat < 128) (h1 : (i1 (ix2 t (0 : Fin 1)) : BitVec 32).toNat < 128) :
    k0_pay8 p i0 i1 (ix2 t (0 : Fin 1))
      = Ideal.div (p (ix2 t (⟨(i1 (ix2 t (0 : Fin 1)) : BitVec 32).toNat % 128, Nat.mod_lt _ (by decide)⟩ : Fin 128)))
        ((p (ix2 t (⟨(i0 (ix2 t (0 : Fin 1)) : BitVec 32).toNat % 128, Nat.mod_lt _ (by decide)⟩ : Fin 128)) : EReal)
          + (p (ix2 t (⟨(i1 (ix2 t (0 : Fin 1)) : BitVec 32).toNat % 128, Nat.mod_lt _ (by decide)⟩ : Fin 128)) : EReal)) := by
  pointwise [k0_pay8, k0_pay4, k0_pay5, k0_pay2, k0_pay3, k0_pay6]
  rw [pick_sum (fun x => p (ix2 t x)) _ h0, pick_sum (fun x => p (ix2 t x)) _ h1]

/-- A column of the gates is the gate of one expert. -/
theorem gatesOf_apply (v2 : BitVec 32) (p : FVec Ideal S2048x128 .f32) (i0 i1 : Vec Ideal S2048x1 .i32) (t : Fin 2048) (e : Fin 8) :
    gatesOf v2 p i0 i1 (ix2 t e)
      = (if (i0 (ix2 t (0 : Fin 1)) : BitVec 32) = Scalar.addi (Scalar.muli v2 8#32) (BitVec.ofNat 32 e.val) then (k0_pay7 p i0 i1 (ix2 t (0 : Fin 1)) : EReal) else 0)
        + (if (i1 (ix2 t (0 : Fin 1)) : BitVec 32) = Scalar.addi (Scalar.muli v2 8#32) (BitVec.ofNat 32 e.val) then (k0_pay8 p i0 i1 (ix2 t (0 : Fin 1)) : EReal) else 0) := by
  unfold gatesOf
  fin_cases e <;>
  · pointwise [k0_pay15, k0_pay14, k0_pay13, k0_pay12, k0_pay11, k0_pay10, k0_pay9, k0_pay2, k0_pay3]
    simp only [sel_eq]

/-- The word a column's expert is compared by is the expert's number. -/
theorem expert_word (c : Dev nD) (e : Fin 8) : Scalar.addi (Scalar.muli (wd c) 8#32) (BitVec.ofNat 32 e.val) = BitVec.ofNat 32 (8 * c.val + e.val) := by
  revert c e; decide +kernel

theorem xread (c : Dev nD) : xM.view.readAt (Elt Ideal) (Rect.unit (s := S2048x512) ![0, 0] S2048x512.size inb_S2048x512_S2048x512_0_0).toLoadRect (xin m ρ c) = xin m ρ c := by
  funext i
  rw [View.readAt_apply]
  refine congrArg (xin m ρ c) (funext fun a => Fin.ext ?_)
  match a with
  | ⟨0, _⟩ => show 0 + 1 * (i 0).val = (i 0).val; omega
  | ⟨1, _⟩ => show 0 + 1 * (i 1).val = (i 1).val; omega
theorem rread (c : Dev nD) : rM.view.readAt (Elt Ideal) (Rect.unit (s := S512x128) ![0, 0] S512x128.size inb_S512x128_S512x128_0_0).toLoadRect (rin m ρ c) = rin m ρ c := by
  funext i
  rw [View.readAt_apply]
  refine congrArg (rin m ρ c) (funext fun a => Fin.ext ?_)
  match a with
  | ⟨0, _⟩ => show 0 + 1 * (i 0).val = (i 0).val; omega
  | ⟨1, _⟩ => show 0 + 1 * (i 1).val = (i 1).val; omega
theorem ix0_apply (c : Dev nD) (t : Fin 2048) : ix0 m ρ c (ix2 t (0 : Fin 1)) = iin m ρ c (ix2 t (0 : Fin 2)) := by
  unfold ix0
  rw [View.readAt_apply]
  refine congrArg (iin m ρ c) (funext fun a => Fin.ext ?_)
  match a with
  | ⟨0, _⟩ => show 0 + 1 * t.val = t.val; omega
  | ⟨1, _⟩ => show 0 + 1 * 0 = 0; rfl
theorem ix1_apply (c : Dev nD) (t : Fin 2048) : ix1 m ρ c (ix2 t (0 : Fin 1)) = iin m ρ c (ix2 t (1 : Fin 2)) := by
  unfold ix1
  rw [View.readAt_apply]
  refine congrArg (iin m ρ c) (funext fun a => Fin.ext ?_)
  match a with
  | ⟨0, _⟩ => show 0 + 1 * t.val = t.val; omega
  | ⟨1, _⟩ => show 1 + 1 * 0 = 1; rfl

/-- Expert `e` of device `c`. -/
def expert (c : Fin 16) (e : Fin 8) : Fin 128 := ⟨8 * c.val + e.val, by omega⟩

/-- A choice's word is an expert's number exactly when the choice is that expert. -/
theorem word_pick (w : BitVec 32) (hw : w.toNat < 128) (c : Dev nD) (e : Fin 8) :
    w = BitVec.ofNat 32 (8 * c.val + e.val) ↔ (⟨w.toNat % 128, Nat.mod_lt _ (by decide)⟩ : Fin 128) = expert c e := by
  have hc : c.val < 16 := c.isLt
  have he := e.isLt
  constructor
  · intro h
    have h' := congrArg BitVec.toNat h
    rw [BitVec.toNat_ofNat] at h'
    refine Fin.ext ?_
    show w.toNat % 128 = 8 * c.val + e.val
    omega
  · intro h
    have h' : w.toNat % 128 = 8 * c.val + e.val := congrArg Fin.val h
    apply BitVec.eq_of_toNat_eq
    rw [BitVec.toNat_ofNat]
    omega

theorem gates_apply (c : Dev nD) (hI : ∀ t k, (iin m ρ c (ix2 t k) : BitVec 32).toNat < 128) (t : Fin 2048) (e : Fin 8) :
    gates m ρ c (ix2 t e) = share (xin m ρ c) (rin m ρ c) (iin m ρ c) t (expert c e) := by
  have h0 : (ix0 m ρ c (ix2 t (0 : Fin 1)) : BitVec 32).toNat < 128 := by rw [ix0_apply]; exact hI t 0
  have h1 : (ix1 m ρ c (ix2 t (0 : Fin 1)) : BitVec 32).toNat < 128 := by rw [ix1_apply]; exact hI t 1
  have hp : ∀ x, probs m ρ c (ix2 t x) = prob (xin m ρ c) (rin m ρ c) t x := fun x => by
    unfold probs
    rw [xread, rread]
    exact pay1_apply _ _ t x
  unfold gates
  rw [gatesOf_apply, expert_word, pay7_apply _ _ _ t h0 h1, pay8_apply _ _ _ t h0 h1]
  simp only [ix0_apply, ix1_apply, hp, word_pick _ (hI t 0), word_pick _ (hI t 1)]
  rfl

/-- The kernel's result, element by element: every expert's answer, weighted by its gate, summed. -/
theorem res_layer (X : FVec Ideal S2048x512 .f32) (R : FVec Ideal S512x128 .f32) (I : IVec S2048x2 32)
    (W : FVec Ideal ⟨3, ![128, 512, 1024]⟩ .f32)
    (h0 : ∀ c : Dev nD, m ((c : Thread nD τ).loc main_arg0) = X) (h1 : ∀ c : Dev nD, m ((c : Thread nD τ).loc main_arg1) = R)
    (h2 : ∀ c : Dev nD, m ((c : Thread nD τ).loc main_arg2) = I)
    (h3 : ∀ (c : Dev nD) (e : Fin 8) (d : Fin 512) (o : Fin 1024), m ((c : Thread nD τ).loc main_arg3) (ix3 e d o) = W (ix3 (expert c e) d o))
    (hI : ∀ t k, (I (ix2 t k)).toNat < 128) (t : Fin 2048) (o : Fin 1024) :
    res m ρ (ix2 t o) = ∑ e : Fin 128, ∑ d : Fin 512, ((X (ix2 t d) : EReal) * share X R I t e) * (W (ix3 e d o) : EReal) := by
  rw [res_apply]
  have hp : ∀ c : Dev nD, part m ρ c t o
      = ∑ e : Fin 8, ∑ d : Fin 512, ((X (ix2 t d) : EReal) * share X R I t (expert c e)) * (W (ix3 (expert c e) d o) : EReal) := fun c => by
    unfold part
    refine Finset.sum_congr rfl fun e _ => Finset.sum_congr rfl fun d _ => ?_
    rw [gates_apply m ρ c (by rw [iin_eq, h2]; exact hI), xin_eq, rin_eq, iin_eq, win_eq, h0, h1, h2, h3]
  rw [Finset.sum_congr rfl fun c _ => hp c]
  rw [← Fintype.sum_prod_type' (f := fun (c : Fin 16) (e : Fin 8) =>
    ∑ d : Fin 512, ((X (ix2 t d) : EReal) * share X R I t (expert c e)) * (W (ix3 (expert c e) d o) : EReal))]
  refine Fintype.sum_equiv (finProdFinEquiv (m := 16) (n := 8)) _ _ fun x => ?_
  have hx : expert x.1 x.2 = finProdFinEquiv x := Fin.ext (by show 8 * x.1.val + x.2.val = x.2.val + 8 * x.1.val; omega)
  rw [hx]

end Cert.KernelIdeal.Moe

end
-- ==== Proof.ValueRef.lean ====
/-
The reference's result over the extended reals, element by element.
-/
module

public import proofs.«01_k».proof.Proof.ValueKernel
public import proofs.«01_k».proof.Proof.Gen.ReferenceIdeal.Run

@[expose] public section

noncomputable section

namespace Cert.ReferenceIdeal.Moe

open Cert.ReferenceIdeal Cert.ReferenceIdeal.Gen Cert.ReferenceIdeal.Value
open Idealize.ShloMosaic
open Idealize.ShloMosaic.TcCoe
open Cert.Router

/-! ## The two gathers -/

abbrev gP : GatherDims S2048x128 S2048x2x1 S2048x2 := gather_S2048x128_S2048x2x1_S2048x2_n_1_0_0_1_2_11
abbrev gE : GatherDims S128x512x1024 S2048x1 S2048x512x1024 := gather_S128x512x1024_S2048x1_S2048x512x1024_12_0_n_n_0_1_15121024

/-- The router's gather: along the experts of each token. -/
theorem gather_prob {α : Type} (P : S2048x128.Idx → α) (J : IVec S2048x2x1 32) (t : Fin 2048) (k : Fin 2) :
    Host.gather gather_S2048x128_S2048x2x1_S2048x2_n_1_0_0_1_2_11 P J (ix2 t k)
      = P (ix2 t (⟨min (J (ix3 t k (0 : Fin 1))).toInt.toNat 127, by omega⟩ : Fin 128)) := by
  unfold Host.gather
  refine congrArg P (funext fun a => Fin.ext ?_)
  show gP.start (ix2 t k) J a + gP.batchCoord (ix2 t k) a + gP.offCoord (ix2 t k) a = _
  have ha : a = (0 : Fin 2) ∨ a = (1 : Fin 2) := by
    match a with
    | ⟨0, _⟩ => exact .inl rfl
    | ⟨1, _⟩ => exact .inr rfl
  rcases ha with rfl | rfl
  · have hb : (0 : Fin 2) ∈ gP.operandBatchingDims := by decide +kernel
    rw [gP.start_batching _ _ _ hb, gP.offCoord_eq_zero _ _ (by decide +kernel)]
    simp only [Nat.zero_add, Nat.add_zero]
    unfold GatherDims.batchCoord
    rw [dif_pos hb]
    rfl
  · have hm : (1 : Fin 2) ∈ gP.startIndexMap := by decide +kernel
    rw [gP.batchCoord_eq_zero _ _ (by decide +kernel), gP.offCoord_eq_zero _ _ (by decide +kernel)]
    simp only [Nat.add_zero]
    unfold GatherDims.start
    rw [dif_pos hm]
    have hs : gP.siIdx (ix2 t k) ⟨List.idxOf (1 : Fin 2) gP.startIndexMap, List.idxOf_lt_length_iff.2 hm⟩ = ix3 t k (0 : Fin 1) := by
      funext b; refine Fin.ext ?_
      match b with
      | ⟨0, _⟩ => rfl
      | ⟨1, _⟩ => rfl
      | ⟨2, _⟩ => rfl
    exact congrArg (fun i => min (J i).toInt.toNat 127) hs

/-- The experts' gather: one expert's matrix for each token. -/
theorem gather_expert {α : Type} (W : S128x512x1024.Idx → α) (J : IVec S2048x1 32) (t : Fin 2048) (x : Fin 512) (o : Fin 1024) :
    Host.gather gather_S128x512x1024_S2048x1_S2048x512x1024_12_0_n_n_0_1_15121024 W J (ix3 t x o)
      = W (ix3 (⟨min (J (ix2 t (0 : Fin 1))).toInt.toNat 127, by omega⟩ : Fin 128) x o) := by
  unfold Host.gather
  refine congrArg W (funext fun a => Fin.ext ?_)
  show gE.start (ix3 t x o) J a + gE.batchCoord (ix3 t x o) a + gE.offCoord (ix3 t x o) a = _
  rw [gE.batchCoord_eq_zero _ _ List.not_mem_nil]
  have ha : a = (0 : Fin 3) ∨ a = (1 : Fin 3) ∨ a = (2 : Fin 3) := by
    match a with
    | ⟨0, _⟩ => exact .inl rfl
    | ⟨1, _⟩ => exact .inr (.inl rfl)
    | ⟨2, _⟩ => exact .inr (.inr rfl)
  rcases ha with rfl | rfl | rfl
  · have hm : (0 : Fin 3) ∈ gE.startIndexMap := by decide +kernel
    rw [gE.offCoord_eq_zero _ _ (by decide +kernel)]
    simp only [Nat.add_zero]
    unfold GatherDims.start
    rw [dif_pos hm]
    have hs : gE.siIdx (ix3 t x o) ⟨List.idxOf (0 : Fin 3) gE.startIndexMap, List.idxOf_lt_length_iff.2 hm⟩ = ix2 t (0 : Fin 1) := by
      funext b; refine Fin.ext ?_
      match b with
      | ⟨0, _⟩ => rfl
      | ⟨1, _⟩ => rfl
    exact congrArg (fun i => min (J i).toInt.toNat 127) hs
  · unfold GatherDims.start GatherDims.offCoord
    rw [dif_neg (show (1 : Fin 3) ∉ gE.startIndexMap by decide +kernel), dif_pos (show (1 : Fin 3) ∈ gE.sKept by decide +kernel)]
    show 0 + 0 + x.val = x.val
    omega
  · unfold GatherDims.start GatherDims.offCoord
    rw [dif_neg (show (2 : Fin 3) ∉ gE.startIndexMap by decide +kernel), dif_pos (show (2 : Fin 3) ∈ gE.sKept by decide +kernel)]
    show 0 + 0 + o.val = o.val
    omega

/-! ## Indices in range -/

/-- A word below 128 is not wrapped, passes the range test, and is not clamped. -/
theorem in_range (w : BitVec 32) (h : w.toNat < 128) :
    Scalar.select (IntOp.cmpi .slt w 0#32) (IntOp.addi w 128#32) w = w
      ∧ IntOp.andi (IntOp.cmpi .sge w 0#32) (IntOp.cmpi .sle w 127#32) = 1#1 ∧ min w.toInt.toNat 127 = w.toNat % 128 := by
  have hi : w.toInt = w.toNat := BitVec.toInt_eq_toNat_of_lt (by omega)
  have h0 : w.slt 0#32 = false := by rw [BitVec.slt, hi]; simp
  have h1 : (0#32).sle w = true := by rw [BitVec.sle, hi]; simp
  have h2 : w.sle 127#32 = true := by rw [BitVec.sle, hi]; simp; omega
  refine ⟨?_, ?_, ?_⟩
  · unfold Scalar.select IntOp.cmpi
    simp only [h0]
    rfl
  · unfold IntOp.cmpi IntOp.andi
    simp only [h1, h2]
    rfl
  · rw [hi]; omega

theorem ref_apply (m : (ℓ : Loc nD τ sig) → Buf (Elt Ideal) ℓ) (c : Dev nD)
    (X : FVec Ideal S2048x512 .f32) (R : FVec Ideal S512x128 .f32) (I : IVec S2048x2 32) (W : FVec Ideal S128x512x1024 .f32)
    (h0 : m ((c.tc : Thread nD τ).loc main_arg0) = X) (h1 : m ((c.tc : Thread nD τ).loc main_arg1) = R)
    (h2 : m ((c.tc : Thread nD τ).loc main_arg2) = I) (h3 : m ((c.tc : Thread nD τ).loc main_arg3) = W)
    (hI : ∀ t k, (I (ix2 t k)).toNat < 128) (t : Fin 2048) (o : Fin 1024) :
    res_main_v40 m c (ix2 t o)
      = (gate X R I t 0 * answer X W t o (pick I t 0) + gate X R I t 1 * answer X W t o (pick I t 1) : EReal) := by
  unfold res_main_v40
  rw [h0, h1, h2, h3]
  pointwise []
  simp only [gather_prob, gather_expert]
  pointwise []
  obtain ⟨a0, b0, c0⟩ := in_range _ (hI t 0)
  obtain ⟨a1, b1, c1⟩ := in_range _ (hI t 1)
  have hf : Finset.fold IntOp.andi (1#1) (fun _ : Fin 1 => 1#1) Finset.univ = 1#1 := by decide
  have hs : ∀ a b : EReal, Scalar.select 1#1 a b = a := fun _ _ => rfl
  simp only [a0, b0, c0, a1, b1, c1, hf, hs]
  rfl

end Cert.ReferenceIdeal.Moe

end
-- ==== Proof.ValueClaim.lean ====
/-
What the precondition says of the arguments, and the kernel's result as the reference's.
-/
module

public import proofs.«01_k».proof.Defs
public import proofs.«01_k».proof.Proof.ValueRef
public import proofs.«01_k».proof.Proof.Frame

@[expose] public section

noncomputable section

namespace Cert.Proof

open Idealize.ShloMosaic Idealize.SL.Sem
open Cert.Router

/-- The shape relations the precondition states. -/
theorem facts_routed : Cert.Pre_routed_KernelIdeal.Facts := ⟨by decide, by decide, by decide⟩

/-- The same of the precondition over the reference's shapes. -/
theorem facts_routed_reference : Cert.Pre_routed_ReferenceIdeal.Facts := ⟨by decide, by decide, by decide⟩

/-- The bit pattern of infinity reads as the top of the extended reals. -/
theorem inf_bits : Ideal.ofBits .f32 0x7F800000#32 = (⊤ : EReal) := by simp [Ideal.ofBits, Ideal.ieee]

/-- An extended real of absolute value below the top is neither end. -/
theorem finite_of_abs {x : EReal} (h : max x (-x) < ⊤) : x ≠ ⊥ ∧ x ≠ ⊤ := by
  constructor <;> rintro rfl <;> simp at h

/-- A signed number in range is the natural number it writes. -/
theorem toNat_lt {b : BitVec 32} (h0 : (0#32).sle b = true) (h1 : b.slt 128#32 = true) : b.toNat < 128 := by
  simp only [BitVec.sle, BitVec.slt, decide_eq_true_eq] at h0 h1
  have e0 : (0#32 : BitVec 32).toInt = 0 := rfl
  have e1 : (128#32 : BitVec 32).toInt = 128 := rfl
  rw [e0] at h0; rw [e1] at h1
  rw [BitVec.toInt_eq_toNat_cond] at h0 h1
  split at h1 <;> omega

/-- One conjunct of the precondition on a float: the comparison's bit, read. -/
theorem finite_of_bit {x : Ideal .f32} (h : BitVec.ofBool (decide ((FloatOps.absf x : EReal) < Ideal.ofBits .f32 0x7F800000#32)) = 1#1) :
    (x : EReal) ≠ ⊥ ∧ (x : EReal) ≠ ⊤ := by
  rw [inf_bits] at h
  refine finite_of_abs (x := x) ?_
  by_contra hn
  have hd : decide ((FloatOps.absf x : EReal) < ⊤) = false := decide_eq_false hn
  rw [hd] at h
  exact absurd h (by decide)

/-- The conjunct of the precondition on an expert's number: the comparisons' bits, read. -/
theorem toNat_lt_of_bit {b : BitVec 32} (h : IntOp.andi (IntOp.cmpi CmpIPredicate.sge b 0#32) (IntOp.cmpi CmpIPredicate.slt b 128#32) = 1#1) : b.toNat < 128 := by
  refine toNat_lt ?_ ?_ <;> by_contra hn <;> rw [Bool.not_eq_true] at hn <;> revert h <;>
    simp [IntOp.andi, IntOp.cmpi, hn]

variable [Cert.Pre_routed_KernelIdeal.Facts]

/-- Under the precondition the activations and the router's weights are finite and the experts' numbers in range. -/
theorem routed_reads (X : FVec Ideal ⟨2, ![2048, 512]⟩ .f32) (R : FVec Ideal ⟨2, ![512, 128]⟩ .f32) (I : IVec ⟨2, ![2048, 2]⟩ 32)
    (W : FVec Ideal ⟨3, ![8, 512, 1024]⟩ .f32)
    (h : (Cert.Pre_routed_KernelIdeal.fn (F := Ideal) X R I W).1 = (fun _ => 1#1)
      ∧ (Cert.Pre_routed_KernelIdeal.fn (F := Ideal) X R I W).2.1 = (fun _ => 1#1)
      ∧ (Cert.Pre_routed_KernelIdeal.fn (F := Ideal) X R I W).2.2 = (fun _ => 1#1)) :
    (∀ i, (X i : EReal) ≠ ⊥ ∧ (X i : EReal) ≠ ⊤) ∧ (∀ i, (R i : EReal) ≠ ⊥ ∧ (R i : EReal) ≠ ⊤) ∧ ∀ t k, (I (ix2 t k)).toNat < 128 := by
  obtain ⟨hx, hr, hi⟩ := h
  refine ⟨fun i => ?_, fun i => ?_, fun t k => ?_⟩
  · have := congrFun hx i
    pointwise [Cert.Pre_routed_KernelIdeal.fn] at this
    exact finite_of_bit this
  · have := congrFun hr i
    pointwise [Cert.Pre_routed_KernelIdeal.fn] at this
    exact finite_of_bit this
  · have := congrFun hi (ix2 t k)
    pointwise [Cert.Pre_routed_KernelIdeal.fn] at this
    exact toNat_lt_of_bit this

/-- Block `c` of the experts holds experts `8 c` and up. -/
theorem block_expert (c : Fin 16) (W : FVec Ideal ⟨3, ![128, 512, 1024]⟩ .f32) (e : Fin 8) (d : Fin 512) (o : Fin 1024) :
    (Layout.block ⟨3, ![8, 512, 1024]⟩ ⟨3, ![128, 512, 1024]⟩ 0 16 c W : FVec Ideal ⟨3, ![8, 512, 1024]⟩ .f32) (ix3 e d o) = W (ix3 (Cert.KernelIdeal.Moe.expert c e) d o) := by
  rw [Layout.block_apply]
  refine congrArg W (funext fun b => Fin.ext ?_)
  match b with
  | ⟨0, _⟩ => show c.val * 8 + e.val = 8 * c.val + e.val; omega
  | ⟨1, _⟩ => rfl
  | ⟨2, _⟩ => rfl

/-- From arguments that are the reference's, and routed, the kernel's result is the reference's. -/
theorem results_agree (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hp : Cert.Pre_KernelIdeal_routed_KernelIdeal m)
    (X : FVec Ideal ⟨2, ![2048, 512]⟩ .f32) (R : FVec Ideal ⟨2, ![512, 128]⟩ .f32) (I : IVec ⟨2, ![2048, 2]⟩ 32) (W : FVec Ideal ⟨3, ![128, 512, 1024]⟩ .f32)
    (r0 : m' (((0 : Dev Cert.ReferenceIdeal.nD).tc : Thread Cert.ReferenceIdeal.nD Cert.ReferenceIdeal.τ).loc Cert.ReferenceIdeal.main_arg0) = X)
    (r1 : m' (((0 : Dev Cert.ReferenceIdeal.nD).tc : Thread Cert.ReferenceIdeal.nD Cert.ReferenceIdeal.τ).loc Cert.ReferenceIdeal.main_arg1) = R)
    (r2 : m' (((0 : Dev Cert.ReferenceIdeal.nD).tc : Thread Cert.ReferenceIdeal.nD Cert.ReferenceIdeal.τ).loc Cert.ReferenceIdeal.main_arg2) = I)
    (r3 : m' (((0 : Dev Cert.ReferenceIdeal.nD).tc : Thread Cert.ReferenceIdeal.nD Cert.ReferenceIdeal.τ).loc Cert.ReferenceIdeal.main_arg3) = W)
    (h0 : ∀ c : Dev Cert.KernelIdeal.nD, m ((c.tc : Thread Cert.KernelIdeal.nD Cert.KernelIdeal.τ).loc Cert.KernelIdeal.main_arg0) = X)
    (h1 : ∀ c : Dev Cert.KernelIdeal.nD, m ((c.tc : Thread Cert.KernelIdeal.nD Cert.KernelIdeal.τ).loc Cert.KernelIdeal.main_arg1) = R)
    (h2 : ∀ c : Dev Cert.KernelIdeal.nD, m ((c.tc : Thread Cert.KernelIdeal.nD Cert.KernelIdeal.τ).loc Cert.KernelIdeal.main_arg2) = I)
    (h3 : ∀ c : Dev Cert.KernelIdeal.nD, m ((c.tc : Thread Cert.KernelIdeal.nD Cert.KernelIdeal.τ).loc Cert.KernelIdeal.main_arg3)
      = Layout.block ⟨3, ![8, 512, 1024]⟩ ⟨3, ![128, 512, 1024]⟩ 0 16 c W) :
    Cert.KernelIdeal.Moe.res m ρ = Cert.ReferenceIdeal.Value.res_main_v40 m' 0 := by
  have hf := routed_reads _ _ _ _ (hp 0)
  rw [h0, h1, h2] at hf
  obtain ⟨hX, hR, hI⟩ := hf
  have key : ∀ (t : Fin 2048) (o : Fin 1024), Cert.KernelIdeal.Moe.res m ρ (ix2 t o) = Cert.ReferenceIdeal.Value.res_main_v40 m' 0 (ix2 t o) := fun t o =>
    (Cert.KernelIdeal.Moe.res_layer m ρ X R I W h0 h1 h2 (fun c e d o => (congrFun (h3 c) (ix3 e d o)).trans (block_expert c W e d o)) hI t o).trans
      ((layer X R I W hX hR t o).trans (Cert.ReferenceIdeal.Moe.ref_apply m' 0 X R I W r0 r1 r2 r3 hI t o).symm)
  funext i
  have hi : i = ix2 (i 0) (i 1) := by
    funext b
    match b with
    | ⟨0, _⟩ => rfl
    | ⟨1, _⟩ => rfl
  rw [hi]
  exact key (i 0) (i 1)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.OnBits.Frame
public import proofs.«01_k».proof.Proof.ValueClaim
public import Idealize.ShloMosaic.Adequacy
public import Idealize.ShloMosaic.Init

@[expose] public section

noncomputable section

namespace Cert.Proof

open Idealize.ShloMosaic Idealize.SL.Sem Cert.Kernel

/-- The kernel ends with its arguments as they were and every counter at zero. -/
theorem frame_kernel : Cert.quiescent_Kernel := fun m ρ _ => Cert.Kernel.Moe.frame_main m ρ

/-- The same over the extended reals. -/
theorem frame_ideal : Cert.quiescent_KernelIdeal := fun m ρ _ => Cert.KernelIdeal.Moe.frame_main m ρ

/-- The reference ends with its arguments as they were. -/
theorem frame_reference : Cert.quiescent_ReferenceIdeal := fun m ρ _ =>
  (θ_run Cert.ReferenceIdeal.defs _ _).mono (fun _ h => ⟨fun c => (h c).2, Idealize.ShloMosaic.sem_eq_zero_of_no_sems (by decide) _⟩) (Cert.ReferenceIdeal.Value.run m ρ)

/-- The kernel's frame again, under the precondition. -/
theorem frame_ideal_routed : Cert.quiescent_KernelIdeal_pre_routed_KernelIdeal (hPre_routed_KernelIdeal := facts_routed) :=
  fun m ρ _ => Cert.KernelIdeal.Moe.frame_main m ρ

/-- The reference's frame again, under the precondition. -/
theorem frame_reference_routed : Cert.quiescent_ReferenceIdeal_pre_routed_ReferenceIdeal (hPre_routed_ReferenceIdeal := facts_routed_reference) :=
  fun m ρ _ => frame_reference m ρ trivial

/-- Over the extended reals the kernel and the reference end with the same result. -/
theorem algebraic : Cert.algebraic_KernelIdeal_ReferenceIdeal_pre_routed_KernelIdeal (hPre_routed_KernelIdeal := facts_routed) :=
  fun m ρ m' ρ' hp h => by
    have e := @results_agree facts_routed m ρ m' hp _ _ _ _ rfl rfl rfl rfl (fun c => (h c).1) (fun c => (h c).2.1) (fun c => (h c).2.2.1) (fun c => (h c).2.2.2)
    exact ⟨Cert.ReferenceIdeal.Value.res_main_v40 m' 0,
      (θ_run Cert.KernelIdeal.defs _ _).mono (fun _ q c => ⟨(q c).1.trans e, (q c).2⟩) (Cert.KernelIdeal.Moe.value_main m ρ),
      (θ_run Cert.ReferenceIdeal.defs _ _).mono (fun _ q => q 0) (Cert.ReferenceIdeal.Value.run m' ρ')⟩

theorem claim : Cert.Claim := ⟨Cert.Kernel.Gen.facts, Cert.KernelIdeal.Gen.facts, Cert.ReferenceIdeal.Gen.facts, facts_routed, facts_routed_reference,
  frame_kernel, frame_ideal, frame_ideal_routed, frame_reference, frame_reference_routed, trivial, algebraic⟩

end Cert.Proof

end
